-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_below_infinity [hPre_below_infinity : Cert.Pre_below_infinity.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_below_infinity.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_below_infinity.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_below_infinity [hPre_below_infinity : Cert.Pre_below_infinity.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_below_infinity.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_below_infinity.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_no_infinite_factor [hPre_no_infinite_factor : Cert.Pre_no_infinite_factor.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_no_infinite_factor.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_no_infinite_factor.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_no_infinite_factor.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_no_infinite_factor.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_no_infinite_factor [hPre_no_infinite_factor : Cert.Pre_no_infinite_factor.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_no_infinite_factor.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_no_infinite_factor.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_no_infinite_factor.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_no_infinite_factor.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2 = (fun _ => 1#1)

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_below_infinity [hKernel6Ideal : Cert.Kernel6Ideal.Facts] [hPre_below_infinity : Cert.Pre_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_below_infinity m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_below_infinity [hReference6Ideal : Cert.Reference6Ideal.Facts] [hPre_below_infinity : Cert.Pre_below_infinity.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_below_infinity m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_no_infinite_factor [hKernel7Ideal : Cert.Kernel7Ideal.Facts] [hPre_no_infinite_factor : Cert.Pre_no_infinite_factor.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_no_infinite_factor m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_no_infinite_factor [hReference7Ideal : Cert.Reference7Ideal.Facts] [hPre_no_infinite_factor : Cert.Pre_no_infinite_factor.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_no_infinite_factor m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v22_0)) (v1 : (c : Dev Cert.Kernel4Ideal.nD) → Buf (Elt Ideal) ((c.tc : Thread Cert.Kernel4Ideal.nD Cert.Kernel4Ideal.τ).loc Cert.Kernel4Ideal.main_v22_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22_0) = v0 c
          ∧ r.2.mem ((c.tc : Thread Cert.Kernel4Ideal.nD Cert.Kernel4Ideal.τ).loc Cert.Kernel4Ideal.main_v22_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_below_infinity [hKernel6Ideal : Cert.Kernel6Ideal.Facts] [hReference6Ideal : Cert.Reference6Ideal.Facts] [hPre_below_infinity : Cert.Pre_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_below_infinity m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_no_infinite_factor [hKernel7Ideal : Cert.Kernel7Ideal.Facts] [hReference7Ideal : Cert.Reference7Ideal.Facts] [hPre_no_infinite_factor : Cert.Pre_no_infinite_factor.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_no_infinite_factor m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_in_range : Cert.Pre_experts_in_range.Facts) (hPre_below_infinity : Cert.Pre_below_infinity.Facts) (hPre_no_infinite_factor : Cert.Pre_no_infinite_factor.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_below_infinity (hKernel6Ideal := hKernel6Ideal) (hPre_below_infinity := hPre_below_infinity)
    ∧ quiescent_Reference6Ideal (hReference6Ideal := hReference6Ideal)
    ∧ quiescent_Reference6Ideal_pre_below_infinity (hReference6Ideal := hReference6Ideal) (hPre_below_infinity := hPre_below_infinity)
    ∧ quiescent_Kernel7 (hKernel7 := hKernel7)
    ∧ quiescent_Kernel7Ideal (hKernel7Ideal := hKernel7Ideal)
    ∧ quiescent_Kernel7Ideal_pre_no_infinite_factor (hKernel7Ideal := hKernel7Ideal) (hPre_no_infinite_factor := hPre_no_infinite_factor)
    ∧ quiescent_Reference7Ideal (hReference7Ideal := hReference7Ideal)
    ∧ quiescent_Reference7Ideal_pre_no_infinite_factor (hReference7Ideal := hReference7Ideal) (hPre_no_infinite_factor := hPre_no_infinite_factor)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_below_infinity (hKernel6Ideal := hKernel6Ideal) (hReference6Ideal := hReference6Ideal) (hPre_below_infinity := hPre_below_infinity)
    ∧ preserves_Kernel7_Kernel7Ideal
    ∧ algebraic_Kernel7Ideal_Reference7Ideal_pre_no_infinite_factor (hKernel7Ideal := hKernel7Ideal) (hReference7Ideal := hReference7Ideal) (hPre_no_infinite_factor := hPre_no_infinite_factor)
-- ==== Pre_below_infinity.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩

class Facts : Prop where
  bcast_S_S16x1024 : S_.BroadcastsInDim S16x1024 (![] : Fin 0 → Fin S16x1024.rank)
  slices_S2x1024x6144_S1x1024x6144_0_0_0 : S2x1024x6144.Slices ![0, 0, 0] S1x1024x6144
  shapeCasts_S1x1024x6144_S1024x6144 : S1x1024x6144.ShapeCasts S1024x6144
  bcast_S_S1024x6144 : S_.BroadcastsInDim S1024x6144 (![] : Fin 0 → Fin S1024x6144.rank)

variable [Facts]

def fn {F : FTy → Type} [FloatOps F] (main_arg0 : FVec F S16x1024 .f32) (main_arg1 : FVec F S2x1024x6144 .f32) (main_arg2 : FVec F S2x6144 .f32) : IVec S16x1024 1 × IVec S1024x6144 1 :=
  let main_cst : FVec F S_ .f32 := constant S_ .f32 0x7F800000#32
  let main_v0 : FVec F S16x1024 .f32 := broadcastInDim S16x1024 ![] bcast_S_S16x1024 main_cst
  let main_v1 : IVec S16x1024 1 := cmpf .olt main_arg0 main_v0
  let main_v2 : FVec F S1x1024x6144 .f32 := (extractStridedSlice S1x1024x6144 ![0, 0, 0] · slices_S2x1024x6144_S1x1024x6144_0_0_0) main_arg1
  let main_v3 : FVec F S1024x6144 .f32 := shapeCast S1024x6144 main_v2 shapeCasts_S1x1024x6144_S1024x6144
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v1, main_v5)
-- ==== Pre_experts_in_range.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : IVec S544 32) (main_arg1 : IVec S1 32) (main_arg2 : FVec F S1114112x128 .f32) (main_arg3 : FVec F S32x1024x2048 .f32) (main_arg4 : FVec F S32x2048 .f32) (main_arg5 : FVec F S32x1024x1024 .f32) (main_arg6 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  main_v4
-- ==== Pre_no_infinite_factor.lean ====
abbrev S2048x128 : Shape := ⟨2, ![2048, 128]⟩
abbrev S2048x512 : Shape := ⟨2, ![2048, 512]⟩
abbrev S2x33x64 : Shape := ⟨3, ![2, 33, 64]⟩
abbrev S2x64 : Shape := ⟨2, ![2, 64]⟩
abbrev S2x2x64x64 : Shape := ⟨4, ![2, 2, 64, 64]⟩
abbrev S2x2x64 : Shape := ⟨3, ![2, 2, 64]⟩
abbrev S2x64x2048 : Shape := ⟨3, ![2, 64, 2048]⟩
abbrev S2048x33 : Shape := ⟨2, ![2048, 33]⟩
abbrev S_ : Shape := ⟨0, ![]⟩
abbrev S1x33x64 : Shape := ⟨3, ![1, 33, 64]⟩
abbrev S33x64 : Shape := ⟨2, ![33, 64]⟩
abbrev S1x2x64x64 : Shape := ⟨4, ![1, 2, 64, 64]⟩
abbrev S2x64x64 : Shape := ⟨3, ![2, 64, 64]⟩
abbrev S1x64x2048 : Shape := ⟨3, ![1, 64, 2048]⟩
abbrev S64x2048 : Shape := ⟨2, ![64, 2048]⟩

class Facts : Prop where
  slices_S2048x128_S2048x33_0_0 : S2048x128.Slices ![0, 0] S2048x33
  bcast_S_S2048x33 : S_.BroadcastsInDim S2048x33 (![] : Fin 0 → Fin S2048x33.rank)
  slices_S2x33x64_S1x33x64_0_0_0 : S2x33x64.Slices ![0, 0, 0] S1x33x64
  shapeCasts_S1x33x64_S33x64 : S1x33x64.ShapeCasts S33x64
  bcast_S_S33x64 : S_.BroadcastsInDim S33x64 (![] : Fin 0 → Fin S33x64.rank)
  slices_S2x2x64x64_S1x2x64x64_0_0_0_0 : S2x2x64x64.Slices ![0, 0, 0, 0] S1x2x64x64
  shapeCasts_S1x2x64x64_S2x64x64 : S1x2x64x64.ShapeCasts S2x64x64
  bcast_S_S2x64x64 : S_.BroadcastsInDim S2x64x64 (![] : Fin 0 → Fin S2x64x64.rank)
  slices_S2x64x2048_S1x64x2048_0_0_0 : S2x64x2048.Slices ![0, 0, 0] S1x64x2048
  shapeCasts_S1x64x2048_S64x2048 : S1x64x2048.ShapeCasts S64x2048
  bcast_S_S64x2048 : S_.BroadcastsInDim S64x2048 (![] : Fin 0 → Fin S64x2048.rank)

variable [Facts]

def fn {F : FTy → Type} [FloatOps F] (main_arg0 : FVec F S2048x128 .f32) (main_arg1 : FVec F S2048x512 .f32) (main_arg2 : FVec F S2x33x64 .f32) (main_arg3 : FVec F S2x64 .f32) (main_arg4 : FVec F S2x2x64x64 .f32) (main_arg5 : FVec F S2x2x64 .f32) (main_arg6 : FVec F S2x64x2048 .f32) (main_arg7 : FVec F S2x64 .f32) : IVec S2048x33 1 × IVec S33x64 1 × IVec S2x64x64 1 × IVec S64x2048 1 :=
  let main_v0 : FVec F S2048x33 .f32 := (extractStridedSlice S2048x33 ![0, 0] · slices_S2048x128_S2048x33_0_0) main_arg0
  let main_cst : FVec F S_ .f32 := constant S_ .f32 0x7F800000#32
  let main_v1 : FVec F S2048x33 .f32 := broadcastInDim S2048x33 ![] bcast_S_S2048x33 main_cst
  let main_v2 : IVec S2048x33 1 := cmpf .olt main_v0 main_v1
  let main_v3 : FVec F S1x33x64 .f32 := (extractStridedSlice S1x33x64 ![0, 0, 0] · slices_S2x33x64_S1x33x64_0_0_0) main_arg2
  let main_v4 : FVec F S33x64 .f32 := shapeCast S33x64 main_v3 shapeCasts_S1x33x64_S33x64
  let main_cst_0 : FVec F S_ .f32 := constant S_ .f32 0x7F800000#32
  let main_v5 : FVec F S33x64 .f32 := broadcastInDim S33x64 ![] bcast_S_S33x64 main_cst_0
  let main_v6 : IVec S33x64 1 := cmpf .olt main_v4 main_v5
  let main_v7 : FVec F S1x2x64x64 .f32 := (extractStridedSlice S1x2x64x64 ![0, 0, 0, 0] · slices_S2x2x64x64_S1x2x64x64_0_0_0_0) main_arg4
  let main_v8 : FVec F S2x64x64 .f32 := shapeCast S2x64x64 main_v7 shapeCasts_S1x2x64x64_S2x64x64
  let main_cst_1 : FVec F S_ .f32 := constant S_ .f32 0x7F800000#32
  let main_v9 : FVec F S2x64x64 .f32 := broadcastInDim S2x64x64 ![] bcast_S_S2x64x64 main_cst_1
  let main_v10 : IVec S2x64x64 1 := cmpf .olt main_v8 main_v9
  let main_v11 : FVec F S1x64x2048 .f32 := (extractStridedSlice S1x64x2048 ![0, 0, 0] · slices_S2x64x2048_S1x64x2048_0_0_0) main_arg6
  let main_v12 : FVec F S64x2048 .f32 := shapeCast S64x2048 main_v11 shapeCasts_S1x64x2048_S64x2048
  let main_cst_2 : FVec F S_ .f32 := constant S_ .f32 0x7F800000#32
  let main_v13 : FVec F S64x2048 .f32 := broadcastInDim S64x2048 ![] bcast_S_S64x2048 main_cst_2
  let main_v14 : IVec S64x2048 1 := cmpf .olt main_v12 main_v13
  (main_v2, main_v6, main_v10, main_v14)
-- ==== Kernel.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S2048x128 : Shape := ⟨2, ![2048, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x128 : Shape := ⟨2, ![256, 128]⟩
abbrev S256x1024 : Shape := ⟨2, ![256, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S1114112x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S1114112x128, .f32⟩
  | .local _ .vmem, ⟨0, _⟩ => ⟨S2048x128, .f32⟩
  | .local _ .vmem, ⟨1, _⟩ => ⟨S2048x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S2048x128, .f32⟩
  | .local _ .vmem, ⟨11, _⟩ => ⟨S2048x128, .f32⟩
  | .local _ .smem, ⟨0, _⟩ => ⟨S544, .i32⟩
  | .local _ .smem, ⟨1, _⟩ => ⟨S1, .i32⟩
  | _, _ => ⟨S1114112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S1114112x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S544x256x1024, .f32⟩
  | .hbm, ⟨32, _⟩ => ⟨S_, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S544x256x1024, .f32⟩
  | .hbm, ⟨48, _⟩ => ⟨S_, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x256x1024, .i1⟩
  | .hbm, ⟨89, _⟩ => ⟨S544x256x1024, .f32⟩
  | .hbm, ⟨90, _⟩ => ⟨S544x256x1024, .f32⟩
  | .hbm, ⟨91, _⟩ => ⟨S1114112x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6x1024 : Shape := ⟨3, ![16, 6, 1024]⟩
abbrev S1024x7424 : Shape := ⟨2, ![1024, 7424]⟩
abbrev S1024x3072 : Shape := ⟨2, ![1024, 3072]⟩
abbrev S1024x2048 : Shape := ⟨2, ![1024, 2048]⟩
abbrev S1024x5120 : Shape := ⟨2, ![1024, 5120]⟩
abbrev S1024x256 : Shape := ⟨2, ![1024, 256]⟩
abbrev S1024x768 : Shape := ⟨2, ![1024, 768]⟩
abbrev S1x1024x768 : Shape := ⟨3, ![1, 1024, 768]⟩
abbrev S3x1024x768 : Shape := ⟨3, ![3, 1024, 768]⟩
abbrev S16x2048x5120 : Shape := ⟨3, ![16, 2048, 5120]⟩
abbrev S1x2048x1024 : Shape := ⟨3, ![1, 2048, 1024]⟩
abbrev S1x6x1024 : Shape := ⟨3, ![1, 6, 1024]⟩
abbrev S1024x512 : Shape := ⟨2, ![1024, 512]⟩
abbrev S1x2048x512 : Shape := ⟨3, ![1, 2048, 512]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S2048x1024 : Shape := ⟨2, ![2048, 1024]⟩
abbrev S2048x512 : Shape := ⟨2, ![2048, 512]⟩

abbrev nBuf : Space → Nat
  | .hbm => 25
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024x7424, .f32⟩
  | .hbm, ⟨3, _⟩ => ⟨S1024x7424, .bf16⟩
  | .hbm, ⟨4, _⟩ => ⟨S1024x3072, .bf16⟩
  | .hbm, ⟨5, _⟩ => ⟨S1024x2048, .bf16⟩
  | .hbm, ⟨6, _⟩ => ⟨S1024x5120, .bf16⟩
  | .hbm, ⟨7, _⟩ => ⟨S1024x256, .bf16⟩
  | .hbm, ⟨8, _⟩ => ⟨S1024x256, .bf16⟩
  | .hbm, ⟨9, _⟩ => ⟨S1024x256, .bf16⟩
  | .hbm, ⟨10, _⟩ => ⟨S1024x768, .bf16⟩
  | .hbm, ⟨11, _⟩ => ⟨S1024x256, .bf16⟩
  | .hbm, ⟨12, _⟩ => ⟨S1024x256, .bf16⟩
  | .hbm, ⟨13, _⟩ => ⟨S1024x256, .bf16⟩
  | .hbm, ⟨14, _⟩ => ⟨S1024x768, .bf16⟩
  | .hbm, ⟨15, _⟩ => ⟨S1024x256, .bf16⟩
  | .hbm, ⟨16, _⟩ => ⟨S1024x256, .bf16⟩
  | .hbm, ⟨17, _⟩ => ⟨S1024x256, .bf16⟩
  | .hbm, ⟨18, _⟩ => ⟨S1024x768, .bf16⟩
  | .hbm, ⟨19, _⟩ => ⟨S1x1024x768, .bf16⟩
  | .hbm, ⟨20, _⟩ => ⟨S1x1024x768, .bf16⟩
  | .hbm, ⟨21, _⟩ => ⟨S1x1024x768, .bf16⟩
  | .hbm, ⟨22, _⟩ => ⟨S3x1024x768, .bf16⟩
  | .hbm, ⟨23, _⟩ => ⟨S16x2048x5120, .bf16⟩
  | .hbm, ⟨24, _⟩ => ⟨S16x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x512, .bf16⟩
  | .local _ .vmem, ⟨5, _⟩ => ⟨S1024x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x1024, .bf16⟩
  | .local _ .vmem, ⟨9, _⟩ => ⟨S1x2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20_0 : Ref sig .tc := ⟨.hbm, 23, rfl⟩
abbrev main_v20_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c8_i32 : BitVec 32 := 8#32
  let v18 : BitVec 32 := Scalar.addi c0_i32_14 c8_i32
  let c1_i32 : BitVec 32 := 1#32
  ⟨c0_i32_14, v18, c1_i32⟩
def k0_mult1 (k0_t1 : Fin k0_t1_loop.trips) : BitVec 32 :=
  let c0_i32_14 : BitVec 32 := 0#32
  let c1_i32 : BitVec 32 := 1#32
  let arg7 : BitVec 32 := Scf.iv c0_i32_14 c1_i32 k0_t1
  let c256_i32 : BitVec 32 := 256#32
  let v19 : BitVec 32 := Scalar.muli arg7 c256_i32
  v19
def k0_off1 (k0_t1 : Fin k0_t1_loop.trips) : Fin 3 → Nat :=
  let c0_16 : Index := 0#32
  let c0_i32_14 : BitVec 32 := 0#32
  let c1_i32 : BitVec 32 := 1#32
  let arg7 : BitVec 32 := Scf.iv c0_i32_14 c1_i32 k0_t1
  let c256_i32 : BitVec 32 := 256#32
  let v19 : BitVec 32 := Scalar.muli arg7 c256_i32
  let v20 : BitVec 32 := v19
  let v21 : Index := Scalar.indexCast v20
  let c0_17 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16x2048x1024 : Shape := ⟨3, ![16, 2048, 1024]⟩
abbrev S16x6x1024 : Shape := ⟨3, ![16, 6, 1024]⟩
abbrev S1024x7424 : Shape := ⟨2, ![1024, 7424]⟩
abbrev S16x1x1024 : Shape := ⟨3, ![16, 1, 1024]⟩
abbrev S16x1024 : Shape := ⟨2, ![16, 1024]⟩
abbrev S_ : Shape := ⟨0, ![]⟩
abbrev S16x2048x7424 : Shape := ⟨3, ![16, 2048, 7424]⟩
abbrev S16x2048x2048 : Shape := ⟨3, ![16, 2048, 2048]⟩
abbrev S16x2048x3072 : Shape := ⟨3, ![16, 2048, 3072]⟩
abbrev S16x2048x5120 : Shape := ⟨3, ![16, 2048, 5120]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024x7424, .f32⟩
  | .hbm, ⟨3, _⟩ => ⟨S16x1x1024, .f32⟩
  | .hbm, ⟨4, _⟩ => ⟨S16x1024, .f32⟩
  | .hbm, ⟨5, _⟩ => ⟨S16x1x1024, .f32⟩
  | .hbm, ⟨6, _⟩ => ⟨S16x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x7424, .f32⟩
  | .hbm, ⟨17, _⟩ => ⟨S16x2048x2048, .f32⟩
  | .hbm, ⟨18, _⟩ => ⟨S16x2048x3072, .f32⟩
  | .hbm, ⟨19, _⟩ => ⟨S16x2048x5120, .f32⟩
  | .hbm, ⟨20, _⟩ => ⟨S16x2048x5120, .bf16⟩
  | .hbm, ⟨21, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x7424 : Shape := ⟨2, ![1024, 7424]⟩
abbrev S1024x3072 : Shape := ⟨2, ![1024, 3072]⟩
abbrev S1024x2048 : Shape := ⟨2, ![1024, 2048]⟩
abbrev S1024x5120 : Shape := ⟨2, ![1024, 5120]⟩
abbrev S1024x256 : Shape := ⟨2, ![1024, 256]⟩
abbrev S1024x768 : Shape := ⟨2, ![1024, 768]⟩
abbrev S1x1024x768 : Shape := ⟨3, ![1, 1024, 768]⟩
abbrev S3x1024x768 : Shape := ⟨3, ![3, 1024, 768]⟩
abbrev S16x1x2048x768 : Shape := ⟨4, ![16, 1, 2048, 768]⟩
abbrev S16x4x512x768 : Shape := ⟨4, ![16, 4, 512, 768]⟩
abbrev S16x16x128x768 : Shape := ⟨4, ![16, 16, 128, 768]⟩
abbrev S1x2048x1024 : Shape := ⟨3, ![1, 2048, 1024]⟩
abbrev S1x1x2048x768 : Shape := ⟨4, ![1, 1, 2048, 768]⟩
abbrev S1x4x512x768 : Shape := ⟨4, ![1, 4, 512, 768]⟩
abbrev S1x16x128x768 : Shape := ⟨4, ![1, 16, 128, 768]⟩
abbrev S6x2048x128 : Shape := ⟨3, ![6, 2048, 128]⟩
abbrev S2048x1024 : Shape := ⟨2, ![2048, 1024]⟩
abbrev S2048x768 : Shape := ⟨2, ![2048, 768]⟩
abbrev S2048x128 : Shape := ⟨2, ![2048, 128]⟩
abbrev S1x2048x128 : Shape := ⟨3, ![1, 2048, 128]⟩
abbrev S1x512x128 : Shape := ⟨3, ![1, 512, 128]⟩
abbrev S512x128 : Shape := ⟨2, ![512, 128]⟩
abbrev S1x1x512x128 : Shape := ⟨4, ![1, 1, 512, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 25
  | .vmem => 10
  | .smem => 0
  | _ => 0

abbrev bufTy : (tb : Table) → Fin (tcTables nBuf tb) → BufTy
  | .hbm, ⟨0, _⟩ => ⟨S16x2048x1024, .bf16⟩
  | .hbm, ⟨1, _⟩ => ⟨S1024x7424, .f32⟩
  | .hbm, ⟨2, _⟩ => ⟨S1024x7424, .bf16⟩
  | .hbm, ⟨3, _⟩ => ⟨S1024x3072, .bf16⟩
  | .hbm, ⟨4, _⟩ => ⟨S1024x2048, .bf16⟩
  | .hbm, ⟨5, _⟩ => ⟨S1024x5120, .bf16⟩
  | .hbm, ⟨6, _⟩ => ⟨S1024x256, .bf16⟩
  | .hbm, ⟨7, _⟩ => ⟨S1024x256, .bf16⟩
  | .hbm, ⟨8, _⟩ => ⟨S1024x256, .bf16⟩
  | .hbm, ⟨9, _⟩ => ⟨S1024x768, .bf16⟩
  | .hbm, ⟨10, _⟩ => ⟨S1024x256, .bf16⟩
  | .hbm, ⟨11, _⟩ => ⟨S1024x256, .bf16⟩
  | .hbm, ⟨12, _⟩ => ⟨S1024x256, .bf16⟩
  | .hbm, ⟨13, _⟩ => ⟨S1024x768, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x768, .bf16⟩
  | .hbm, ⟨18, _⟩ => ⟨S1x1024x768, .bf16⟩
  | .hbm, ⟨19, _⟩ => ⟨S1x1024x768, .bf16⟩
  | .hbm, ⟨20, _⟩ => ⟨S1x1024x768, .bf16⟩
  | .hbm, ⟨21, _⟩ => ⟨S3x1024x768, .bf16⟩
  | .hbm, ⟨22, _⟩ => ⟨S16x1x2048x768, .bf16⟩
  | .hbm, ⟨23, _⟩ => ⟨S16x4x512x768, .bf16⟩
  | .hbm, ⟨24, _⟩ => ⟨S16x16x128x768, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S3x1024x768, .bf16⟩
  | .local _ .vmem, ⟨3, _⟩ => ⟨S1x1x2048x768, .bf16⟩
  | .local _ .vmem, ⟨4, _⟩ => ⟨S1x1x2048x768, .bf16⟩
  | .local _ .vmem, ⟨5, _⟩ => ⟨S1x4x512x768, .bf16⟩
  | .local _ .vmem, ⟨6, _⟩ => ⟨S1x4x512x768, .bf16⟩
  | .local _ .vmem, ⟨7, _⟩ => ⟨S1x16x128x768, .bf16⟩
  | .local _ .vmem, ⟨8, _⟩ => ⟨S1x16x128x768, .bf16⟩
  | .local _ .vmem, ⟨9, _⟩ => ⟨S6x2048x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20_0 : Ref sig .tc := ⟨.hbm, 22, rfl⟩
abbrev main_v20_1 : Ref sig .tc := ⟨.hbm, 23, rfl⟩
abbrev main_v20_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x2048x1024 : Shape := ⟨3, ![16, 2048, 1024]⟩
abbrev S1024x7424 : Shape := ⟨2, ![1024, 7424]⟩
abbrev S16x2048x7424 : Shape := ⟨3, ![16, 2048, 7424]⟩
abbrev S16x2048x768 : Shape := ⟨3, ![16, 2048, 768]⟩
abbrev S16x2048x256 : Shape := ⟨3, ![16, 2048, 256]⟩
abbrev S16x2048x1x768 : Shape := ⟨4, ![16, 2048, 1, 768]⟩
abbrev S16x1x2048x768 : Shape := ⟨4, ![16, 1, 2048, 768]⟩
abbrev S16x512x4x768 : Shape := ⟨4, ![16, 512, 4, 768]⟩
abbrev S16x4x512x768 : Shape := ⟨4, ![16, 4, 512, 768]⟩
abbrev S16x128x16x768 : Shape := ⟨4, ![16, 128, 16, 768]⟩
abbrev S16x16x128x768 : Shape := ⟨4, ![16, 16, 128, 768]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x7424, .f32⟩
  | .hbm, ⟨2, _⟩ => ⟨S16x2048x1024, .f32⟩
  | .hbm, ⟨3, _⟩ => ⟨S16x2048x7424, .f32⟩
  | .hbm, ⟨4, _⟩ => ⟨S16x2048x768, .f32⟩
  | .hbm, ⟨5, _⟩ => ⟨S16x2048x768, .f32⟩
  | .hbm, ⟨6, _⟩ => ⟨S16x2048x768, .f32⟩
  | .hbm, ⟨7, _⟩ => ⟨S16x2048x256, .f32⟩
  | .hbm, ⟨8, _⟩ => ⟨S16x2048x256, .f32⟩
  | .hbm, ⟨9, _⟩ => ⟨S16x2048x256, .f32⟩
  | .hbm, ⟨10, _⟩ => ⟨S16x2048x768, .f32⟩
  | .hbm, ⟨11, _⟩ => ⟨S16x2048x1x768, .f32⟩
  | .hbm, ⟨12, _⟩ => ⟨S16x1x2048x768, .f32⟩
  | .hbm, ⟨13, _⟩ => ⟨S16x1x2048x768, .bf16⟩
  | .hbm, ⟨14, _⟩ => ⟨S16x2048x256, .f32⟩
  | .hbm, ⟨15, _⟩ => ⟨S16x2048x256, .f32⟩
  | .hbm, ⟨16, _⟩ => ⟨S16x2048x256, .f32⟩
  | .hbm, ⟨17, _⟩ => ⟨S16x2048x768, .f32⟩
  | .hbm, ⟨18, _⟩ => ⟨S16x512x4x768, .f32⟩
  | .hbm, ⟨19, _⟩ => ⟨S16x4x512x768, .f32⟩
  | .hbm, ⟨20, _⟩ => ⟨S16x4x512x768, .bf16⟩
  | .hbm, ⟨21, _⟩ => ⟨S16x2048x256, .f32⟩
  | .hbm, ⟨22, _⟩ => ⟨S16x2048x256, .f32⟩
  | .hbm, ⟨23, _⟩ => ⟨S16x2048x256, .f32⟩
  | .hbm, ⟨24, _⟩ => ⟨S16x2048x768, .f32⟩
  | .hbm, ⟨25, _⟩ => ⟨S16x128x16x768, .f32⟩
  | .hbm, ⟨26, _⟩ => ⟨S16x16x128x768, .f32⟩
  | .hbm, ⟨27, _⟩ => ⟨S16x16x128x768, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩

abbrev nD : Nat := 1
abbrev τ : Topo := Topo.v7x

variable {F : FTy → Type} [FloatOps F]
-- ==== Kernel4.lean ====
abbrev S16x2048x256 : Shape := ⟨3, ![16, 2048, 256]⟩
abbrev S16x2048x512 : Shape := ⟨3, ![16, 2048, 512]⟩
abbrev S16x2048x5120 : Shape := ⟨3, ![16, 2048, 5120]⟩
abbrev S16x2048x1024 : Shape := ⟨3, ![16, 2048, 1024]⟩
abbrev S16x6x1024 : Shape := ⟨3, ![16, 6, 1024]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S_ : Shape := ⟨0, ![]⟩
abbrev S1024x128 : Shape := ⟨2, ![1024, 128]⟩
abbrev S1x1024x32 : Shape := ⟨3, ![1, 1024, 32]⟩
abbrev S1024x32 : Shape := ⟨2, ![1024, 32]⟩
abbrev S1 : Shape := ⟨1, ![1]⟩
abbrev S1x128 : Shape := ⟨2, ![1, 128]⟩
abbrev S1x32 : Shape := ⟨2, ![1, 32]⟩
abbrev S32 : Shape := ⟨1, ![32]⟩
abbrev S2x1x1024 : Shape := ⟨3, ![2, 1, 1024]⟩
abbrev S32768x256 : Shape := ⟨2, ![32768, 256]⟩
abbrev S32768x512 : Shape := ⟨2, ![32768, 512]⟩
abbrev S32768x5120 : Shape := ⟨2, ![32768, 5120]⟩
abbrev S32768x1024 : Shape := ⟨2, ![32768, 1024]⟩
abbrev S262144x128 : Shape := ⟨2, ![262144, 128]⟩
abbrev S32x32768 : Shape := ⟨2, ![32, 32768]⟩
abbrev S512x256 : Shape := ⟨2, ![512, 256]⟩
abbrev S512x512 : Shape := ⟨2, ![512, 512]⟩
abbrev S512x3072 : Shape := ⟨2, ![512, 3072]⟩
abbrev S512x1024 : Shape := ⟨2, ![512, 1024]⟩
abbrev S1x6x1024 : Shape := ⟨3, ![1, 6, 1024]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S4096x128 : Shape := ⟨2, ![4096, 128]⟩
abbrev S32x512 : Shape := ⟨2, ![32, 512]⟩
abbrev S256x1024 : Shape := ⟨2, ![256, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 43
  | .vmem => 26
  | .smem => 0
  | _ => 0

abbrev bufTy : (tb : Table) → Fin (tcTables nBuf tb) → BufTy
  | .hbm, ⟨0, _⟩ => ⟨S16x2048x256, .bf16⟩
  | .hbm, ⟨1, _⟩ => ⟨S16x2048x512, .bf16⟩
  | .hbm, ⟨2, _⟩ => ⟨S16x2048x512, .bf16⟩
  | .hbm, ⟨3, _⟩ => ⟨S16x2048x5120, .bf16⟩
  | .hbm, ⟨4, _⟩ => ⟨S16x2048x1024, .f32⟩
  | .hbm, ⟨5, _⟩ => ⟨S16x6x1024, .f32⟩
  | .hbm, ⟨6, _⟩ => ⟨S2x256x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024, .f32⟩
  | .hbm, ⟨12, _⟩ => ⟨S2x1024x32, .f32⟩
  | .hbm, ⟨13, _⟩ => ⟨S2x32, .f32⟩
  | .hbm, ⟨14, _⟩ => ⟨S2x256x1024, .bf16⟩
  | .hbm, ⟨15, _⟩ => ⟨S2x512x1024, .bf16⟩
  | .hbm, ⟨16, _⟩ => ⟨S2x512x1024, .bf16⟩
  | .hbm, ⟨17, _⟩ => ⟨S2x1024x1024, .bf16⟩
  | .hbm, ⟨18, _⟩ => ⟨S_, .f32⟩
  | .hbm, ⟨19, _⟩ => ⟨S1024x128, .f32⟩
  | .hbm, ⟨20, _⟩ => ⟨S1x1024x32, .f32⟩
  | .hbm, ⟨21, _⟩ => ⟨S1024x32, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S_, .f32⟩
  | .hbm, ⟨26, _⟩ => ⟨S1x128, .f32⟩
  | .hbm, ⟨27, _⟩ => ⟨S1x32, .f32⟩
  | .hbm, ⟨28, _⟩ => ⟨S32, .f32⟩
  | .hbm, ⟨29, _⟩ => ⟨S1x32, .f32⟩
  | .hbm, ⟨30, _⟩ => ⟨S_, .i32⟩
  | .hbm, ⟨31, _⟩ => ⟨S1, .i32⟩
  | .hbm, ⟨32, _⟩ => ⟨S1x128, .f32⟩
  | .hbm, ⟨33, _⟩ => ⟨S2x1x1024, .f32⟩
  | .hbm, ⟨34, _⟩ => ⟨S2x1x1024, .f32⟩
  | .hbm, ⟨35, _⟩ => ⟨S32768x256, .bf16⟩
  | .hbm, ⟨36, _⟩ => ⟨S32768x512, .bf16⟩
  | .hbm, ⟨37, _⟩ => ⟨S32768x512, .bf16⟩
  | .hbm, ⟨38, _⟩ => ⟨S32768x5120, .bf16⟩
  | .hbm, ⟨39, _⟩ => ⟨S32768x1024, .f32⟩
  | .hbm, ⟨40, _⟩ => ⟨S32768x1024, .f32⟩
  | .hbm, ⟨41, _⟩ => ⟨S262144x128, .f32⟩
  | .hbm, ⟨42, _⟩ => ⟨S32x32768, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x256x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1024x128, .f32⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S4096x128, .f32⟩
  | .local _ .vmem, ⟨23, _⟩ => ⟨S4096x128, .f32⟩
  | .local _ .vmem, ⟨24, _⟩ => ⟨S32x512, .f32⟩
  | .local _ .vmem, ⟨25, _⟩ => ⟨S32x512, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16x2048x256 : Shape := ⟨3, ![16, 2048, 256]⟩
abbrev S16x2048x512 : Shape := ⟨3, ![16, 2048, 512]⟩
abbrev S16x2048x5120 : Shape := ⟨3, ![16, 2048, 5120]⟩
abbrev S16x2048x1024 : Shape := ⟨3, ![16, 2048, 1024]⟩
abbrev S16x6x1024 : Shape := ⟨3, ![16, 6, 1024]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x32 : Shape := ⟨3, ![2, 1024, 32]⟩
abbrev S2x32 : Shape := ⟨2, ![2, 32]⟩
abbrev S16x1x1024 : Shape := ⟨3, ![16, 1, 1024]⟩
abbrev S16x1024 : Shape := ⟨2, ![16, 1024]⟩
abbrev S16x2048x3072 : Shape := ⟨3, ![16, 2048, 3072]⟩
abbrev S_ : Shape := ⟨0, ![]⟩
abbrev S16x2048x3x1024 : Shape := ⟨4, ![16, 2048, 3, 1024]⟩
abbrev S16x2048x1x1024 : Shape := ⟨4, ![16, 2048, 1, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩
abbrev S262144x128 : Shape := ⟨2, ![262144, 128]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x512, .bf16⟩
  | .hbm, ⟨2, _⟩ => ⟨S16x2048x512, .bf16⟩
  | .hbm, ⟨3, _⟩ => ⟨S16x2048x5120, .bf16⟩
  | .hbm, ⟨4, _⟩ => ⟨S16x2048x1024, .f32⟩
  | .hbm, ⟨5, _⟩ => ⟨S16x6x1024, .f32⟩
  | .hbm, ⟨6, _⟩ => ⟨S2x256x1024, .f32⟩
  | .hbm, ⟨7, _⟩ => ⟨S2x512x1024, .f32⟩
  | .hbm, ⟨8, _⟩ => ⟨S2x512x1024, .f32⟩
  | .hbm, ⟨9, _⟩ => ⟨S2x1024x1024, .f32⟩
  | .hbm, ⟨10, _⟩ => ⟨S2x1024, .f32⟩
  | .hbm, ⟨11, _⟩ => ⟨S2x1024, .f32⟩
  | .hbm, ⟨12, _⟩ => ⟨S2x1024x32, .f32⟩
  | .hbm, ⟨13, _⟩ => ⟨S2x32, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1024, .f32⟩
  | .hbm, ⟨19, _⟩ => ⟨S16x1x1024, .f32⟩
  | .hbm, ⟨20, _⟩ => ⟨S16x1x1024, .f32⟩
  | .hbm, ⟨21, _⟩ => ⟨S16x1024, .f32⟩
  | .hbm, ⟨22, _⟩ => ⟨S16x1x1024, .f32⟩
  | .hbm, ⟨23, _⟩ => ⟨S16x2048x3072, .bf16⟩
  | .hbm, ⟨24, _⟩ => ⟨S16x2048x3072, .f32⟩
  | .hbm, ⟨25, _⟩ => ⟨S16x2048x3072, .f32⟩
  | .hbm, ⟨26, _⟩ => ⟨S16x2048x3072, .f32⟩
  | .hbm, ⟨27, _⟩ => ⟨S_, .f32⟩
  | .hbm, ⟨28, _⟩ => ⟨S16x2048x3072, .f32⟩
  | .hbm, ⟨29, _⟩ => ⟨S16x2048x3072, .f32⟩
  | .hbm, ⟨30, _⟩ => ⟨S_, .f32⟩
  | .hbm, ⟨31, _⟩ => ⟨S16x2048x3072, .f32⟩
  | .hbm, ⟨32, _⟩ => ⟨S16x2048x3072, .f32⟩
  | .hbm, ⟨33, _⟩ => ⟨S16x2048x3x1024, .f32⟩
  | .hbm, ⟨34, _⟩ => ⟨S16x2048x256, .f32⟩
  | .hbm, ⟨35, _⟩ => ⟨S16x2048x512, .f32⟩
  | .hbm, ⟨36, _⟩ => ⟨S16x2048x512, .f32⟩
  | .hbm, ⟨37, _⟩ => ⟨S16x2048x1x1024, .f32⟩
  | .hbm, ⟨38, _⟩ => ⟨S16x2048x1024, .f32⟩
  | .hbm, ⟨39, _⟩ => ⟨S1x256x1024, .f32⟩
  | .hbm, ⟨40, _⟩ => ⟨S256x1024, .f32⟩
  | .hbm, ⟨41, _⟩ => ⟨S16x2048x1024, .f32⟩
  | .hbm, ⟨42, _⟩ => ⟨S16x2048x1024, .f32⟩
  | .hbm, ⟨43, _⟩ => ⟨S16x2048x1x1024, .f32⟩
  | .hbm, ⟨44, _⟩ => ⟨S16x2048x1024, .f32⟩
  | .hbm, ⟨45, _⟩ => ⟨S1x512x1024, .f32⟩
  | .hbm, ⟨46, _⟩ => ⟨S512x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1x1024, .f32⟩
  | .hbm, ⟨51, _⟩ => ⟨S16x2048x1024, .f32⟩
  | .hbm, ⟨52, _⟩ => ⟨S1x512x1024, .f32⟩
  | .hbm, ⟨53, _⟩ => ⟨S512x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S1x1024x1024, .f32⟩
  | .hbm, ⟨58, _⟩ => ⟨S1024x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x1x1024, .f32⟩
  | .hbm, ⟨65, _⟩ => ⟨S16x1x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S1x1024, .f32⟩
  | .hbm, ⟨93, _⟩ => ⟨S1024, .f32⟩
  | .hbm, ⟨94, _⟩ => ⟨S1x1x1024, .f32⟩
  | .hbm, ⟨95, _⟩ => ⟨S16x2048x1024, .f32⟩
  | .hbm, ⟨96, _⟩ => ⟨S16x2048x1024, .f32⟩
  | .hbm, ⟨97, _⟩ => ⟨S1x1024, .f32⟩
  | .hbm, ⟨98, _⟩ => ⟨S1024, .f32⟩
  | .hbm, ⟨99, _⟩ => ⟨S1x1x1024, .f32⟩
  | .hbm, ⟨100, _⟩ => ⟨S16x2048x1024, .f32⟩
  | .hbm, ⟨101, _⟩ => ⟨S16x2048x1024, .f32⟩
  | .hbm, ⟨102, _⟩ => ⟨S_, .f32⟩
  | .hbm, ⟨103, _⟩ => ⟨S16x1x1024, .f32⟩
  | .hbm, ⟨104, _⟩ => ⟨S16x1x1024, .f32⟩
  | .hbm, ⟨105, _⟩ => ⟨S16x2048x1024, .f32⟩
  | .hbm, ⟨106, _⟩ => ⟨S16x2048x1024, .f32⟩
  | .hbm, ⟨107, _⟩ => ⟨S16x2048x1024, .f32⟩
  | .hbm, ⟨108, _⟩ => ⟨S16x2048x1024, .f32⟩
  | .hbm, ⟨109, _⟩ => ⟨S32768x1024, .f32⟩
  | .hbm, ⟨110, _⟩ => ⟨S262144x128, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_cst_2 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel5.lean ====
abbrev S16x2048x5120 : Shape := ⟨3, ![16, 2048, 5120]⟩
abbrev S2x4x128x128 : Shape := ⟨4, ![2, 4, 128, 128]⟩
abbrev S2x512 : Shape := ⟨2, ![2, 512]⟩
abbrev S2x1x512 : Shape := ⟨3, ![2, 1, 512]⟩
abbrev S16x2048x512 : Shape := ⟨3, ![16, 2048, 512]⟩
abbrev S1x2048x512 : Shape := ⟨3, ![1, 2048, 512]⟩
abbrev S1x4x128x128 : Shape := ⟨4, ![1, 4, 128, 128]⟩
abbrev S1x1x512 : Shape := ⟨3, ![1, 1, 512]⟩
abbrev S2064x512 : Shape := ⟨2, ![2064, 512]⟩
abbrev S8x512 : Shape := ⟨2, ![8, 512]⟩
abbrev S2048x512 : Shape := ⟨2, ![2048, 512]⟩
abbrev S256x1 : Shape := ⟨2, ![256, 1]⟩
abbrev S256x128 : Shape := ⟨2, ![256, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S1x256x128 : Shape := ⟨3, ![1, 256, 128]⟩

abbrev nBuf : Space → Nat
  | .hbm => 5
  | .vmem => 7
  | .smem => 0
  | _ => 0

abbrev bufTy : (tb : Table) → Fin (tcTables nBuf tb) → BufTy
  | .hbm, ⟨0, _⟩ => ⟨S16x2048x5120, .bf16⟩
  | .hbm, ⟨1, _⟩ => ⟨S2x4x128x128, .f32⟩
  | .hbm, ⟨2, _⟩ => ⟨S2x512, .f32⟩
  | .hbm, ⟨3, _⟩ => ⟨S2x1x512, .f32⟩
  | .hbm, ⟨4, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x4x128x128, .f32⟩
  | .local _ .vmem, ⟨3, _⟩ => ⟨S1x1x512, .f32⟩
  | .local _ .vmem, ⟨4, _⟩ => ⟨S1x2048x512, .bf16⟩
  | .local _ .vmem, ⟨5, _⟩ => ⟨S1x2048x512, .bf16⟩
  | .local _ .vmem, ⟨6, _⟩ => ⟨S2064x512, .f32⟩
  | _, _ => ⟨S16x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x2048x5120 : Shape := ⟨3, ![16, 2048, 5120]⟩
abbrev S2x4x128x128 : Shape := ⟨4, ![2, 4, 128, 128]⟩
abbrev S2x512 : Shape := ⟨2, ![2, 512]⟩
abbrev S16x2048x512 : Shape := ⟨3, ![16, 2048, 512]⟩
abbrev S16x2048x4x128 : Shape := ⟨4, ![16, 2048, 4, 128]⟩
abbrev S2048 : Shape := ⟨1, ![2048]⟩
abbrev S4 : Shape := ⟨1, ![4]⟩
abbrev S_ : Shape := ⟨0, ![]⟩
abbrev S2048x1 : Shape := ⟨2, ![2048, 1]⟩
abbrev S1x4 : Shape := ⟨2, ![1, 4]⟩
abbrev S2048x4 : Shape := ⟨2, ![2048, 4]⟩
abbrev S2048x1x4 : Shape := ⟨3, ![2048, 1, 4]⟩
abbrev S1x2048x1 : Shape := ⟨3, ![1, 2048, 1]⟩
abbrev S2048x2048x4 : Shape := ⟨3, ![2048, 2048, 4]⟩
abbrev S4x16x128x2048 : Shape := ⟨4, ![4, 16, 128, 2048]⟩
abbrev S1x2048x4x1 : Shape := ⟨4, ![1, 2048, 4, 1]⟩
abbrev S1x4x128x128 : Shape := ⟨4, ![1, 4, 128, 128]⟩
abbrev S4x128x128 : Shape := ⟨3, ![4, 128, 128]⟩
abbrev S4x128x16x2048 : Shape := ⟨4, ![4, 128, 16, 2048]⟩
abbrev S1x512 : Shape := ⟨2, ![1, 512]⟩
abbrev S512 : Shape := ⟨1, ![512]⟩
abbrev S1x1x512 : Shape := ⟨3, ![1, 1, 512]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x5120, .bf16⟩
  | .hbm, ⟨1, _⟩ => ⟨S2x4x128x128, .f32⟩
  | .hbm, ⟨2, _⟩ => ⟨S2x512, .f32⟩
  | .hbm, ⟨3, _⟩ => ⟨S16x2048x512, .bf16⟩
  | .hbm, ⟨4, _⟩ => ⟨S16x2048x512, .f32⟩
  | .hbm, ⟨5, _⟩ => ⟨S16x2048x4x128, .f32⟩
  | .hbm, ⟨6, _⟩ => ⟨S2048, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S2048x1, .i32⟩
  | .hbm, ⟨12, _⟩ => ⟨S1x4, .i32⟩
  | .hbm, ⟨13, _⟩ => ⟨S2048x4, .i32⟩
  | .hbm, ⟨14, _⟩ => ⟨S2048x4, .i32⟩
  | .hbm, ⟨15, _⟩ => ⟨S2048x4, .i32⟩
  | .hbm, ⟨16, _⟩ => ⟨S_, .i32⟩
  | .hbm, ⟨17, _⟩ => ⟨S2048x4, .i32⟩
  | .hbm, ⟨18, _⟩ => ⟨S2048x4, .i32⟩
  | .hbm, ⟨19, _⟩ => ⟨S2048x1, .i32⟩
  | .hbm, ⟨20, _⟩ => ⟨S1x4, .i32⟩
  | .hbm, ⟨21, _⟩ => ⟨S2048x4, .i32⟩
  | .hbm, ⟨22, _⟩ => ⟨S2048x4, .i32⟩
  | .hbm, ⟨23, _⟩ => ⟨S2048x4, .i32⟩
  | .hbm, ⟨24, _⟩ => ⟨S_, .i32⟩
  | .hbm, ⟨25, _⟩ => ⟨S2048x4, .i32⟩
  | .hbm, ⟨26, _⟩ => ⟨S2048x4, .i32⟩
  | .hbm, ⟨27, _⟩ => ⟨S2048x1x4, .i32⟩
  | .hbm, ⟨28, _⟩ => ⟨S1x2048x1, .i32⟩
  | .hbm, ⟨29, _⟩ => ⟨S2048x2048x4, .i32⟩
  | .hbm, ⟨30, _⟩ => ⟨S2048x2048x4, .i32⟩
  | .hbm, ⟨31, _⟩ => ⟨S2048x2048x4, .i1⟩
  | .hbm, ⟨32, _⟩ => ⟨S1x2048x1, .i32⟩
  | .hbm, ⟨33, _⟩ => ⟨S2048x1x4, .i32⟩
  | .hbm, ⟨34, _⟩ => ⟨S2048x2048x4, .i32⟩
  | .hbm, ⟨35, _⟩ => ⟨S2048x2048x4, .i32⟩
  | .hbm, ⟨36, _⟩ => ⟨S2048x2048x4, .i1⟩
  | .hbm, ⟨37, _⟩ => ⟨S2048x2048x4, .i1⟩
  | .hbm, ⟨38, _⟩ => ⟨S2048x2048x4, .f32⟩
  | .hbm, ⟨39, _⟩ => ⟨S4x16x128x2048, .f32⟩
  | .hbm, ⟨40, _⟩ => ⟨S16x2048x4x128, .f32⟩
  | .hbm, ⟨41, _⟩ => ⟨S2048x4, .i32⟩
  | .hbm, ⟨42, _⟩ => ⟨S2048x4, .f32⟩
  | .hbm, ⟨43, _⟩ => ⟨S1x2048x4x1, .f32⟩
  | .hbm, ⟨44, _⟩ => ⟨S16x2048x4x128, .f32⟩
  | .hbm, ⟨45, _⟩ => ⟨S16x2048x4x128, .f32⟩
  | .hbm, ⟨46, _⟩ => ⟨S16x2048x4x128, .f32⟩
  | .hbm, ⟨47, _⟩ => ⟨S1x4x128x128, .f32⟩
  | .hbm, ⟨48, _⟩ => ⟨S4x128x128, .f32⟩
  | .hbm, ⟨49, _⟩ => ⟨S4x128x16x2048, .f32⟩
  | .hbm, ⟨50, _⟩ => ⟨S16x2048x4x128, .f32⟩
  | .hbm, ⟨51, _⟩ => ⟨S16x2048x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S16x2048x512, .f32⟩
  | .hbm, ⟨56, _⟩ => ⟨S16x2048x512, .f32⟩
  | .hbm, ⟨57, _⟩ => ⟨S16x2048x512, .bf16⟩
  | _, _ => ⟨S16x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Kernel6.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S16x6144 : Shape := ⟨2, ![16, 6144]⟩
abbrev S1x1024x768 : Shape := ⟨3, ![1, 1024, 768]⟩
abbrev S1x1x768 : Shape := ⟨3, ![1, 1, 768]⟩
abbrev S16x768 : Shape := ⟨2, ![16, 768]⟩
abbrev S1024x768 : Shape := ⟨2, ![1024, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S16x6144, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S16x768, .f32⟩
  | .local _ .vmem, ⟨6, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel7.lean ====
abbrev S2048x128 : Shape := ⟨2, ![2048, 128]⟩
abbrev S2048x512 : Shape := ⟨2, ![2048, 512]⟩
abbrev S2x33x64 : Shape := ⟨3, ![2, 33, 64]⟩
abbrev S2x64 : Shape := ⟨2, ![2, 64]⟩
abbrev S2x2x64x64 : Shape := ⟨4, ![2, 2, 64, 64]⟩
abbrev S2x2x64 : Shape := ⟨3, ![2, 2, 64]⟩
abbrev S2x64x2048 : Shape := ⟨3, ![2, 64, 2048]⟩
abbrev S_ : Shape := ⟨0, ![]⟩
abbrev S2x128x64 : Shape := ⟨3, ![2, 128, 64]⟩
abbrev S1 : Shape := ⟨1, ![1]⟩
abbrev S2x1x64 : Shape := ⟨3, ![2, 1, 64]⟩
abbrev S2x2x1x64 : Shape := ⟨4, ![2, 2, 1, 64]⟩
abbrev S2048x2048 : Shape := ⟨2, ![2048, 2048]⟩
abbrev S1x128x64 : Shape := ⟨3, ![1, 128, 64]⟩
abbrev S1x1x64 : Shape := ⟨3, ![1, 1, 64]⟩
abbrev S1x2x64x64 : Shape := ⟨4, ![1, 2, 64, 64]⟩
abbrev S1x2x1x64 : Shape := ⟨4, ![1, 2, 1, 64]⟩
abbrev S1x64x2048 : Shape := ⟨3, ![1, 64, 2048]⟩
abbrev S1x64 : Shape := ⟨2, ![1, 64]⟩
abbrev S128x64 : Shape := ⟨2, ![128, 64]⟩
abbrev S2048x64 : Shape := ⟨2, ![2048, 64]⟩
abbrev S1x1x64x64 : Shape := ⟨4, ![1, 1, 64, 64]⟩
abbrev S64x64 : Shape := ⟨2, ![64, 64]⟩
abbrev S1x1x1x64 : Shape := ⟨4, ![1, 1, 1, 64]⟩
abbrev S2048x1 : Shape := ⟨2, ![2048, 1]⟩
abbrev S1x64x512 : Shape := ⟨3, ![1, 64, 512]⟩
abbrev S64x512 : Shape := ⟨2, ![64, 512]⟩

abbrev nBuf : Space → Nat
  | .hbm => 17
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S2048x512, .f32⟩
  | .hbm, ⟨2, _⟩ => ⟨S2x33x64, .f32⟩
  | .hbm, ⟨3, _⟩ => ⟨S2x64, .f32⟩
  | .hbm, ⟨4, _⟩ => ⟨S2x2x64x64, .f32⟩
  | .hbm, ⟨5, _⟩ => ⟨S2x2x64, .f32⟩
  | .hbm, ⟨6, _⟩ => ⟨S2x64x2048, .f32⟩
  | .hbm, ⟨7, _⟩ => ⟨S2x64, .f32⟩
  | .hbm, ⟨8, _⟩ => ⟨S_, .f32⟩
  | .hbm, ⟨9, _⟩ => ⟨S2x128x64, .f32⟩
  | .hbm, ⟨10, _⟩ => ⟨S_, .i32⟩
  | .hbm, ⟨11, _⟩ => ⟨S1, .i32⟩
  | .hbm, ⟨12, _⟩ => ⟨S2x128x64, .f32⟩
  | .hbm, ⟨13, _⟩ => ⟨S2x1x64, .f32⟩
  | .hbm, ⟨14, _⟩ => ⟨S2x2x1x64, .f32⟩
  | .hbm, ⟨15, _⟩ => ⟨S2x1x64, .f32⟩
  | .hbm, ⟨16, _⟩ => ⟨S2048x2048, .bf16⟩
  | .local _ .vmem, ⟨0, _⟩ => ⟨S2048x128, .f32⟩
  | .local _ .vmem, ⟨1, _⟩ => ⟨S1x128x64, .f32⟩
  | .local _ .vmem, ⟨2, _⟩ => ⟨S1x1x64, .f32⟩
  | .local _ .vmem, ⟨3, _⟩ => ⟨S1x2x64x64, .f32⟩
  | .local _ .vmem, ⟨4, _⟩ => ⟨S1x2x1x64, .f32⟩
  | .local _ .vmem, ⟨5, _⟩ => ⟨S1x64x2048, .f32⟩
  | .local _ .vmem, ⟨6, _⟩ => ⟨S1x1x64, .f32⟩
  | .local _ .vmem, ⟨7, _⟩ => ⟨S2048x512, .f32⟩
  | .local _ .vmem, ⟨8, _⟩ => ⟨S2048x2048, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S2048x128 : Shape := ⟨2, ![2048, 128]⟩
abbrev S2048x512 : Shape := ⟨2, ![2048, 512]⟩
abbrev S2x33x64 : Shape := ⟨3, ![2, 33, 64]⟩
abbrev S2x64 : Shape := ⟨2, ![2, 64]⟩
abbrev S2x2x64x64 : Shape := ⟨4, ![2, 2, 64, 64]⟩
abbrev S2x2x64 : Shape := ⟨3, ![2, 2, 64]⟩
abbrev S2x64x2048 : Shape := ⟨3, ![2, 64, 2048]⟩
abbrev S1x64 : Shape := ⟨2, ![1, 64]⟩
abbrev S64 : Shape := ⟨1, ![64]⟩
abbrev S2048x33 : Shape := ⟨2, ![2048, 33]⟩
abbrev S1x33x64 : Shape := ⟨3, ![1, 33, 64]⟩
abbrev S33x64 : Shape := ⟨2, ![33, 64]⟩
abbrev S2048x64 : Shape := ⟨2, ![2048, 64]⟩
abbrev S1x1x64x64 : Shape := ⟨4, ![1, 1, 64, 64]⟩
abbrev S64x64 : Shape := ⟨2, ![64, 64]⟩
abbrev S1x1x64 : Shape := ⟨3, ![1, 1, 64]⟩
abbrev S1x64x2048 : Shape := ⟨3, ![1, 64, 2048]⟩
abbrev S64x2048 : Shape := ⟨2, ![64, 2048]⟩
abbrev S2048x2048 : Shape := ⟨2, ![2048, 2048]⟩
abbrev S2048x2x2x512 : Shape := ⟨4, ![2048, 2, 2, 512]⟩
abbrev S2048x1x1x512 : Shape := ⟨4, ![2048, 1, 1, 512]⟩
abbrev S2048 : Shape := ⟨1, ![2048]⟩
abbrev S2048x1 : Shape := ⟨2, ![2048, 1]⟩
abbrev S_ : Shape := ⟨0, ![]⟩
abbrev S2 : Shape := ⟨1, ![2]⟩
abbrev S1x2 : Shape := ⟨2, ![1, 2]⟩
abbrev S2048x2 : Shape := ⟨2, ![2048, 2]⟩
abbrev S2048x1x2x1 : Shape := ⟨4, ![2048, 1, 2, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x512, .f32⟩
  | .hbm, ⟨2, _⟩ => ⟨S2x33x64, .f32⟩
  | .hbm, ⟨3, _⟩ => ⟨S2x64, .f32⟩
  | .hbm, ⟨4, _⟩ => ⟨S2x2x64x64, .f32⟩
  | .hbm, ⟨5, _⟩ => ⟨S2x2x64, .f32⟩
  | .hbm, ⟨6, _⟩ => ⟨S2x64x2048, .f32⟩
  | .hbm, ⟨7, _⟩ => ⟨S2x64, .f32⟩
  | .hbm, ⟨8, _⟩ => ⟨S1x64, .f32⟩
  | .hbm, ⟨9, _⟩ => ⟨S64, .f32⟩
  | .hbm, ⟨10, _⟩ => ⟨S2048x33, .f32⟩
  | .hbm, ⟨11, _⟩ => ⟨S1x33x64, .f32⟩
  | .hbm, ⟨12, _⟩ => ⟨S33x64, .f32⟩
  | .hbm, ⟨13, _⟩ => ⟨S2048x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S1x64, .f32⟩
  | .hbm, ⟨24, _⟩ => ⟨S64, .f32⟩
  | .hbm, ⟨25, _⟩ => ⟨S1x1x64x64, .f32⟩
  | .hbm, ⟨26, _⟩ => ⟨S64x64, .f32⟩
  | .hbm, ⟨27, _⟩ => ⟨S2048x64, .f32⟩
  | .hbm, ⟨28, _⟩ => ⟨S1x1x64, .f32⟩
  | .hbm, ⟨29, _⟩ => ⟨S64, .f32⟩
  | .hbm, ⟨30, _⟩ => ⟨S1x64, .f32⟩
  | .hbm, ⟨31, _⟩ => ⟨S2048x64, .f32⟩
  | .hbm, ⟨32, _⟩ => ⟨S2048x64, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S1x64, .f32⟩
  | .hbm, ⟨38, _⟩ => ⟨S64, .f32⟩
  | .hbm, ⟨39, _⟩ => ⟨S1x1x64x64, .f32⟩
  | .hbm, ⟨40, _⟩ => ⟨S64x64, .f32⟩
  | .hbm, ⟨41, _⟩ => ⟨S2048x64, .f32⟩
  | .hbm, ⟨42, _⟩ => ⟨S1x1x64, .f32⟩
  | .hbm, ⟨43, _⟩ => ⟨S64, .f32⟩
  | .hbm, ⟨44, _⟩ => ⟨S1x64, .f32⟩
  | .hbm, ⟨45, _⟩ => ⟨S2048x64, .f32⟩
  | .hbm, ⟨46, _⟩ => ⟨S2048x64, .f32⟩
  | .hbm, ⟨47, _⟩ => ⟨S1x64, .f32⟩
  | .hbm, ⟨48, _⟩ => ⟨S2048x64, .f32⟩
  | .hbm, ⟨49, _⟩ => ⟨S2048x64, .f32⟩
  | .hbm, ⟨50, _⟩ => ⟨S2048x64, .f32⟩
  | .hbm, ⟨51, _⟩ => ⟨S1x64x2048, .f32⟩
  | .hbm, ⟨52, _⟩ => ⟨S64x2048, .f32⟩
  | .hbm, ⟨53, _⟩ => ⟨S2048x2048, .f32⟩
  | .hbm, ⟨54, _⟩ => ⟨S2048x2x2x512, .f32⟩
  | .hbm, ⟨55, _⟩ => ⟨S2048x1x1x512, .f32⟩
  | .hbm, ⟨56, _⟩ => ⟨S2048x2x2x512, .f32⟩
  | .hbm, ⟨57, _⟩ => ⟨S2048x2x2x512, .f32⟩
  | .hbm, ⟨58, _⟩ => ⟨S2048, .i32⟩
  | .hbm, ⟨59, _⟩ => ⟨S2048x1, .i32⟩
  | .hbm, ⟨60, _⟩ => ⟨S_, .i32⟩
  | .hbm, ⟨61, _⟩ => ⟨S2048x1, .i32⟩
  | .hbm, ⟨62, _⟩ => ⟨S2048x1, .i1⟩
  | .hbm, ⟨63, _⟩ => ⟨S2, .i32⟩
  | .hbm, ⟨64, _⟩ => ⟨S1x2, .i32⟩
  | .hbm, ⟨65, _⟩ => ⟨S_, .i32⟩
  | .hbm, ⟨66, _⟩ => ⟨S1x2, .i32⟩
  | .hbm, ⟨67, _⟩ => ⟨S1x2, .i1⟩
  | .hbm, ⟨68, _⟩ => ⟨S2048x2, .i1⟩
  | .hbm, ⟨69, _⟩ => ⟨S2048x2, .i1⟩
  | .hbm, ⟨70, _⟩ => ⟨S2048x2, .i1⟩
  | .hbm, ⟨71, _⟩ => ⟨S2048x1x2x1, .i1⟩
  | .hbm, ⟨72, _⟩ => ⟨S_, .f32⟩
  | .hbm, ⟨73, _⟩ => ⟨S_, .f32⟩
  | .hbm, ⟨74, _⟩ => ⟨S2048x2x2x512, .i1⟩
  | .hbm, ⟨75, _⟩ => ⟨S2048x2x2x512, .f32⟩
  | .hbm, ⟨76, _⟩ => ⟨S2048x2x2x512, .f32⟩
  | .hbm, ⟨77, _⟩ => ⟨S2048x2048, .f32⟩
  | .hbm, ⟨78, _⟩ => ⟨S2048x2048, .bf16⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c_0 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.FfnIdealBody.lean ====
/- The expert feed-forward kernel at one grid point: what the region finds in the buffers, the two cases of the
   body (the block is used, or it is not), and what each case leaves in the output's staging buffer. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The whole second table (the count of used blocks) as the body is handed it. -/
abbrev cntM : Memref sig .tc .smem S1 .i32 := Memref.whole main_arg1
/-- The whole first table (the expert of each block) as the body is handed it. -/
abbrev expM : Memref sig .tc .smem S544 .i32 := Memref.whole main_arg0

/-- A table's buffer contents on core `c`. -/
abbrev TabBuf (c : Dev nD) {S : Shape} {e : EltTy} (M : Memref sig .tc .smem S e) : Type :=
  Buf (Elt F) (M.view.loc (c : Thread nD τ))
/-- Half the share of a table's buffer, at contents `f`: what the body holds while the pipeline keeps the rest. -/
abbrev tabPt (c : Dev nD) {S : Shape} {e : EltTy} (M : Memref sig .tc .smem S e) (f : TabBuf (F := F) c M) : sProp 𝕄 :=
  M.view.loc (c : Thread nD τ) ↦{fullShare.right} f

/-- The count of used blocks, the word the body loads. -/
abbrev cntWord (c : Dev nD) (t1 : TabBuf (F := F) c cntM) : BitVec 32 :=
  cntM.view.readAt (Elt F) (Rect.unit (s := S1) ![0] S1.size inb_S1_S1_0).toLoadRect t1
    (Shape.Idx.first (numel1_S1.symm ▸ Nat.one_pos))

/-- The first branch's condition: the point is below the count. -/
abbrev isUsed (i : grid0.Coords) (w : BitVec 32) : Prop :=
  (Scalar.cmpi .ne (Scalar.extui (Scalar.cmpi .slt (BitVec.ofNat 32 (i 0).val) w)) 0#32) = 1#1
/-- The second branch's condition: the point is at or past the count. -/
abbrev isSpare (i : grid0.Coords) (w : BitVec 32) : Prop :=
  (Scalar.cmpi .ne (Scalar.extui (Scalar.cmpi .sge (BitVec.ofNat 32 (i 0).val) w)) 0#32) = 1#1

/-- A bit widened to a word and compared with zero is the bit. -/
theorem widened_ne_zero (b : Bool) : (Scalar.cmpi .ne (Scalar.extui (BitVec.ofBool b)) 0#32 = 1#1) = (b = true) := by
  cases b <;> decide

/-- The point is below the count exactly when it is as a signed number. -/
theorem isUsed_eq (i : grid0.Coords) (w : BitVec 32) : isUsed i w = ((BitVec.ofNat 32 (i 0).val).toInt < w.toInt) := by
  show (Scalar.cmpi .ne (Scalar.extui (BitVec.ofBool (decide ((BitVec.ofNat 32 (i 0).val).toInt < w.toInt)))) 0#32 = 1#1) = _
  rw [widened_ne_zero, decide_eq_true_eq]

/-- Exactly one of the two branches runs. -/
theorem isSpare_eq (i : grid0.Coords) (w : BitVec 32) : isSpare i w = ¬ isUsed i w := by
  rw [isUsed_eq, not_lt]
  show (Scalar.cmpi .ne (Scalar.extui (BitVec.ofBool (decide (w.toInt ≤ (BitVec.ofNat 32 (i 0).val).toInt)))) 0#32 = 1#1) = _
  rw [widened_ne_zero, decide_eq_true_eq]

section Body

variable (c : Dev nD) (i : grid0.Coords)
  (a3 : Memref sig .tc .vmem S2048x128 .f32) (h3 : a3.IsWhole)
  (a4 : Memref sig .tc .vmem S1x1024x2048 .bf16) (h4 : a4.IsWhole)
  (a5 : Memref sig .tc .vmem S1x1x2048 .f32) (h5 : a5.IsWhole)
  (a6 : Memref sig .tc .vmem S1x1024x1024 .bf16) (h6 : a6.IsWhole)
  (a7 : Memref sig .tc .vmem S1x1x1024 .f32) (h7 : a7.IsWhole)
  (a8 : Memref sig .tc .vmem S2048x128 .f32) (h8 : a8.IsWhole)
  (x0 : Vec F S2048x128 .f32) (x1 : Vec F S1x1024x2048 .bf16) (x2 : Vec F S1x1x2048 .f32)
  (x3 : Vec F S1x1024x1024 .bf16) (x4 : Vec F S1x1x1024 .f32)
  (t0 : TabBuf (F := F) c expM) (t1 : TabBuf (F := F) c cntM)

/-- What the body holds besides its output: the inputs' blocks and the tables' halves. -/
abbrev held : sProp 𝕄 :=
  iprop(owns (c : Thread nD τ) a3 fullShare x0 ∗ owns (c : Thread nD τ) a4 fullShare x1 ∗ owns (c : Thread nD τ) a5 fullShare x2
    ∗ owns (c : Thread nD τ) a6 fullShare x3 ∗ owns (c : Thread nD τ) a7 fullShare x4 ∗ tabPt c expM t0 ∗ tabPt c cntM t1)

set_option maxHeartbeats 2000000 in
/-- A used block: the eight strided stores the run lists, with the body's triple. -/
def runUsed (hu : isUsed i (cntWord c t1)) (hs : ¬ isSpare i (cntWord c t1)) :
    { L : List (View.Piece (Elt F) S2048x128 .f32) //
      ∀ (E : Set ℕ) (K : PUnit → sProp 𝕄),
        iprop(held c a3 a4 a5 a6 a7 x0 x1 x2 x3 x4 t0 t1 ∗ (∃ d, owns (c : Thread nD τ) a8 fullShare d)
            ∗ (iprop(held c a3 a4 a5 a6 a7 x0 x1 x2 x3 x4 t0 t1
                ∗ (∃ f, a8.view.loc (c : Thread nD τ) ↦[a8.view.set]{fullShare} a8.view.writes (Elt F) f L)) -∗ K ⟨⟩))
          ⊢ wp frame (wpE (defs₀ (F := F)) Variants.none c none) E
              (cc0_moe_ffn i expM (Memref.isWhole_whole _) cntM (Memref.isWhole_whole _) a3 h3 a4 h4 a5 h5 a6 h6 a7 h7 a8 h8) K } := by
  refine ⟨?_, fun E K => ?run⟩
  case run =>
    simp only [cc0_moe_ffn_eq_skeleton]; unfold cc0_moe_ffn_skel
    simp only [k0_part1_eq_skeleton, k0_part2_eq_skeleton]
    unfold held owns
    iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, Hk⟩
    obtain rfl := h3.eq_unread hf0; obtain rfl := h4.eq_unread hf1; obtain rfl := h5.eq_unread hf2
    obtain rfl := h6.eq_unread hf3; obtain rfl := h7.eq_unread hf4
    sl_exec (disch := first | sl_exact hu | sl_exact hs)
    sl_step
    iapply Hk
    isplitr [H5]
    · isplitl [H0]; · iexists _; isplitr; · ipureintro; exact h3.read_unread _
                      iexact H0
      isplitl [H1]; · iexists _; isplitr; · ipureintro; exact h4.read_unread _
                      iexact H1
      isplitl [H2]; · iexists _; isplitr; · ipureintro; exact h5.read_unread _
                      iexact H2
      isplitl [H3]; · iexists _; isplitr; · ipureintro; exact h6.read_unread _
                      iexact H3
      isplitl [H4]; · iexists _; isplitr; · ipureintro; exact h7.read_unread _
                      iexact H4
      isplitl [HT0]; · iexact HT0
      iexact HT1
    · iexists _; iexact H5

set_option maxHeartbeats 2000000 in
/-- A spare block: the one store of zeros, with the body's triple. -/
def runSpare (hu : ¬ isUsed i (cntWord c t1)) (hs : isSpare i (cntWord c t1)) :
    { L : List (View.Piece (Elt F) S2048x128 .f32) //
      ∀ (E : Set ℕ) (K : PUnit → sProp 𝕄),
        iprop(held c a3 a4 a5 a6 a7 x0 x1 x2 x3 x4 t0 t1 ∗ (∃ d, owns (c : Thread nD τ) a8 fullShare d)
            ∗ (iprop(held c a3 a4 a5 a6 a7 x0 x1 x2 x3 x4 t0 t1
                ∗ (∃ f, a8.view.loc (c : Thread nD τ) ↦[a8.view.set]{fullShare} a8.view.writes (Elt F) f L)) -∗ K ⟨⟩))
          ⊢ wp frame (wpE (defs₀ (F := F)) Variants.none c none) E
              (cc0_moe_ffn i expM (Memref.isWhole_whole _) cntM (Memref.isWhole_whole _) a3 h3 a4 h4 a5 h5 a6 h6 a7 h7 a8 h8) K } := by
  refine ⟨?_, fun E K => ?run⟩
  case run =>
    simp only [cc0_moe_ffn_eq_skeleton]; unfold cc0_moe_ffn_skel
    simp only [k0_part1_eq_skeleton, k0_part2_eq_skeleton]
    unfold held owns
    iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, Hk⟩
    obtain rfl := h3.eq_unread hf0; obtain rfl := h4.eq_unread hf1; obtain rfl := h5.eq_unread hf2
    obtain rfl := h6.eq_unread hf3; obtain rfl := h7.eq_unread hf4
    sl_exec (disch := first | sl_exact hu | sl_exact hs)
    sl_step
    iapply Hk
    isplitr [H5]
    · isplitl [H0]; · iexists _; isplitr; · ipureintro; exact h3.read_unread _
                      iexact H0
      isplitl [H1]; · iexists _; isplitr; · ipureintro; exact h4.read_unread _
                      iexact H1
      isplitl [H2]; · iexists _; isplitr; · ipureintro; exact h5.read_unread _
                      iexact H2
      isplitl [H3]; · iexists _; isplitr; · ipureintro; exact h6.read_unread _
                      iexact H3
      isplitl [H4]; · iexists _; isplitr; · ipureintro; exact h7.read_unread _
                      iexact H4
      isplitl [HT0]; · iexact HT0
      iexact HT1
    · iexists _; iexact H5

end Body

end Cert.KernelIdeal.Ffn

end
-- ==== Proof.FfnIdealTile.lean ====
/- What the expert feed-forward body leaves in its output block, as one function of the input blocks: in a used block
   row `r`, lane `l` of the tiled block is token `r / 8`, column `128 * (r % 8) + l` of the expert's result. -/
module

public import proofs.«01_k».proof.Proof.FfnIdealBody

@[expose] public section

set_option maxRecDepth 16384

noncomputable section

namespace Cert.KernelIdeal.Ffn

open Idealize.ShloMosaic Idealize.ShloMosaic.TcCoe Idealize.ShloMosaic.Tactic
open Idealize.SL Idealize.SL.Sem
open Cert.KernelIdeal.Gen

variable {F : FTy → Type} [FloatOps F]

/-- Token row `j` of column chunk `k` of a tiled block: tiled row `8 * j + k`. -/
def strip (k : Fin 8) (x : Vec F S2048x128 .f32) : Vec F S256x128 .f32 := fun j =>
  x (fun | 0 => ⟨8 * (j 0).val + k.val, by have := (j 0).isLt; simp at this ⊢; omega⟩ | 1 => ⟨(j 1).val, (j 1).isLt⟩)

/-- The expert's result for the block's 256 tokens. -/
def tokens (x0 : Vec F S2048x128 .f32) (x1 : Vec F S1x1024x2048 .bf16) (x2 : Vec F S1x1x2048 .f32)
    (x3 : Vec F S1x1024x1024 .bf16) (x4 : Vec F S1x1x1024 .f32) : FVec F S256x1024 .f32 :=
  k0_pay7
    (k0_pay3 (strip 0 x0) (strip 1 x0) (strip 2 x0) (strip 3 x0) (strip 4 x0) (strip 5 x0) (strip 6 x0) (strip 7 x0) x1 x2)
    (k0_pay4 (strip 0 x0) (strip 1 x0) (strip 2 x0) (strip 3 x0) (strip 4 x0) (strip 5 x0) (strip 6 x0) (strip 7 x0) x1 x2)
    (k0_pay5 (strip 0 x0) (strip 1 x0) (strip 2 x0) (strip 3 x0) (strip 4 x0) (strip 5 x0) (strip 6 x0) (strip 7 x0) x1 x2)
    k0_pay6 x3 x4

/-- A token-by-column array laid out as a tiled block. -/
def tiled (y : FVec F S256x1024 .f32) : Vec F S2048x128 .f32 := fun r =>
  y (fun | 0 => ⟨(r 0).val / 8, by have := (r 0).isLt; simp at this ⊢; omega⟩
         | 1 => ⟨128 * ((r 0).val % 8) + (r 1).val, by have := (r 1).isLt; simp at this ⊢; omega⟩)

/-- Reading a strided row set of a whole buffer is a strip of its contents. -/
theorem read_strip (a3 : Memref sig .tc .vmem S2048x128 .f32) (h3 : a3.IsWhole) (x0 : Vec F S2048x128 .f32) (k : Fin 8)
    (inb : ∀ a, S256x128.size a = 0 ∨ (![k.val, 0] : Fin 2 → Nat) a + (![8, 1] : Fin 2 → Nat) a * (S256x128.size a - 1) < S2048x128.size a) :
    a3.view.readAt (Elt F) (⟨![k.val, 0], S256x128.size, ![8, 1], inb⟩ : LoadRect S2048x128) (h3.unread x0) = strip k x0 := by
  funext j
  rw [View.readAt_apply, h3.read_unread]
  unfold strip
  congr 1
  funext a
  apply Fin.ext
  match a with
  | 0 => show k.val + 8 * (j 0).val = 8 * (j 0).val + k.val; omega
  | 1 => show 0 + 1 * (j 1).val = (j 1).val; omega

/-- A strided store of column chunk `k` agrees with the tiled layout. -/
theorem slice_tiled (y : FVec F S256x1024 .f32) (k : Fin 8)
    (inb : ∀ a, S256x128.size a = 0 ∨ (![k.val, 0] : Fin 2 → Nat) a + (![8, 1] : Fin 2 → Nat) a * (S256x128.size a - 1) < S2048x128.size a)
    (sl : S256x1024.Slices ![0, 128 * k.val] S256x128) (j : S256x128.Idx) :
    extractStridedSlice S256x128 ![0, 128 * k.val] y sl j
      = tiled y ((⟨⟨![k.val, 0], S256x128.size, ![8, 1], inb⟩, spos_8_1⟩ : Rect S2048x128).emb j) := by
  unfold extractStridedSlice tiled
  congr 1
  funext a
  apply Fin.ext
  have hk := k.isLt
  match a with
  | 0 =>
    show 0 + (j 0).val = (k.val + 8 * (j 0).val) / 8
    omega
  | 1 =>
    show 128 * k.val + (j 1).val = 128 * ((k.val + 8 * (j 0).val) % 8) + (0 + 1 * (j 1).val)
    omega

/-- The rows of chunk `k` are those congruent to `k` modulo 8. -/
theorem mem_rows (r : S2048x128.Idx) (k : Fin 8) (hk : (r 0).val % 8 = k.val)
    (inb : ∀ a, S256x128.size a = 0 ∨ (![k.val, 0] : Fin 2 → Nat) a + (![8, 1] : Fin 2 → Nat) a * (S256x128.size a - 1) < S2048x128.size a) :
    r ∈ (⟨⟨![k.val, 0], S256x128.size, ![8, 1], inb⟩, spos_8_1⟩ : Rect S2048x128).set := by
  have h0 := (r 0).isLt
  refine (LoadRect.mem_set _).mpr fun a => ?_
  match a with
  | 0 => exact ⟨(r 0).val / 8, by show _ < 256; simp at h0; omega, by show (r 0).val = k.val + 8 * ((r 0).val / 8); omega⟩
  | 1 => exact ⟨(r 1).val, (r 1).isLt, by show (r 1).val = 0 + 1 * (r 1).val; omega⟩

section Body

variable (c : Dev nD) (i : grid0.Coords)
  (a3 : Memref sig .tc .vmem S2048x128 .f32) (h3 : a3.IsWhole)
  (a4 : Memref sig .tc .vmem S1x1024x2048 .bf16) (h4 : a4.IsWhole)
  (a5 : Memref sig .tc .vmem S1x1x2048 .f32) (h5 : a5.IsWhole)
  (a6 : Memref sig .tc .vmem S1x1024x1024 .bf16) (h6 : a6.IsWhole)
  (a7 : Memref sig .tc .vmem S1x1x1024 .f32) (h7 : a7.IsWhole)
  (a8 : Memref sig .tc .vmem S2048x128 .f32) (h8 : a8.IsWhole)
  (x0 : Vec F S2048x128 .f32) (x1 : Vec F S1x1024x2048 .bf16) (x2 : Vec F S1x1x2048 .f32)
  (x3 : Vec F S1x1024x1024 .bf16) (x4 : Vec F S1x1x1024 .f32)
  (t0 : TabBuf (F := F) c expM) (t1 : TabBuf (F := F) c cntM)

/-- The eight stores of a used block, last first, over the result's column chunks. -/
theorem runUsed_pieces (hu : isUsed i (cntWord c t1)) (hs : ¬ isSpare i (cntWord c t1)) :
    (runUsed c i a3 h3 a4 h4 a5 h5 a6 h6 a7 h7 a8 h8 x0 x1 x2 x3 x4 t0 t1 hu hs).1
      = [⟨⟨⟨![7, 0], S256x128.size, ![8, 1], inb_S2048x128_S256x128_7_0_s_8_1⟩, spos_8_1⟩, extractStridedSlice S256x128 ![0, 896] (tokens x0 x1 x2 x3 x4) slices_S256x1024_o0_896_S256x128⟩,
         ⟨⟨⟨![6, 0], S256x128.size, ![8, 1], inb_S2048x128_S256x128_6_0_s_8_1⟩, spos_8_1⟩, extractStridedSlice S256x128 ![0, 768] (tokens x0 x1 x2 x3 x4) slices_S256x1024_o0_768_S256x128⟩,
         ⟨⟨⟨![5, 0], S256x128.size, ![8, 1], inb_S2048x128_S256x128_5_0_s_8_1⟩, spos_8_1⟩, extractStridedSlice S256x128 ![0, 640] (tokens x0 x1 x2 x3 x4) slices_S256x1024_o0_640_S256x128⟩,
         ⟨⟨⟨![4, 0], S256x128.size, ![8, 1], inb_S2048x128_S256x128_4_0_s_8_1⟩, spos_8_1⟩, extractStridedSlice S256x128 ![0, 512] (tokens x0 x1 x2 x3 x4) slices_S256x1024_o0_512_S256x128⟩,
         ⟨⟨⟨![3, 0], S256x128.size, ![8, 1], inb_S2048x128_S256x128_3_0_s_8_1⟩, spos_8_1⟩, extractStridedSlice S256x128 ![0, 384] (tokens x0 x1 x2 x3 x4) slices_S256x1024_o0_384_S256x128⟩,
         ⟨⟨⟨![2, 0], S256x128.size, ![8, 1], inb_S2048x128_S256x128_2_0_s_8_1⟩, spos_8_1⟩, extractStridedSlice S256x128 ![0, 256] (tokens x0 x1 x2 x3 x4) slices_S256x1024_o0_256_S256x128⟩,
         ⟨⟨⟨![1, 0], S256x128.size, ![8, 1], inb_S2048x128_S256x128_1_0_s_8_1⟩, spos_8_1⟩, extractStridedSlice S256x128 ![0, 128] (tokens x0 x1 x2 x3 x4) slices_S256x1024_o0_128_S256x128⟩,
         ⟨⟨⟨![0, 0], S256x128.size, ![8, 1], inb_S2048x128_S256x128_0_0_s_8_1⟩, spos_8_1⟩, extractStridedSlice S256x128 ![0, 0] (tokens x0 x1 x2 x3 x4) slices_S256x1024_o0_0_S256x128⟩] := by
  have s0 := read_strip a3 h3 x0 0 inb_S2048x128_S256x128_0_0_s_8_1
  have s1 := read_strip a3 h3 x0 1 inb_S2048x128_S256x128_1_0_s_8_1
  have s2 := read_strip a3 h3 x0 2 inb_S2048x128_S256x128_2_0_s_8_1
  have s3 := read_strip a3 h3 x0 3 inb_S2048x128_S256x128_3_0_s_8_1
  have s4 := read_strip a3 h3 x0 4 inb_S2048x128_S256x128_4_0_s_8_1
  have s5 := read_strip a3 h3 x0 5 inb_S2048x128_S256x128_5_0_s_8_1
  have s6 := read_strip a3 h3 x0 6 inb_S2048x128_S256x128_6_0_s_8_1
  have s7 := read_strip a3 h3 x0 7 inb_S2048x128_S256x128_7_0_s_8_1
  have w1 : a4.view.readAt (Elt F) (Rect.unit (s := S1x1024x2048) ![0, 0, 0] S1x1024x2048.size inb_S1x1024x2048_S1x1024x2048_0_0_0).toLoadRect (h4.unread x1) = x1 :=
    (View.readAt_full _ _ _).trans (h4.read_unread _)
  have w2 : a5.view.readAt (Elt F) (Rect.unit (s := S1x1x2048) ![0, 0, 0] S1x1x2048.size inb_S1x1x2048_S1x1x2048_0_0_0).toLoadRect (h5.unread x2) = x2 :=
    (View.readAt_full _ _ _).trans (h5.read_unread _)
  have w3 : a6.view.readAt (Elt F) (Rect.unit (s := S1x1024x1024) ![0, 0, 0] S1x1024x1024.size inb_S1x1024x1024_S1x1024x1024_0_0_0).toLoadRect (h6.unread x3) = x3 :=
    (View.readAt_full _ _ _).trans (h6.read_unread _)
  have w4 : a7.view.readAt (Elt F) (Rect.unit (s := S1x1x1024) ![0, 0, 0] S1x1x1024.size inb_S1x1x1024_S1x1x1024_0_0_0).toLoadRect (h7.unread x4) = x4 :=
    (View.readAt_full _ _ _).trans (h7.read_unread _)
  unfold tokens
  rw [← s0, ← s1, ← s2, ← s3, ← s4, ← s5, ← s6, ← s7]
  conv_rhs => rw [← w1, ← w2, ← w3, ← w4]
  rfl

/-- The one store of a spare block. -/
theorem runSpare_pieces (hu : ¬ isUsed i (cntWord c t1)) (hs : isSpare i (cntWord c t1)) :
    (runSpare c i a3 h3 a4 h4 a5 h5 a6 h6 a7 h7 a8 h8 x0 x1 x2 x3 x4 t0 t1 hu hs).1
      = [⟨Rect.unit (s := S2048x128) ![0, 0] S2048x128.size inb_S2048x128_S2048x128_0_0, k0_pay1⟩] := rfl

/-- A used block ends holding the expert's result, tiled. -/
theorem read_used (hu : isUsed i (cntWord c t1)) (hs : ¬ isSpare i (cntWord c t1)) (f : a8.view.ty.Contents (Elt F)) :
    a8.view.read (Elt F) (a8.view.writes (Elt F) f
      (runUsed c i a3 h3 a4 h4 a5 h5 a6 h6 a7 h7 a8 h8 x0 x1 x2 x3 x4 t0 t1 hu hs).1) = tiled (tokens x0 x1 x2 x3 x4) := by
  funext r
  rw [runUsed_pieces]
  refine View.read_writes_apply_of_pieces _ _ _ _ ?_ r ?_
  · simp only [List.forall_mem_cons, List.not_mem_nil, false_imp_iff, implies_true, and_true]
    exact ⟨slice_tiled _ 7 _ _, slice_tiled _ 6 _ _, slice_tiled _ 5 _ _, slice_tiled _ 4 _ _, slice_tiled _ 3 _ _,
      slice_tiled _ 2 _ _, slice_tiled _ 1 _ _, slice_tiled _ 0 _ _⟩
  · simp only [List.exists_mem_cons_iff, List.not_mem_nil, false_and, exists_false, or_false]
    have h8 : (r 0).val % 8 < 8 := Nat.mod_lt _ (by decide)
    have hm := fun k : Fin 8 => mem_rows r k
    obtain hr | hr | hr | hr | hr | hr | hr | hr : (r 0).val % 8 = 0 ∨ (r 0).val % 8 = 1 ∨ (r 0).val % 8 = 2 ∨ (r 0).val % 8 = 3
      ∨ (r 0).val % 8 = 4 ∨ (r 0).val % 8 = 5 ∨ (r 0).val % 8 = 6 ∨ (r 0).val % 8 = 7 := by omega
    · exact .inr (.inr (.inr (.inr (.inr (.inr (.inr (hm 0 hr _)))))))
    · exact .inr (.inr (.inr (.inr (.inr (.inr (.inl (hm 1 hr _)))))))
    · exact .inr (.inr (.inr (.inr (.inr (.inl (hm 2 hr _))))))
    · exact .inr (.inr (.inr (.inr (.inl (hm 3 hr _)))))
    · exact .inr (.inr (.inr (.inl (hm 4 hr _))))
    · exact .inr (.inr (.inl (hm 5 hr _)))
    · exact .inr (.inl (hm 6 hr _))
    · exact .inl (hm 7 hr _)

/-- A spare block ends holding zeros. -/
theorem read_spare (hu : ¬ isUsed i (cntWord c t1)) (hs : isSpare i (cntWord c t1)) (f : a8.view.ty.Contents (Elt F)) :
    a8.view.read (Elt F) (a8.view.writes (Elt F) f
      (runSpare c i a3 h3 a4 h4 a5 h5 a6 h6 a7 h7 a8 h8 x0 x1 x2 x3 x4 t0 t1 hu hs).1) = k0_pay1 := by
  rw [runSpare_pieces]
  exact View.read_writes_full _ _ _ _ _

end Body

end Cert.KernelIdeal.Ffn

end
-- ==== Proof.FfnIdealFrame.lean ====
/- The expert feed-forward call's frame: the pipeline runs its 544 points, each used block ending at the expert's
   result and each spare block at zeros, and every argument array ends as it began. -/
module

public import proofs.«01_k».proof.Proof.FfnIdealTile

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: after the casts and reshapes of the weights. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations and then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that none of the four host operations writes is found as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The tables -/

/-- The tables' contents when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the table of experts names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The two tables' halves, one by one. -/
theorem halves_eq (c : Dev nD) :
    (Pipeline.ΦT pre0 (tbl m) c : sProp 𝕄) = iprop(tabPt c expM (tbl m 0) ∗ tabPt c cntM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output is written back at every point. -/
theorem flush_out (a : (pcfg0 (F := F)).Adm) : ∀ t : Fin (cfg0 a).N, ((cfg0 a).win 5).flush t = true :=
  (fun t => (Pipeline.Window.flushOf_reads cc0_transform_5 reads0_5 hreads0_5 0 (by decide) (by decide)
    (Pipeline.Window.sep_of_coord cc0_transform_5 0 0 (fun _ => rfl) (by decide)) (P := 1) (m := 0) (by decide) rfl t).mpr
      (Nat.mod_one _) : ∀ t : Fin grid0.N, Pipeline.Window.flushOf grid0 true cc0_transform_5 t = true)

/-! ## The blocks -/

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the output's block holds after point `t`: the expert's result, tiled, or zeros past the count. -/
def outBlk (hO : Ok m) (c : Dev nD) (t : Fin (cfgM m hO).N) : Vec F S2048x128 .f32 :=
  if isUsed (grid0.coords t) (cntWord c (tbl m 1)) then
    tiled (tokens (iblk m hO c 0 t) (iblk m hO c 1 t) (iblk m hO c 2 t) (iblk m hO c 3 t) (iblk m hO c 4 t))
  else k0_pay1

theorem outBlk_used (hO : Ok m) (c : Dev nD) (t : Fin (cfgM m hO).N) (h : isUsed (grid0.coords t) (cntWord c (tbl m 1))) :
    outBlk m hO c t
      = tiled (tokens (iblk m hO c 0 t) (iblk m hO c 1 t) (iblk m hO c 2 t) (iblk m hO c 3 t) (iblk m hO c 4 t)) := by
  unfold outBlk; exact if_pos h

theorem outBlk_spare (hO : Ok m) (c : Dev nD) (t : Fin (cfgM m hO).N) (h : ¬ isUsed (grid0.coords t) (cntWord c (tbl m 1))) :
    outBlk m hO c t = k0_pay1 := by
  unfold outBlk; exact if_neg h

/-- The pipeline's proof data: each input's buffer keeps its block, the output's ends at `outBlk`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_out (hO : Ok m) (c : Dev nD) (t : Fin (cfgM m hO).N) : (dats m hO 0 c).after 5 t = outBlk m hO c t := by
  dsimp only [dats]; try rfl
theorem after_in0 (hO : Ok m) (c : Dev nD) (t : Fin (cfgM m hO).N) : (dats m hO 0 c).after 0 t = iblk m hO c 0 t := by
  dsimp only [dats]; try rfl
theorem after_in1 (hO : Ok m) (c : Dev nD) (t : Fin (cfgM m hO).N) : (dats m hO 0 c).after 1 t = iblk m hO c 1 t := by
  dsimp only [dats]; try rfl
theorem after_in2 (hO : Ok m) (c : Dev nD) (t : Fin (cfgM m hO).N) : (dats m hO 0 c).after 2 t = iblk m hO c 2 t := by
  dsimp only [dats]; try rfl
theorem after_in3 (hO : Ok m) (c : Dev nD) (t : Fin (cfgM m hO).N) : (dats m hO 0 c).after 3 t = iblk m hO c 3 t := by
  dsimp only [dats]; try rfl
theorem after_in4 (hO : Ok m) (c : Dev nD) (t : Fin (cfgM m hO).N) : (dats m hO 0 c).after 4 t = iblk m hO c 4 t := by
  dsimp only [dats]; try rfl

/-! Each input's current buffer holds its block at every point, fetched there or kept from before. -/

theorem before_in0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)

/-! ## The body at a point -/

/-! Each window's current staging memref at point `t`. -/

abbrev st0 (hO : Ok m) (t : Fin (cfgM m hO).N) : Memref sig .tc .vmem S2048x128 .f32 := spec0_0.stage ((cfgM m hO).slots t 0)
abbrev st1 (hO : Ok m) (t : Fin (cfgM m hO).N) : Memref sig .tc .vmem S1x1024x2048 .bf16 := spec0_1.stage ((cfgM m hO).slots t 1)
abbrev st2 (hO : Ok m) (t : Fin (cfgM m hO).N) : Memref sig .tc .vmem S1x1x2048 .f32 := spec0_2.stage ((cfgM m hO).slots t 2)
abbrev st3 (hO : Ok m) (t : Fin (cfgM m hO).N) : Memref sig .tc .vmem S1x1024x1024 .bf16 := spec0_3.stage ((cfgM m hO).slots t 3)
abbrev st4 (hO : Ok m) (t : Fin (cfgM m hO).N) : Memref sig .tc .vmem S1x1x1024 .f32 := spec0_4.stage ((cfgM m hO).slots t 4)
abbrev st5 (hO : Ok m) (t : Fin (cfgM m hO).N) : Memref sig .tc .vmem S2048x128 .f32 := spec0_5.stage ((cfgM m hO).slots t 5)

/-- The body at point `t`, as the pipeline calls it. -/
abbrev bodyAt (hO : Ok m) (t : Fin (cfgM m hO).N) : Prog (TpuEff nD τ sig (Elt F) Λ₀ .tc) PUnit :=
  cc0_moe_ffn (grid0.coords t) expM (Memref.isWhole_whole _) cntM (Memref.isWhole_whole _)
    (st0 m hO t) (hstage0_0 (((cfgM m hO).slots t 0).cast nbuf0_0)) (st1 m hO t) (hstage0_1 (((cfgM m hO).slots t 1).cast nbuf0_1)) (st2 m hO t) (hstage0_2 (((cfgM m hO).slots t 2).cast nbuf0_2)) (st3 m hO t) (hstage0_3 (((cfgM m hO).slots t 3).cast nbuf0_3)) (st4 m hO t) (hstage0_4 (((cfgM m hO).slots t 4).cast nbuf0_4)) (st5 m hO t) (hstage0_5 (((cfgM m hO).slots t 5).cast nbuf0_5))

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t))

set_option maxHeartbeats 800000 in
/-- The body's triple at any point, used or spare. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_in0, before_in1, before_in2, before_in3, before_in4]
  rw [show (dats m hO 0 c).Φ t.succ = (dats m hO 0 c).Φ t.castSucc from rfl,
    show (dats m hO 0 c).owesAt () t.succ = (dats m hO 0 c).owesAt () t.castSucc from rfl,
    after_in0, after_in1, after_in2, after_in3, after_in4, after_out]
  rw [show (dats m hO 0 c).Φ t.castSucc = iprop(Pipeline.ΦA spec0 c ∗ Pipeline.ΦT pre0 (tbl m) c) from rfl, halves_eq]
  by_cases hu : isUsed (grid0.coords t) (cntWord c (tbl m 1))
  · have hs : ¬ isSpare (grid0.coords t) (cntWord c (tbl m 1)) := by rw [isSpare_eq]; exact not_not_intro hu
    rw [outBlk_used m hO c t hu]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runUsed c (grid0.coords t) _ _ _ _ _ _ _ _ _ _ _ _ (iblk m hO c 0 t) (iblk m hO c 1 t) (iblk m hO c 2 t)
      (iblk m hO c 3 t) (iblk m hO c 4 t) (tbl m 0) (tbl m 1) hu hs).2 Set.univ _)
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [H5]; · iexists _; iexact H5
    iintro ⟨⟨H0, H1, H2, H3, H4, HT0, HT1⟩, ⟨%e5, H5⟩⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read_used c _ _ _ _ _ _ _ _ _ _ _ _ _ _ _ _ _ _ _ _ hu hs _
  · have hs : isSpare (grid0.coords t) (cntWord c (tbl m 1)) := by rw [isSpare_eq]; exact hu
    rw [outBlk_spare m hO c t hu]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runSpare c (grid0.coords t) _ _ _ _ _ _ _ _ _ _ _ _ (iblk m hO c 0 t) (iblk m hO c 1 t) (iblk m hO c 2 t)
      (iblk m hO c 3 t) (iblk m hO c 4 t) (tbl m 0) (tbl m 1) hu hs).2 Set.univ _)
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [H5]; · iexists _; iexact H5
    iintro ⟨⟨H0, H1, H2, H3, H4, HT0, HT1⟩, ⟨%e5, H5⟩⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact read_spare c _ _ _ _ _ _ _ _ _ _ _ _ _ _ _ _ _ _ _ _ hu hs _

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- Where each window is stored at each point or written back there, the pipeline's obligation asks for the plain
    contents the body leaves. -/
theorem obligation_of_stored {cfg : Cfg sig Λ₀} {c : Dev nD} (dat : Dat τ (Elt F) Unit ℕ (UR sig nD τ) ℕ cfg c)
    (hs : ∀ w t, cfg.idle w (cfg.grid.coords t) = false ∨ (cfg.win w).flush t = true)
    (h : ∀ t : Fin cfg.N,
      iprop(dat.Φ t.castSucc ∗ dat.owesAt () t.castSucc
          ∗ bigSep Finset.univ fun w : Fin cfg.W =>
              iprop(∃ d, owns (c : Thread nD τ) ((cfg.win w).stage (cfg.slots t w)) fullShare (dat.before w t d)))
        ⊢ wp frame (wpE (defs₀ (F := F)) Variants.none c none) Set.univ (defs₀ .tc cfg.body (cfg.bodyArgs t (cfg.slots t))) fun _ =>
            iprop(dat.Φ t.succ ∗ dat.owesAt () t.succ
              ∗ bigSep Finset.univ fun w : Fin cfg.W =>
                  owns (c : Thread nD τ) ((cfg.win w).stage (cfg.slots t w)) fullShare (dat.after w t))) :
    BodyObligation dat (defs₀ (F := F)) Variants.none () Set.univ := fun t => by
  have hw : (fun w : Fin cfg.W => owns (c : Thread nD τ) ((cfg.win w).stage (cfg.slots t w)) fullShare (dat.after w t))
      = fun w => dat.leavesExact w t := funext fun w => by
    unfold Dat.leavesExact
    rcases hs w t with h | h
    · rw [h]
    · rw [h]; cases cfg.idle w (cfg.grid.coords t) <;> rfl
  have ht := h t
  rw [hw] at ht
  exact ht

/-- The body's triple as the pipeline asks for it; the output is written back at every point, so what an idle point
    would leave is never asked. -/
theorem body_obligation (hO : Ok m) (c : Dev nD) :
    BodyObligation (dats (F := F) m hO 0 c) (defs₀ (F := F)) Variants.none () Set.univ :=
  obligation_of_stored (dats (F := F) m hO 0 c)
    (fun | ⟨0, _⟩ => fun _ => .inl rfl | ⟨1, _⟩ => fun _ => .inl rfl | ⟨2, _⟩ => fun _ => .inl rfl | ⟨3, _⟩ => fun _ => .inl rfl
         | ⟨4, _⟩ => fun _ => .inl rfl | ⟨5, _⟩ => fun t => .inr (flush_out (adm m hO) t))
    fun t => by
      rw [bigSep_W0, bigSep_W0, body_row m hO]
      exact triple_restated (sound_body m hO c t) rfl .rfl fun _ => .rfl

/-! ## The run -/

set_option backward.isDefEq.respectTransparency.types false in
/-- The launch: every array ends at what the pipeline computes from the proof data, every counter at zero. -/
theorem run_zero (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The launch's arrays alone. -/
theorem run_arrays (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_zero m ρ hO)

/-- The frame: the argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (by decide : main_arg0 ∈ Pipeline.restRefs sig spec0)).trans (V_kept m c main_arg0 (by decide) (by decide) (by decide) (by decide)),
      ((h.1 c).2 main_arg1 (by decide : main_arg1 ∈ Pipeline.restRefs sig spec0)).trans (V_kept m c main_arg1 (by decide) (by decide) (by decide) (by decide)),
      ((h.1 c).1 0).trans (((dats m hO 0 c).arrAt_in 0 rfl _).trans
        ((A_eq m hO c 0).trans (V_kept m c main_arg2 (by decide) (by decide) (by decide) (by decide)))),
      ((h.1 c).2 main_arg3 (by decide : main_arg3 ∈ Pipeline.restRefs sig spec0)).trans (V_kept m c main_arg3 (by decide) (by decide) (by decide) (by decide)),
      ((h.1 c).2 main_arg4 (by decide : main_arg4 ∈ Pipeline.restRefs sig spec0)).trans (V_kept m c main_arg4 (by decide) (by decide) (by decide) (by decide)),
      ((h.1 c).2 main_arg5 (by decide : main_arg5 ∈ Pipeline.restRefs sig spec0)).trans (V_kept m c main_arg5 (by decide) (by decide) (by decide) (by decide)),
      ((h.1 c).2 main_arg6 (by decide : main_arg6 ∈ Pipeline.restRefs sig spec0)).trans (V_kept m c main_arg6 (by decide) (by decide) (by decide) (by decide))⟩,
    h.2⟩) (run_zero m ρ hO)

end Cert.KernelIdeal.Ffn

end
-- ==== Proof.FfnIdealOk.lean ====
/- Every block that the table of experts names lies inside its array: the pipeline's condition on the tables, from the
   precondition. -/
module

public import proofs.«01_k».proof.Proof.FfnIdealFrame
public import proofs.«01_k».proof.Proof.Gen.Pre_experts_in_range
public import Idealize.ShloMosaic.Lib.StableHlo.Predicate
public import Idealize.ShloMosaic.Lib.Pointwise

@[expose] public section

set_option maxRecDepth 16384

noncomputable section

namespace Cert.KernelIdeal.Ffn

open Idealize.ShloMosaic Idealize.ShloMosaic.TcCoe Idealize.ShloMosaic.Tactic
open Idealize.SL.Sem
open Cert.KernelIdeal.Gen

variable {F : FTy → Type} [FloatOps F]

/-- The predicate, decoded: every entry of the table is a number below 32. -/
theorem expert_of_pre (x0 : IVec S544 32) (x1 : IVec S1 32) (x2 : FVec F S1114112x128 .f32) (x3 : FVec F S32x1024x2048 .f32)
    (x4 : FVec F S32x2048 .f32) (x5 : FVec F S32x1024x1024 .f32) (x6 : FVec F S32x1024 .f32)
    (h : Cert.Pre_experts_in_range.fn (F := F) x0 x1 x2 x3 x4 x5 x6 = fun _ => 1#1) (b : Fin 544) :
    ∃ k : Fin 32, x0 (ix1 b) = BitVec.ofNat 32 k.val := by
  have andi_one (a b : BitVec 1) : IntOp.andi a b = 1#1 ↔ a = 1#1 ∧ b = 1#1 := by revert a b; decide
  have hb := congrFun h (ix1 b)
  simp only [Cert.Pre_experts_in_range.fn, constantI, broadcastInDim, cmpi, andi, andi_one] at hb
  obtain ⟨h0, h1⟩ := hb
  unfold IntOp.cmpi at h0 h1
  rw [StableHlo.Predicate.ofBool_eq_one_iff] at h0 h1
  have h0' : (0 : Int) ≤ (x0 (ix1 b)).toInt := by simpa [BitVec.sle] using h0
  have h1' : (x0 (ix1 b)).toInt < 32 := by simpa [BitVec.slt] using h1
  have hn : (x0 (ix1 b)).toInt = (x0 (ix1 b)).toNat := by
    have := BitVec.toInt_eq_toNat_cond (x0 (ix1 b))
    have := (x0 (ix1 b)).isLt
    split at * <;> omega
  refine ⟨⟨(x0 (ix1 b)).toNat, by omega⟩, ?_⟩
  simp

/-- The expert a point's index maps read is the table's entry at the point. -/
theorem at_point (pf : pre0.Contents (Elt F)) (i : grid0.Coords) :
    pf.at 0 (Rect.unit (s := S544) (k0_off1 i) S1.size (k0_off1_inb i)) numel1_S1 = pf 0 (ix1 (i 0 : Fin 544)) := by
  refine congrArg (pf 0) (funext (α := Fin 1) fun a => Fin.ext ?_)
  match a with
  | 0 =>
    have hi : (i 0).val < 544 := (i 0).isLt
    show (BitVec.ofNat 32 (i 0).val).toNat + 1 * 0 = (i 0).val
    rw [BitVec.toNat_ofNat]
    omega

/-- The tables' condition, when every entry is an expert's number. -/
theorem ok_of_experts (pf : pre0.Contents (Elt F)) (h : ∀ b : Fin 544, ∃ k : Fin 32, pf 0 (ix1 b) = BitVec.ofNat 32 k.val) :
    ok0 pf := by
  have hlt : ∀ i : grid0.Coords, (pf.at 0 (Rect.unit (s := S544) (k0_off1 i) S1.size (k0_off1_inb i)) numel1_S1 : BitVec 32).toNat < 32 := by
    intro i
    rw [at_point]
    obtain ⟨k, hk⟩ := h (i 0)
    rw [hk, BitVec.toNat_ofNat]
    have := k.isLt
    omega
  refine ⟨fun i => ⟨?_, .inr (.inr ⟨by decide, rfl, rfl, rfl⟩)⟩, fun i => ⟨?_, .inl rfl⟩, fun i => ⟨?_, .inr (.inr ⟨by decide, rfl, rfl, rfl⟩)⟩, fun i => ⟨?_, .inl rfl⟩⟩ <;>
    · intro a
      have := hlt i
      match a with
      | 0 => exact (Nat.mul_one _).le.trans (this : _ < 32)
      | 1 => exact Nat.le_refl _
      | 2 => exact Nat.le_refl _

end Cert.KernelIdeal.Ffn

end
-- ==== Proof.FfnIdealMath.lean ====
/- The expert feed-forward of one token over the extended reals, and the kernel's block as that function of its
   input blocks. -/
module

public import proofs.«01_k».proof.Proof.FfnIdealTile
public import Idealize.ShloMosaic.Lib.Pointwise
public import Idealize.ShloMosaic.Lib.Pipeline.Value
public import Idealize.ShloMosaic.PureOps.Ideal.Laws

@[expose] public section

set_option maxRecDepth 16384

noncomputable section

namespace Cert.Expert

open Idealize.ShloMosaic

/-- Hidden unit `f` of a token `x`: its product with the first weights, plus the bias. -/
def hidden (x : Fin 1024 → EReal) (w : Fin 1024 → Fin 2048 → EReal) (b : Fin 2048 → EReal) (f : Fin 2048) : EReal :=
  (∑ e : Fin 1024, x e * w e f) + b f

/-- The clamped gate half. -/
def clampTop (g : EReal) : EReal := min g (Ideal.ofBits .f32 0x40E00000#32)

/-- The clamped gated unit of a gate value and a linear value. -/
def gated (g l : EReal) : EReal :=
  clampTop g * Ideal.div 1 (1 + Ideal.exp (-(Ideal.ofBits .f32 0x3FD9DB23#32 * clampTop g)))
    * (min (Ideal.ofBits .f32 0x40E00000#32) (max (Ideal.ofBits .f32 0xC0E00000#32) l) + 1)

/-- Unit `f` of the activation: the gate is the first half of the hidden units, the linear part the second. -/
def activation (x : Fin 1024 → EReal) (w : Fin 1024 → Fin 2048 → EReal) (b : Fin 2048 → EReal) (f : Fin 1024) : EReal :=
  gated (hidden x w b ⟨f.val, by omega⟩) (hidden x w b ⟨1024 + f.val, by omega⟩)

/-- Column `d` of the expert's result for a token. -/
def result (x : Fin 1024 → EReal) (w1 : Fin 1024 → Fin 2048 → EReal) (b1 : Fin 2048 → EReal)
    (w2 : Fin 1024 → Fin 1024 → EReal) (b2 : Fin 1024 → EReal) (d : Fin 1024) : EReal :=
  (∑ f : Fin 1024, activation x w1 b1 f * w2 f d) + b2 d

end Cert.Expert

namespace Cert.KernelIdeal.Ffn

open Idealize.ShloMosaic Idealize.ShloMosaic.TcCoe Idealize.ShloMosaic.Tactic
open Cert.KernelIdeal.Gen Cert.Expert

/-- The two exponent scales are each other's negation. -/
theorem scale_neg : Ideal.ofBits .f32 0xBFD9DB23#32 = -(Ideal.ofBits .f32 0x3FD9DB23#32 : EReal) := by
  simp [Ideal.ofBits, Ideal.ieee, -EReal.coe_mul, -EReal.coe_neg]
  try norm_num

/-- A hidden unit of row `r`, from the eight strips. -/
theorem pay2_strips (x0 : Vec Ideal S2048x128 .f32) (x1 : Vec Ideal S1x1024x2048 .bf16) (x2 : Vec Ideal S1x1x2048 .f32)
    (r : Fin 256) (f : Fin 2048) :
    k0_pay2 (strip 0 x0) (strip 1 x0) (strip 2 x0) (strip 3 x0) (strip 4 x0) (strip 5 x0) (strip 6 x0) (strip 7 x0) x1 x2 (ix2 r f)
      = Expert.hidden (fun e => x0 (ix2 ⟨8 * r.val + e.val / 128, by omega⟩ ⟨e.val % 128, by omega⟩)) (fun e f => x1 (ix3 0 e f))
          (fun f => x2 (ix3 0 0 f)) f := by
  pointwise [k0_pay2, Expert.hidden]
  congr 1
  refine Finset.sum_congr rfl fun e _ => ?_
  congr 1
  have at_row : ∀ (k : Fin 8) (n : Nat) (h : n < 128), e.val = 128 * k.val + n → strip k x0 (ix2 r ⟨n, h⟩)
      = x0 (ix2 ⟨8 * r.val + e.val / 128, by omega⟩ ⟨e.val % 128, by omega⟩) := by
    intro k n h hk
    unfold strip
    refine congrArg x0 (funext fun a => ?_)
    match a with
    | 0 => exact Fin.ext (show 8 * r.val + k.val = 8 * r.val + e.val / 128 by omega)
    | 1 => exact Fin.ext (show n = e.val % 128 by omega)
  split
  · exact at_row 0 _ _ (by show e.val = 128 * 0 + _; omega)
  split
  · exact at_row 1 _ _ (by show e.val = 128 * 1 + _; omega)
  split
  · exact at_row 2 _ _ (by show e.val = 128 * 2 + _; omega)
  split
  · exact at_row 3 _ _ (by show e.val = 128 * 3 + _; omega)
  split
  · exact at_row 4 _ _ (by show e.val = 128 * 4 + _; omega)
  split
  · exact at_row 5 _ _ (by show e.val = 128 * 5 + _; omega)
  split
  · exact at_row 6 _ _ (by show e.val = 128 * 6 + _; omega)
  · exact at_row 7 _ _ (by show e.val = 128 * 7 + _; omega)

/-- Row `r` of the tile is the expert's result for the token of that row. -/
theorem tokens_apply (x0 : Vec Ideal S2048x128 .f32) (x1 : Vec Ideal S1x1024x2048 .bf16) (x2 : Vec Ideal S1x1x2048 .f32)
    (x3 : Vec Ideal S1x1024x1024 .bf16) (x4 : Vec Ideal S1x1x1024 .f32) (r : Fin 256) (d : Fin 1024) :
    tokens x0 x1 x2 x3 x4 (ix2 r d)
      = result (fun e => x0 (ix2 ⟨8 * r.val + e.val / 128, by omega⟩ ⟨e.val % 128, by omega⟩)) (fun e f => x1 (ix3 0 e f))
          (fun f => x2 (ix3 0 0 f)) (fun e f => x3 (ix3 0 e f)) (fun f => x4 (ix3 0 0 f)) d := by
  pointwise [tokens, k0_pay7, k0_pay6, k0_pay5, k0_pay3, k0_pay4, result, activation, gated, clampTop]
  simp only [pay2_strips, scale_neg, EReal.neg_mul]

end Cert.KernelIdeal.Ffn

end
-- ==== Proof.FfnRef.lean ====
/- The reference's result at an index: the expert feed-forward of the row's token with the block's expert. -/
module

public import proofs.«01_k».proof.Proof.FfnIdealMath
public import proofs.«01_k».proof.Proof.Gen.ReferenceIdeal.Read
public import Idealize.ShloMosaic.Lib.Routing.Ops

@[expose] public section

set_option maxRecDepth 16384

noncomputable section

namespace Cert.ReferenceIdeal.Ffn

open Idealize.ShloMosaic Idealize.ShloMosaic.TcCoe Idealize.ShloMosaic.Tactic
open Cert.ReferenceIdeal Cert.ReferenceIdeal.Gen Cert.ReferenceIdeal.Read Cert.Expert

/-- Before the block mask, an element is the expert's result for the token of its row, with the gathered weights. -/
theorem v53_apply (x0 : (⟨S544, .i32⟩ : BufTy).Contents (Elt Ideal)) (x2 : (⟨S1114112x128, .f32⟩ : BufTy).Contents (Elt Ideal))
    (x3 : (⟨S32x1024x2048, .f32⟩ : BufTy).Contents (Elt Ideal)) (x4 : (⟨S32x2048, .f32⟩ : BufTy).Contents (Elt Ideal))
    (x5 : (⟨S32x1024x1024, .f32⟩ : BufTy).Contents (Elt Ideal)) (x6 : (⟨S32x1024, .f32⟩ : BufTy).Contents (Elt Ideal))
    (b : Fin 544) (r : Fin 256) (d : Fin 1024) :
    val_main_v53 (F := Ideal) x0 x2 x3 x4 x5 x6 (ix3 b r d)
      = result (fun e => x2 (ix2 ⟨b.val * 2048 + r.val * 8 + e.val / 128, by omega⟩ ⟨e.val % 128, by omega⟩))
          (fun e f => val_main_v7 (F := Ideal) x0 x3 (ix3 b e f)) (fun f => val_main_v15 (F := Ideal) x0 x4 (ix2 b f))
          (fun e f => val_main_v42 (F := Ideal) x0 x5 (ix3 b e f)) (fun f => val_main_v50 (F := Ideal) x0 x6 (ix2 b f)) d := by
  pointwise [val_main_v0, val_main_c, val_main_v1, val_main_v2, val_main_c_0, val_main_v3, val_main_v4, val_main_v5, val_main_v8, val_main_c_1, val_main_v9, val_main_v10, val_main_c_2, val_main_v11, val_main_v12, val_main_v13, val_main_v16, val_main_v17, val_main_v18, val_main_v19, val_main_v20, val_main_cst, val_main_v21, val_main_v22, val_main_cst_3, val_main_cst_4, val_main_call0_v0, val_main_call0_v1, val_main_call0_v2, val_main_call0_v3, val_main_call0_v4, val_main_v23, val_main_cst_5, val_main_v24, val_main_v25, val_main_v26, val_main_v27, val_main_cst_6, val_main_v28, val_main_v29, val_main_cst_7, val_main_v30, val_main_v31, val_main_v32, val_main_cst_8, val_main_v33, val_main_v34, val_main_v35, val_main_c_9, val_main_v36, val_main_v37, val_main_c_10, val_main_v38, val_main_v39, val_main_v40, val_main_v43, val_main_c_11, val_main_v44, val_main_v45, val_main_c_12, val_main_v46, val_main_v47, val_main_v48, val_main_v51, val_main_v52, val_main_v53, result, activation, gated, clampTop, Expert.hidden]
  rfl

/-- Taking whole slabs of a stack by a column of slab numbers: slab `c` of the result is slab `k` of the stack where
    the column holds `k` at row `c`. -/
theorem gather_slab {α : Type} {nb A B n : Nat} (d : GatherDims ⟨3, ![nb, A, B]⟩ ⟨2, ![n, 1]⟩ ⟨3, ![n, A, B]⟩) (hoff : d.offsetDims = [1, 2])
    (hcoll : d.collapsedSliceDims = [0]) (hob : d.operandBatchingDims = [])
    (hsim : d.startIndexMap = [0]) (hivd : d.indexVectorDim = 1) (x : (⟨3, ![nb, A, B]⟩ : Shape).Idx → α) (idx : IVec ⟨2, ![n, 1]⟩ 32)
    (c : Fin n) (y : Fin A) (z : Fin B) (k : Fin nb) (hk : idx (ix2 c (0 : Fin 1)) = BitVec.ofNat 32 k.val) (hnb : nb < 2 ^ 31) :
    Host.gather d x idx (ix3 c y z) = x (ix3 k y z) := by
  have hsl : d.sliceSizes 0 = 1 := d.slice_collapsed 0 (by rw [hcoll]; exact List.mem_singleton.2 rfl)
  obtain ⟨od, cd, obd, sbd, sim, ivd, ss, wf⟩ := d
  dsimp only at hoff hcoll hob hsim hivd hsl
  subst hoff hcoll hob hsim hivd
  unfold Host.gather
  refine congrArg x (funext fun a => Fin.ext ?_)
  match a with
  | 0 =>
    refine Eq.trans (b := min (idx (ix2 c (0 : Fin 1))).toInt.toNat (nb - ss 0)) ?_ ?_
    · have hsi : ∀ D : GatherDims ⟨3, ![nb, A, B]⟩ ⟨2, ![n, 1]⟩ ⟨3, ![n, A, B]⟩, D = ⟨[1, 2], [0], [], sbd, [0], 1, ss, wf⟩ →
          ∀ q, D.siIdx (ix3 c y z) q = ix2 c (0 : Fin 1) := by
        rintro D rfl q
        funext b
        apply Fin.ext
        match b with
        | 0 => rfl
        | 1 => exact Nat.lt_one_iff.1 (Fin.isLt _)
      show min (idx _).toInt.toNat (nb - ss 0) + 0 + 0 = _
      rw [hsi _ rfl]
      rfl
    · rw [hk, hsl, StableHlo.Predicate.toInt_ofNat_small _ (by have := k.isLt; omega)]
      have := k.isLt
      show min ((k.val : Int)).toNat (nb - 1) = k.val
      omega
  | 1 => exact (Nat.zero_add _).trans rfl
  | 2 => exact (Nat.zero_add _).trans rfl

/-- The block's expert number, as the reference normalises it, is the table's entry itself. -/
theorem v6_apply (x0 : (⟨S544, .i32⟩ : BufTy).Contents (Elt Ideal)) (b : Fin 544) (k : Fin 32) (hk : x0 (ix1 b) = BitVec.ofNat 32 k.val) :
    val_main_v6 (F := Ideal) x0 (ix2 b 0) = BitVec.ofNat 32 k.val := by
  pointwise [val_main_v6, val_main_v5, val_main_v4, val_main_v3, val_main_v2, val_main_v1, val_main_c, val_main_c_0]
  rw [hk]
  have hlt := k.isLt
  have h : IntOp.cmpi .slt (BitVec.ofNat 32 k.val) 0#32 = 0#1 := by
    have : ¬ ((BitVec.ofNat 32 k.val).toInt < (0#32 : BitVec 32).toInt) := by
      rw [StableHlo.Predicate.toInt_ofNat_small _ (by omega)]; simp
    unfold IntOp.cmpi BitVec.slt
    rw [decide_eq_false this]
    rfl
  rw [h]
  rfl

section
variable (x0 : (⟨S544, .i32⟩ : BufTy).Contents (Elt Ideal)) (x1 : (⟨S1, .i32⟩ : BufTy).Contents (Elt Ideal)) (x2 : (⟨S1114112x128, .f32⟩ : BufTy).Contents (Elt Ideal))
    (x3 : (⟨S32x1024x2048, .f32⟩ : BufTy).Contents (Elt Ideal)) (x4 : (⟨S32x2048, .f32⟩ : BufTy).Contents (Elt Ideal))
    (x5 : (⟨S32x1024x1024, .f32⟩ : BufTy).Contents (Elt Ideal)) (x6 : (⟨S32x1024, .f32⟩ : BufTy).Contents (Elt Ideal))

/-- The number of blocks in use, read as a scalar. -/
theorem v55_apply : val_main_v55 (F := Ideal) x1 ix0 = x1 (ix1 0) := by
  unfold val_main_v55 shapeCast
  refine congrArg x1 (funext fun a => ?_)
  match a with
  | 0 => exact Subsingleton.elim (α := Fin 1) _ _

/-- The gathered first weights of block `b` are those of its expert `k`; -/
theorem v7_apply (b : Fin 544) (k : Fin 32) (hk : x0 (ix1 b) = BitVec.ofNat 32 k.val) (e : Fin 1024) (f : Fin 2048) :
    val_main_v7 (F := Ideal) x0 x3 (ix3 b e f) = x3 (ix3 k e f) :=
  gather_slab _ rfl rfl rfl rfl rfl x3 _ b e f k (v6_apply x0 b k hk) (by norm_num)

/-- its first bias, -/
theorem v15_apply (b : Fin 544) (k : Fin 32) (hk : x0 (ix1 b) = BitVec.ofNat 32 k.val) (f : Fin 2048) :
    val_main_v15 (F := Ideal) x0 x4 (ix2 b f) = x4 (ix2 k f) :=
  Routing.gather_row (nb := 32) (B := 2048) (n := 544) gather_S32x2048_S544x1_S544x2048_1_0_n_n_0_1_12048 rfl rfl rfl rfl rfl x4 _ b f k (v6_apply x0 b k hk) (by norm_num)

/-- its second weights, -/
theorem v42_apply (b : Fin 544) (k : Fin 32) (hk : x0 (ix1 b) = BitVec.ofNat 32 k.val) (e : Fin 1024) (f : Fin 1024) :
    val_main_v42 (F := Ideal) x0 x5 (ix3 b e f) = x5 (ix3 k e f) :=
  gather_slab _ rfl rfl rfl rfl rfl x5 _ b e f k (v6_apply x0 b k hk) (by norm_num)

/-- and its second bias. -/
theorem v50_apply (b : Fin 544) (k : Fin 32) (hk : x0 (ix1 b) = BitVec.ofNat 32 k.val) (f : Fin 1024) :
    val_main_v50 (F := Ideal) x0 x6 (ix2 b f) = x6 (ix2 k f) :=
  Routing.gather_row (nb := 32) (B := 1024) (n := 544) gather_S32x1024_S544x1_S544x1024_1_0_n_n_0_1_11024 rfl rfl rfl rfl rfl x6 _ b f k (v6_apply x0 b k hk) (by norm_num)

/-- The reference's result in block `b`: the expert's result where the block is in use, zero where it is not. -/
theorem v60_apply (b : Fin 544) (k : Fin 32) (hk : x0 (ix1 b) = BitVec.ofNat 32 k.val) (q : Fin 2048) (l : Fin 128) :
    val_main_v60 (F := Ideal) x0 x1 x2 x3 x4 x5 x6 (ix2 ⟨b.val * 2048 + q.val, by omega⟩ l)
      = if (BitVec.ofNat 32 b.val).toInt < (x1 (ix1 0) : BitVec 32).toInt then
          result (fun e => x2 (ix2 ⟨b.val * 2048 + q.val / 8 * 8 + e.val / 128, by omega⟩ ⟨e.val % 128, by omega⟩))
            (fun e f => x3 (ix3 k e f)) (fun f => x4 (ix2 k f)) (fun e f => x5 (ix3 k e f)) (fun f => x6 (ix2 k f))
            ⟨128 * (q.val % 8) + l.val, by omega⟩
        else 0 := by
  pointwise [val_main_v60, val_main_v59, val_main_v58, val_main_v57, val_main_v56, val_main_v54, val_main_cst_13, val_main_call1_v0, val_main_call1_v1, val_main_call1_v2]
  rw [v55_apply, v53_apply]
  simp only [v7_apply x0 x3 b k hk, v15_apply x0 x4 b k hk, v42_apply x0 x5 b k hk, v50_apply x0 x6 b k hk]
  have hz : (id (constant (F := Ideal) S_ FTy.f32 0#32) ix0 : EReal) = 0 := Ideal.ofBits_zero_f32
  by_cases h : (BitVec.ofNat 32 b.val).toInt < (x1 (ix1 0) : BitVec 32).toInt
  · have hc : IntOp.cmpi .slt (BitVec.ofNat 32 b.val) (x1 (ix1 0)) = 1#1 := by simp [IntOp.cmpi, BitVec.slt, h]
    rw [hc, if_pos h]
    rw [WordCmp.select_one]
    congr 1
    · funext e
      congr 2
      exact Fin.ext (by show b.val * 2048 + (b.val * 2048 + q.val) / 8 % 256 * 8 + e.val / 128 = b.val * 2048 + q.val / 8 * 8 + e.val / 128; omega)
    · exact Fin.ext (by show (b.val * 2048 + q.val) % 8 * 128 + l.val = 128 * (q.val % 8) + l.val; omega)
  · have hc : IntOp.cmpi .slt (BitVec.ofNat 32 b.val) (x1 (ix1 0)) = 0#1 := by simp [IntOp.cmpi, BitVec.slt, h]
    rw [hc, if_neg h]
    exact hz
end

end Cert.ReferenceIdeal.Ffn

end
-- ==== Proof.FfnIdealValue.lean ====
/- The kernel's result array is the reference's function of the arguments. -/
module

public import proofs.«01_k».proof.Proof.FfnIdealOk
public import proofs.«01_k».proof.Proof.FfnIdealMath
public import proofs.«01_k».proof.Proof.FfnRef
public import Idealize.ShloMosaic.Lib.Pipeline.ValueKit

@[expose] public section

set_option maxRecDepth 16384

noncomputable section

namespace Cert.KernelIdeal.Ffn

open Idealize.ShloMosaic Idealize.ShloMosaic.TcCoe Idealize.ShloMosaic.Tactic
open Idealize.SL Idealize.SL.Sem
open Idealize.ShloMosaic.Pipeline (Dat Cfg Window)
open Cert.KernelIdeal.Gen Cert.Expert

variable (m : (ℓ : Loc nD τ sig) → Buf (Elt Ideal) ℓ)

/-- The region finds the first weights as they were launched (the format change is the identity), -/
theorem V_v0 (c : Dev nD) (k : Fin 32) (e : Fin 1024) (f : Fin 2048) :
    V m c main_v0 (ix3 k e f) = m ((c : Thread nD τ).loc main_arg3) (ix3 k e f) := by
  entry_read
  rfl

theorem V_v1 (c : Dev nD) (k : Fin 32) (e : Fin 1024) (f : Fin 1024) :
    V m c main_v1 (ix3 k e f) = m ((c : Thread nD τ).loc main_arg5) (ix3 k e f) := by
  entry_read
  rfl

theorem V_v2 (c : Dev nD) (k : Fin 32) (e : Fin 1) (f : Fin 2048) :
    V m c main_v2 (ix3 k e f) = m ((c : Thread nD τ).loc main_arg4) (ix2 k f) := by
  entry_read
  refine (shapeCast_apply (s := S32x2048) (t := S32x1x2048) (m ((c : Thread nD τ).loc main_arg4)) shapeCasts_S32x2048_S32x1x2048 (ix3 k e f) (ix2 k f) ?_).trans rfl
  rw [Shape.rowMajor_val_two, Shape.rowMajor_val_three]
  show k.val * 2048 + f.val = (k.val * 1 + e.val) * 2048 + f.val
  omega

theorem V_v3 (c : Dev nD) (k : Fin 32) (e : Fin 1) (f : Fin 1024) :
    V m c main_v3 (ix3 k e f) = m ((c : Thread nD τ).loc main_arg6) (ix2 k f) := by
  entry_read
  refine (shapeCast_apply (s := S32x1024) (t := S32x1x1024) (m ((c : Thread nD τ).loc main_arg6)) shapeCasts_S32x1024_S32x1x1024 (ix3 k e f) (ix2 k f) ?_).trans rfl
  rw [Shape.rowMajor_val_two, Shape.rowMajor_val_three]
  show k.val * 1024 + f.val = (k.val * 1 + e.val) * 1024 + f.val
  omega

/-- The grid's one coordinate is the point. -/
theorem coord (t : Fin 544) : (grid0.coords t 0).val = t.val := by
  show t.val / grid0.stride 0 % 544 = t.val
  rw [show grid0.stride 0 = 1 by decide]
  omega

/-- A token block at coordinates. -/
theorem iblk0_apply (hO : Ok m) (c : Dev nD) (t : Fin 544) (q : Fin 2048) (l : Fin 128) :
    iblk m hO c 0 t (ix2 q l) = m ((c : Thread nD τ).loc main_arg2) (ix2 ⟨t.val * 2048 + q.val, by omega⟩ l) := by
  show V m c main_arg2 ((((cfgM m hO).win 0).blk t).view.emb (ix2 q l)) = _
  rw [V_kept m c main_arg2 (by decide) (by decide) (by decide) (by decide)]
  refine congrArg (m ((c : Thread nD τ).loc main_arg2)) (funext (α := Fin 2) fun a => Fin.ext ?_)
  match a with
  | 0 =>
    show (BitVec.ofNat 32 (grid0.coords t 0).val).toNat * 2048 + 1 * q.val = t.val * 2048 + q.val
    rw [coord, BitVec.toNat_ofNat]
    omega
  | 1 => show 0 * 128 + 1 * l.val = l.val; omega

/-- The expert's number, as the index maps read it at point `t`. -/
theorem expert_word (t : Fin 544) (k : Fin 32) (hk : m ((0 : Dev nD).tc.loc main_arg0) (ix1 t) = BitVec.ofNat 32 k.val) :
    ((tbl m).at 0 (Rect.unit (s := S544) (k0_off1 (grid0.coords t)) S1.size (k0_off1_inb (grid0.coords t))) numel1_S1 : BitVec 32).toNat = k.val := by
  rw [at_point]
  have e : (grid0.coords t 0 : Fin 544) = t := Fin.ext (coord t)
  have e' : tbl m 0 = m ((0 : Dev nD).tc.loc main_arg0) := V_kept m 0 main_arg0 (by decide) (by decide) (by decide) (by decide)
  rw [e', e, hk, BitVec.toNat_ofNat]
  have := k.isLt
  omega

/-- The blocks of the expert's weights and biases at coordinates: the first weights, -/
theorem iblk1_apply (hO : Ok m) (c : Dev nD) (t : Fin 544) (k : Fin 32) (hk : m ((0 : Dev nD).tc.loc main_arg0) (ix1 t) = BitVec.ofNat 32 k.val)
    (e : Fin 1024) (f : Fin 2048) :
    iblk m hO c 1 t (ix3 0 e f) = m ((c : Thread nD τ).loc main_arg3) (ix3 k e f) := by
  refine Eq.trans (b := V m c main_v0 (ix3 k e f)) ?_ (V_v0 m c k e f)
  refine congrArg (V m c main_v0) (funext (α := Fin 3) fun a => Fin.ext ?_)
  match a with
  | 0 =>
    show ((tbl m).at 0 (Rect.unit (s := S544) (k0_off1 (grid0.coords t)) S1.size (k0_off1_inb (grid0.coords t))) numel1_S1 : BitVec 32).toNat * 1 + 1 * 0 = k.val
    rw [expert_word m t k hk]
    omega
  | 1 => show 0 * 1024 + 1 * e.val = e.val; omega
  | 2 => show 0 * 2048 + 1 * f.val = f.val; omega

/-- the first bias, -/
theorem iblk2_apply (hO : Ok m) (c : Dev nD) (t : Fin 544) (k : Fin 32) (hk : m ((0 : Dev nD).tc.loc main_arg0) (ix1 t) = BitVec.ofNat 32 k.val)
    (f : Fin 2048) :
    iblk m hO c 2 t (ix3 0 0 f) = m ((c : Thread nD τ).loc main_arg4) (ix2 k f) := by
  refine Eq.trans (b := V m c main_v2 (ix3 k 0 f)) ?_ (V_v2 m c k 0 f)
  refine congrArg (V m c main_v2) (funext (α := Fin 3) fun a => Fin.ext ?_)
  match a with
  | 0 =>
    show ((tbl m).at 0 (Rect.unit (s := S544) (k0_off1 (grid0.coords t)) S1.size (k0_off1_inb (grid0.coords t))) numel1_S1 : BitVec 32).toNat * 1 + 1 * 0 = k.val
    rw [expert_word m t k hk]
    omega
  | 1 => rfl
  | 2 => show 0 * 2048 + 1 * f.val = f.val; omega

/-- the second weights, -/
theorem iblk3_apply (hO : Ok m) (c : Dev nD) (t : Fin 544) (k : Fin 32) (hk : m ((0 : Dev nD).tc.loc main_arg0) (ix1 t) = BitVec.ofNat 32 k.val)
    (e : Fin 1024) (f : Fin 1024) :
    iblk m hO c 3 t (ix3 0 e f) = m ((c : Thread nD τ).loc main_arg5) (ix3 k e f) := by
  refine Eq.trans (b := V m c main_v1 (ix3 k e f)) ?_ (V_v1 m c k e f)
  refine congrArg (V m c main_v1) (funext (α := Fin 3) fun a => Fin.ext ?_)
  match a with
  | 0 =>
    show ((tbl m).at 0 (Rect.unit (s := S544) (k0_off1 (grid0.coords t)) S1.size (k0_off1_inb (grid0.coords t))) numel1_S1 : BitVec 32).toNat * 1 + 1 * 0 = k.val
    rw [expert_word m t k hk]
    omega
  | 1 => show 0 * 1024 + 1 * e.val = e.val; omega
  | 2 => show 0 * 1024 + 1 * f.val = f.val; omega

/-- and the second bias. -/
theorem iblk4_apply (hO : Ok m) (c : Dev nD) (t : Fin 544) (k : Fin 32) (hk : m ((0 : Dev nD).tc.loc main_arg0) (ix1 t) = BitVec.ofNat 32 k.val)
    (f : Fin 1024) :
    iblk m hO c 4 t (ix3 0 0 f) = m ((c : Thread nD τ).loc main_arg6) (ix2 k f) := by
  refine Eq.trans (b := V m c main_v3 (ix3 k 0 f)) ?_ (V_v3 m c k 0 f)
  refine congrArg (V m c main_v3) (funext (α := Fin 3) fun a => Fin.ext ?_)
  match a with
  | 0 =>
    show ((tbl m).at 0 (Rect.unit (s := S544) (k0_off1 (grid0.coords t)) S1.size (k0_off1_inb (grid0.coords t))) numel1_S1 : BitVec 32).toNat * 1 + 1 * 0 = k.val
    rw [expert_word m t k hk]
    omega
  | 1 => rfl
  | 2 => show 0 * 1024 + 1 * f.val = f.val; omega

/-- The result depends on its operands element by element. -/
theorem result_congr {x x' : Fin 1024 → EReal} {w1 w1' : Fin 1024 → Fin 2048 → EReal} {b1 b1' : Fin 2048 → EReal}
    {w2 w2' : Fin 1024 → Fin 1024 → EReal} {b2 b2' : Fin 1024 → EReal} (hx : ∀ e, x e = x' e) (hw1 : ∀ e f, w1 e f = w1' e f)
    (hb1 : ∀ f, b1 f = b1' f) (hw2 : ∀ e f, w2 e f = w2' e f) (hb2 : ∀ f, b2 f = b2' f) (d : Fin 1024) :
    result x w1 b1 w2 b2 d = result x' w1' b1' w2' b2' d := by
  rw [funext hx, funext fun e => funext (hw1 e), funext hb1, funext fun e => funext (hw2 e), funext hb2]

/-- The whole result, as the reference's function of the arguments. -/
def resultOf (c : Dev nD) : S1114112x128.Idx → EReal :=
  ReferenceIdeal.Read.val_main_v60 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The word the guard reads is the count's one entry. -/
theorem count_word (c : Dev nD) : (cntWord c (tbl m 1) : BitVec 32) = m ((0 : Dev nD).tc.loc main_arg1) (ix1 0) := by
  have e' : tbl m 1 = m ((0 : Dev nD).tc.loc main_arg1) := V_kept m 0 main_arg1 (by decide) (by decide) (by decide) (by decide)
  rw [e']
  unfold cntWord
  refine (congrArg (m ((0 : Dev nD).tc.loc main_arg1)) (funext (α := Fin 1) fun a => ?_))
  match a with
  | 0 => exact Fin.ext rfl

/-- What the body leaves at point `t` is the reference's rows of block `t`. -/
theorem outBlk_apply (hO : Ok m) (c : Dev nD) (hk : ∀ b : Fin 544, ∃ k : Fin 32, m ((0 : Dev nD).tc.loc main_arg0) (ix1 b) = BitVec.ofNat 32 k.val)
    (t : Fin 544) (q : Fin 2048) (l : Fin 128) :
    outBlk m hO c t (ix2 q l) = resultOf m c (ix2 ⟨t.val * 2048 + q.val, by omega⟩ l) := by
  obtain rfl : c = 0 := Subsingleton.elim _ _
  obtain ⟨k, hkt⟩ := hk t
  rw [resultOf, ReferenceIdeal.Ffn.v60_apply _ _ _ _ _ _ _ t k hkt q l]
  have hu : isUsed (grid0.coords t) (cntWord (0 : Dev nD) (tbl m 1))
      = ((BitVec.ofNat 32 t.val).toInt < (m ((0 : Dev nD).tc.loc main_arg1) (ix1 0) : BitVec 32).toInt) := by
    rw [isUsed_eq, coord, count_word]
  by_cases h : (BitVec.ofNat 32 t.val).toInt < (m ((0 : Dev nD).tc.loc main_arg1) (ix1 0) : BitVec 32).toInt
  · rw [outBlk_used m hO 0 t (hu ▸ h), if_pos h]
    refine Eq.trans (b := tokens (iblk m hO 0 0 t) (iblk m hO 0 1 t) (iblk m hO 0 2 t) (iblk m hO 0 3 t) (iblk m hO 0 4 t)
      (ix2 ⟨q.val / 8, by omega⟩ ⟨128 * (q.val % 8) + l.val, by omega⟩)) ?_ ?_
    · unfold tiled
      refine congrArg (tokens _ _ _ _ _) (funext (α := Fin 2) fun a => ?_)
      match a with
      | 0 => rfl
      | 1 => rfl
    refine (tokens_apply (iblk m hO 0 0 t) (iblk m hO 0 1 t) (iblk m hO 0 2 t) (iblk m hO 0 3 t) (iblk m hO 0 4 t) _ _).trans ?_
    refine result_congr (fun e => ?_) (fun e f => iblk1_apply m hO 0 t k hkt e f) (fun f => iblk2_apply m hO 0 t k hkt f)
      (fun e f => iblk3_apply m hO 0 t k hkt e f) (fun f => iblk4_apply m hO 0 t k hkt f) _
    refine (iblk0_apply m hO 0 t _ _).trans (congrArg (m ((0 : Dev nD).tc.loc main_arg2)) ?_)
    refine congrArg (fun z : Fin 1114112 => ix2 z _) (Fin.ext ?_)
    exact (by show t.val * 2048 + (8 * (q.val / 8) + e.val / 128) = t.val * 2048 + q.val / 8 * 8 + e.val / 128; omega)
  · rw [outBlk_spare m hO 0 t (hu ▸ h), if_neg h]
    exact Ideal.ofBits_zero_f32

/-- The result array after the run. -/
theorem array (hO : Ok m) (c : Dev nD) (hk : ∀ b : Fin 544, ∃ k : Fin 32, m ((0 : Dev nD).tc.loc main_arg0) (ix1 b) = BitVec.ofNat 32 k.val) :
    (dats m hO 0 c).arrAt 5 (cfgM m hO).N = resultOf m c := by
  have hemb : ∀ (t : Fin 544) (y : S2048x128.Idx), (((cfgM m hO).win 5).blk t).view.emb y
      = ix2 (⟨t.val * 2048 + (y 0).val, by have : (y 0).val < 2048 := (y 0).isLt; omega⟩ : Fin 1114112) (y 1 : Fin 128) := by
    intro t y
    refine funext (α := Fin 2) fun a => Fin.ext ?_
    match a with
    | 0 =>
      show (BitVec.ofNat 32 (grid0.coords t 0).val).toNat * 2048 + 1 * (y 0).val = t.val * 2048 + (y 0).val
      rw [coord, BitVec.toNat_ofNat]
      omega
    | 1 => show 0 * 128 + 1 * (y 1).val = (y 1).val; omega
  have hix : ∀ y : S2048x128.Idx, y = ix2 (y 0) (y 1) := fun y => funext (α := Fin 2) fun a => by
    match a with
    | 0 => rfl
    | 1 => rfl
  refine (dats m hO 0 c).arrAt_eq_of_emb 5 (resultOf m c) (fun (t : Fin 544) hf (y : S2048x128.Idx) => ?_) fun (i : S1114112x128.Idx) => ?_
  · have h := outBlk_apply m hO c hk t (y 0) (y 1)
    have h' : outBlk m hO c t y = resultOf m c ((((cfgM m hO).win 5).blk t).view.emb y) :=
      ((congrArg (outBlk m hO c t) (hix y)).trans h).trans (congrArg (resultOf m c) (hemb t y).symm)
    refine Eq.trans (b := outBlk m hO c t y) ?_ h'
    exact congrFun (after_out m hO c t) y
  · have h0 : (i 0).val < 1114112 := (i 0).isLt
    have ht : (i 0).val / 2048 < 544 := by omega
    refine ⟨⟨(i 0).val / 2048, ht⟩, flush_out (adm m hO) _, ?_⟩
    have e : i = (((cfgM m hO).win 5).blk ⟨(i 0).val / 2048, ht⟩).view.emb
        (ix2 (⟨(i 0).val % 2048, by omega⟩ : Fin 2048) (i 1 : Fin 128)) := by
      refine Eq.trans (b := (ix2 (⟨(i 0).val / 2048 * 2048 + (i 0).val % 2048, by omega⟩ : Fin 1114112) (i 1 : Fin 128) : S1114112x128.Idx)) ?_
        (hemb ⟨(i 0).val / 2048, ht⟩ (ix2 (⟨(i 0).val % 2048, by omega⟩ : Fin 2048) (i 1 : Fin 128))).symm
      refine funext (α := Fin 2) fun a => Fin.ext ?_
      match a with
      | 0 => show (i 0).val = (i 0).val / 2048 * 2048 + (i 0).val % 2048; omega
      | 1 => rfl
    exact (congrArg (· ∈ (((cfgM m hO).win 5).blk ⟨(i 0).val / 2048, ht⟩).view.set) e).mpr
      (Finset.mem_map_of_mem _ (Finset.mem_univ _))

end Cert.KernelIdeal.Ffn

end
-- ==== Proof.FfnClaims.lean ====
/- The expert feed-forward's claims: both readings of the kernel and the reference run and leave their arguments as they
   were, and kernel and reference end with equal results over the extended reals. -/
module

public import proofs.«01_k».proof.Defs
public import proofs.«01_k».proof.Proof.FfnBitsOk
public import proofs.«01_k».proof.Proof.FfnIdealValue
public import Idealize.ShloMosaic.Lib.Quiescent

@[expose] public section

noncomputable section

namespace Cert.Proof.Ffn

open Idealize.ShloMosaic Idealize.ShloMosaic.TcCoe Idealize.ShloMosaic.Tactic Idealize.SL.Sem

/-- The precondition gives each block an expert's number, -/
theorem experts_bits (m : (ℓ : Loc Kernel.nD Kernel.τ Kernel.sig) → Buf (Elt Bits) ℓ) (h : Cert.Pre_Kernel m) (b : Fin 544) :
    ∃ k : Fin 32, m ((0 : Dev Kernel.nD).tc.loc Kernel.main_arg0) (ix1 b) = BitVec.ofNat 32 k.val :=
  Kernel.Ffn.expert_of_pre _ _ _ _ _ _ _ (h 0) b

/-- in either reading. -/
theorem experts_ideal (m : (ℓ : Loc KernelIdeal.nD KernelIdeal.τ KernelIdeal.sig) → Buf (Elt Ideal) ℓ) (h : Cert.Pre_KernelIdeal m)
    (b : Fin 544) : ∃ k : Fin 32, m ((0 : Dev KernelIdeal.nD).tc.loc KernelIdeal.main_arg0) (ix1 b) = BitVec.ofNat 32 k.val :=
  KernelIdeal.Ffn.expert_of_pre _ _ _ _ _ _ _ (h 0) b

/-- So every block lies inside its array, -/
theorem ok_bits (m : (ℓ : Loc Kernel.nD Kernel.τ Kernel.sig) → Buf (Elt Bits) ℓ) (h : Cert.Pre_Kernel m) : Kernel.Ffn.Ok m :=
  Kernel.Ffn.ok_of_experts _ fun b => by
    have e : Kernel.Ffn.tbl m 0 = m ((0 : Dev Kernel.nD).tc.loc Kernel.main_arg0) :=
      Kernel.Ffn.V_kept m 0 Kernel.main_arg0 (by decide) (by decide) (by decide) (by decide)
    rw [e]; exact experts_bits m h b

/-- in either reading. -/
theorem ok_ideal (m : (ℓ : Loc KernelIdeal.nD KernelIdeal.τ KernelIdeal.sig) → Buf (Elt Ideal) ℓ) (h : Cert.Pre_KernelIdeal m) :
    KernelIdeal.Ffn.Ok m :=
  KernelIdeal.Ffn.ok_of_experts _ fun b => by
    have e : KernelIdeal.Ffn.tbl m 0 = m ((0 : Dev KernelIdeal.nD).tc.loc KernelIdeal.main_arg0) :=
      KernelIdeal.Ffn.V_kept m 0 KernelIdeal.main_arg0 (by decide) (by decide) (by decide) (by decide)
    rw [e]; exact experts_ideal m h b

theorem frame_bits : Cert.quiescent_Kernel := fun m ρ h => Kernel.Ffn.frame m ρ (ok_bits m h)

theorem frame_ideal : Cert.quiescent_KernelIdeal := fun m ρ h => KernelIdeal.Ffn.frame m ρ (ok_ideal m h)

/-- The reference declares no counter, so none is left above zero. -/
theorem frame_reference : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

theorem algebraic : Cert.algebraic_KernelIdeal_ReferenceIdeal := fun m ρ m' ρ' hpre hagree => by
  have hO := ok_ideal m hpre
  refine ⟨fun c => KernelIdeal.Ffn.resultOf m c,
    (θ_run KernelIdeal.defs _ _).mono (fun r h c => ⟨?_, h.1.1 c⟩) (θ_run_and (KernelIdeal.Ffn.frame m ρ hO) (KernelIdeal.Ffn.run_arrays m ρ hO)),
    (θ_run ReferenceIdeal.defs _ _).mono (fun r h c => ⟨(h c).1.trans ?_, (h c).2⟩) (ReferenceIdeal.Value.run (F := Ideal) m' ρ')⟩
  · exact ((h.2 c).1 5).trans (KernelIdeal.Ffn.array m hO c (experts_ideal m hpre))
  · obtain ⟨h0, h1, h2, h3, h4, h5, h6⟩ := hagree c
    refine (ReferenceIdeal.Read.val_main_v60_eq m' c).trans ?_
    rw [h0, h1, h2, h3, h4, h5, h6]
    rfl

end Cert.Proof.Ffn

end
-- ==== Proof.ProjIdealBody.lean ====
/- The input projection at one grid point: at a sequence's first point the rows are scaled and shifted into the second
   result's block, eight chunks of 256 rows; at every point the block's product with a column tile is stored. -/
module

public import proofs.«01_k».proof.Proof.Gen.Kernel2Ideal.Loops
public import proofs.«01_k».proof.Proof.Gen.Kernel2Ideal.Frame
public import Idealize.ShloMosaic.Lib.VecWindow

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- Row `k` of a sequence's six modulation rows. -/
def modRow (k : Fin 6) (x1 : Vec F S1x6x1024 .f32) : Vec F S1x1x1024 .f32 := fun j =>
  x1 (fun | 0 => ⟨0, Nat.one_pos⟩ | 1 => ⟨k.val, k.isLt⟩ | 2 => ⟨(j 2).val, (j 2).isLt⟩)

/-- Chunk `k` of 256 rows of a sequence. -/
def chunk (k : Fin 8) (x0 : Vec F S1x2048x1024 .f32) : Vec F S1x256x1024 .f32 := fun j =>
  x0 (fun | 0 => ⟨0, Nat.one_pos⟩
          | 1 => ⟨256 * k.val + (j 1).val, by have := (j 1).isLt; have := k.isLt; simp at *; omega⟩
          | 2 => ⟨(j 2).val, (j 2).isLt⟩)

/-- The sequence scaled and shifted by its modulation rows, chunk by chunk. -/
def modulated (x0 : Vec F S1x2048x1024 .f32) (x1 : Vec F S1x6x1024 .f32) : Vec F S1x2048x1024 .bf16 := fun y =>
  k0_pay1 (modRow 0 x1) (modRow 1 x1) (chunk ⟨(y 1).val / 256, by have := (y 1).isLt; simp at this ⊢; omega⟩ x0)
    (fun | 0 => ⟨0, Nat.one_pos⟩ | 1 => ⟨(y 1).val % 256, Nat.mod_lt _ (by decide)⟩ | 2 => ⟨(y 2).val, (y 2).isLt⟩)

section Body

variable (c : Dev nD) (i : grid0.Coords)
  (a2 : Memref sig .tc .vmem S1x2048x1024 .f32) (h2 : a2.IsWhole)
  (a3 : Memref sig .tc .vmem S1x6x1024 .f32) (h3 : a3.IsWhole)
  (a4 : Memref sig .tc .vmem S1024x512 .bf16) (h4 : a4.IsWhole)
  (a5 : Memref sig .tc .vmem S1x2048x512 .bf16) (h5 : a5.IsWhole)
  (a6 : Memref sig .tc .vmem S1x2048x1024 .bf16) (h6 : a6.IsWhole)
  (x0 : Vec F S1x2048x1024 .f32) (x1 : Vec F S1x6x1024 .f32) (x2 : Vec F S1024x512 .bf16) (u : Vec F S1x2048x1024 .bf16)

/-- What one trip stores: its chunk of rows, scaled and shifted. -/
theorem trip_pieces (hc : k0_cond1 i = 1#1) (v12 v14 : Vec F S1x1x1024 .f32) (k : Fin k0_t1_loop.trips) (X : BufTy.Contents (Elt F) a2.view.ty) :
    tripL_k0_t1 (F := F) Variants.none c none i a2 h2 a3 h3 a4 h4 a5 h5 a6 h6 hc v12 v14 X k
      = [⟨Rect.unit (s := S1x2048x1024) (k0_off1 k) S1x256x1024.size (k0_off1_inb i k hc),
          k0_pay1 v12 v14 (a2.view.readAt (Elt F) (Rect.unit (s := S1x2048x1024) (k0_off1 k) S1x256x1024.size (k0_off1_inb i k hc)).toLoadRect X)⟩] := by
  unfold tripL_k0_t1 trip_k0_t1
  rfl

/-- A chunk's rectangle, its offsets in closed form, and the load it makes of a whole buffer. -/
theorem read_chunk (k : Fin 8) (off : Fin 3 → Nat) (ho : off = ![0, 256 * k.val, 0]) (inb : ∀ a, off a + S1x256x1024.size a ≤ S1x2048x1024.size a) :
    a2.view.readAt (Elt F) (Rect.unit (s := S1x2048x1024) off S1x256x1024.size inb).toLoadRect (h2.unread x0) = chunk k x0 := by
  subst ho
  funext j
  rw [View.readAt_apply, h2.read_unread]
  unfold chunk
  congr 1
  funext a
  apply Fin.ext
  match a with
  | 0 => have := (j 0).isLt
         show 0 + 1 * (j 0).val = 0; simp at this; omega
  | 1 => show 256 * k.val + 1 * (j 1).val = 256 * k.val + (j 1).val; omega
  | 2 => show 0 + 1 * (j 2).val = (j 2).val; omega

/-- A load of one modulation row of a whole buffer. -/
theorem read_row (k : Fin 6) (inb : ∀ a, (![0, k.val, 0] : Fin 3 → Nat) a + S1x1x1024.size a ≤ S1x6x1024.size a) :
    a3.view.readAt (Elt F) (Rect.unit (s := S1x6x1024) ![0, k.val, 0] S1x1x1024.size inb).toLoadRect (h3.unread x1) = modRow k x1 := by
  funext j
  rw [View.readAt_apply, h3.read_unread]
  unfold modRow
  congr 1
  funext a
  apply Fin.ext
  match a with
  | 0 => have := (j 0).isLt
         show 0 + 1 * (j 0).val = 0; simp at this; omega
  | 1 => have := (j 1).isLt
         show k.val + 1 * (j 1).val = k.val; simp at this; omega
  | 2 => show 0 + 1 * (j 2).val = (j 2).val; omega

/-- A chunk's result is the modulated sequence under the chunk's rectangle. -/
theorem chunk_modulated (k : Fin 8) (off : Fin 3 → Nat) (ho : off = ![0, 256 * k.val, 0]) (inb : ∀ a, off a + S1x256x1024.size a ≤ S1x2048x1024.size a)
    (x : S1x256x1024.Idx) :
    k0_pay1 (modRow 0 x1) (modRow 1 x1) (chunk k x0) x
      = modulated x0 x1 ((Rect.unit (s := S1x2048x1024) off S1x256x1024.size inb).emb x) := by
  subst ho
  have b0 := (x 0).isLt
  have b1 := (x 1).isLt
  simp at b0 b1
  have e1 : (((Rect.unit (s := S1x2048x1024) ![0, 256 * k.val, 0] S1x256x1024.size inb).emb x) 1).val = 256 * k.val + 1 * (x 1).val := rfl
  have e2 : (((Rect.unit (s := S1x2048x1024) ![0, 256 * k.val, 0] S1x256x1024.size inb).emb x) 2).val = 0 + 1 * (x 2).val := rfl
  unfold modulated
  have hk : (⟨(((Rect.unit (s := S1x2048x1024) ![0, 256 * k.val, 0] S1x256x1024.size inb).emb x) 1).val / 256, by rw [e1]; have := k.isLt; omega⟩ : Fin 8) = k :=
    Fin.ext (by show _ / 256 = _; rw [e1]; omega)
  rw [hk]
  refine congrArg _ (funext fun a => Fin.ext ?_)
  match a with
  | 0 => show (x 0).val = 0; omega
  | 1 => show (x 1).val = _ % 256; rw [e1]; omega
  | 2 => show (x 2).val = _; rw [e2]; omega

/-- A chunk's rectangle holds its 256 rows. -/
theorem mem_chunk (y : S1x2048x1024.Idx) (k : Fin 8) (off : Fin 3 → Nat) (ho : off = ![0, 256 * k.val, 0])
    (inb : ∀ a, off a + S1x256x1024.size a ≤ S1x2048x1024.size a) (hlo : 256 * k.val ≤ (y 1).val) (hhi : (y 1).val < 256 * k.val + 256) :
    y ∈ (Rect.unit (s := S1x2048x1024) off S1x256x1024.size inb).set := by
  subst ho
  refine Rect.mem_set_unit.mpr fun a => ?_
  match a with
  | 0 => exact ⟨Nat.zero_le _, by show (y 0).val < 0 + 1; have := (y 0).isLt; simp at this; omega⟩
  | 1 => exact ⟨hlo, hhi⟩
  | 2 => exact ⟨Nat.zero_le _, by show (y 2).val < 0 + 1024; have := (y 2).isLt; simp at this; omega⟩

/-- Every piece of the first `n` chunks is the modulated sequence under its rectangle, and they cover the first
    `256 n` rows. -/
theorem pieces_modulated (hc : k0_cond1 i = 1#1) : ∀ n, n ≤ k0_t1_loop.trips →
    (∀ p ∈ pb_k0_t1 (F := F) Variants.none c none i a2 h2 a3 h3 a4 h4 a5 h5 a6 h6 hc (modRow 0 x1) (modRow 1 x1) (h2.unread x0) n,
        ∀ x : p.1.shape.Idx, p.2 x = modulated x0 x1 (p.1.emb x))
    ∧ ∀ y : S1x2048x1024.Idx, (y 1).val < 256 * n →
        ∃ p ∈ pb_k0_t1 (F := F) Variants.none c none i a2 h2 a3 h3 a4 h4 a5 h5 a6 h6 hc (modRow 0 x1) (modRow 1 x1) (h2.unread x0) n, y ∈ p.1.set
  | 0, _ => ⟨fun p hp => absurd hp List.not_mem_nil, fun y hy => absurd hy (Nat.not_lt_zero _)⟩
  | n + 1, hn => by
    obtain ⟨ihv, ihc⟩ := pieces_modulated hc n (Nat.le_of_lt hn)
    have h8 : n < 8 := Nat.lt_of_lt_of_le hn k0_t1_abs.2.1
    have ho := k0_off1_eq ⟨n, hn⟩
    have hs := pb_k0_t1_succ (F := F) Variants.none c none i a2 h2 a3 h3 a4 h4 a5 h5 a6 h6 hc (modRow 0 x1) (modRow 1 x1) (h2.unread x0) ⟨n, hn⟩
    rw [trip_pieces] at hs
    simp only [List.singleton_append] at hs
    rw [hs]
    refine ⟨fun p hp => ?_, fun y hy => ?_⟩
    · rcases List.mem_cons.mp hp with rfl | hp
      · intro x
        dsimp only
        rw [read_chunk a2 h2 x0 ⟨n, h8⟩ _ ho]
        exact chunk_modulated x0 x1 ⟨n, h8⟩ _ ho _ x
      · exact ihv p hp
    · by_cases hy' : (y 1).val < 256 * n
      · obtain ⟨p, hp, hm⟩ := ihc y hy'
        exact ⟨p, List.mem_cons_of_mem _ hp, hm⟩
      · refine ⟨_, List.mem_cons_self, ?_⟩
        exact mem_chunk y ⟨n, h8⟩ _ ho (k0_off1_inb i ⟨n, hn⟩ hc) (by show 256 * n ≤ _; omega) (by show _ < 256 * n + 256; omega)

/-- After the eight chunks the block holds the modulated sequence, whatever it held. -/
theorem read_modulated (hc : k0_cond1 i = 1#1) (n : ℕ) (hn : n = k0_t1_loop.trips) (f : a6.view.ty.Contents (Elt F)) :
    a6.view.read (Elt F) (a6.view.writes (Elt F) f
      (pb_k0_t1 (F := F) Variants.none c none i a2 h2 a3 h3 a4 h4 a5 h5 a6 h6 hc (modRow 0 x1) (modRow 1 x1) (h2.unread x0) n)) = modulated x0 x1 := by
  subst hn
  funext y
  have h := pieces_modulated c i a2 h2 a3 h3 a4 h4 a5 h5 a6 h6 x0 x1 hc k0_t1_loop.trips (Nat.le_refl _)
  refine View.read_writes_apply_of_pieces _ _ _ _ h.1 y (h.2 y ?_)
  have := (y 1).isLt
  have ht : k0_t1_loop.trips = 8 := by decide
  rw [ht]; simp at this; omega

set_option maxHeartbeats 2000000 in
/-- A later point of a sequence: the block of scaled rows is kept and its product with the column tile stored. -/
theorem run_later (hc : ¬ k0_cond1 i = 1#1) (E : Set ℕ) (K : PUnit → sProp 𝕄) :
    iprop((owns (c : Thread nD τ) a2 fullShare x0 ∗ owns (c : Thread nD τ) a3 fullShare x1 ∗ owns (c : Thread nD τ) a4 fullShare x2)
        ∗ (∃ d, owns (c : Thread nD τ) a5 fullShare d) ∗ owns (c : Thread nD τ) a6 fullShare u
        ∗ (iprop((owns (c : Thread nD τ) a2 fullShare x0 ∗ owns (c : Thread nD τ) a3 fullShare x1 ∗ owns (c : Thread nD τ) a4 fullShare x2)
            ∗ owns (c : Thread nD τ) a5 fullShare (k0_pay2 u x2) ∗ owns (c : Thread nD τ) a6 fullShare u) -∗ K ⟨⟩))
      ⊢ wp frame (wpE (defs₀ (F := F)) Variants.none c none) E (cc0_inproj_nat i a2 h2 a3 h3 a4 h4 a5 h5 a6 h6) K := by
  simp only [cc0_inproj_nat_eq_skeleton]; unfold cc0_inproj_nat_skel
  unfold owns
  iintro ⟨⟨⟨%f0, %hf0, H0⟩, ⟨%f1, %hf1, H1⟩, ⟨%f2, %hf2, H2⟩⟩, ⟨%d3, %f3, -, H3⟩, ⟨%f4, %hf4, H4⟩, Hk⟩
  obtain rfl := h2.eq_unread hf0; obtain rfl := h3.eq_unread hf1; obtain rfl := h4.eq_unread hf2; obtain rfl := h6.eq_unread hf4
  sl_exec (disch := sl_exact hc)
  sl_step
  iapply Hk
  isplitl [H0 H1 H2]
  · isplitl [H0]; · iexists _; isplitr; · ipureintro; exact h2.read_unread _
                    iexact H0
    isplitl [H1]; · iexists _; isplitr; · ipureintro; exact h3.read_unread _
                    iexact H1
    iexists _; isplitr; · ipureintro; exact h4.read_unread _
    iexact H2
  isplitl [H3]
  · iexists _; isplitr
    swap; · iexact H3
    ipureintro
    rw [View.readAt_full, View.readAt_full, h6.read_unread, h4.read_unread]
    exact View.read_writes_full _ _ _ _ _
  · iexists _; isplitr; · ipureintro; exact h6.read_unread _
    iexact H4

set_option maxHeartbeats 2000000 in
/-- A sequence's first point: the scaled rows are stored, and their product with the first column tile. -/
theorem run_first (hc : k0_cond1 i = 1#1) (E : Set ℕ) (K : PUnit → sProp 𝕄) :
    iprop((owns (c : Thread nD τ) a2 fullShare x0 ∗ owns (c : Thread nD τ) a3 fullShare x1 ∗ owns (c : Thread nD τ) a4 fullShare x2)
        ∗ (∃ d, owns (c : Thread nD τ) a5 fullShare d) ∗ (∃ d, owns (c : Thread nD τ) a6 fullShare d)
        ∗ (iprop((owns (c : Thread nD τ) a2 fullShare x0 ∗ owns (c : Thread nD τ) a3 fullShare x1 ∗ owns (c : Thread nD τ) a4 fullShare x2)
            ∗ owns (c : Thread nD τ) a5 fullShare (k0_pay2 (modulated x0 x1) x2) ∗ owns (c : Thread nD τ) a6 fullShare (modulated x0 x1)) -∗ K ⟨⟩))
      ⊢ wp frame (wpE (defs₀ (F := F)) Variants.none c none) E (cc0_inproj_nat i a2 h2 a3 h3 a4 h4 a5 h5 a6 h6) K := by
  simp only [cc0_inproj_nat_eq_skeleton]; unfold cc0_inproj_nat_skel
  unfold owns
  iintro ⟨⟨⟨%f0, %hf0, H0⟩, ⟨%f1, %hf1, H1⟩, ⟨%f2, %hf2, H2⟩⟩, ⟨%d3, %f3, -, H3⟩, ⟨%d4, %f4, -, H4⟩, Hk⟩
  obtain rfl := h2.eq_unread hf0; obtain rfl := h3.eq_unread hf1; obtain rfl := h4.eq_unread hf2
  sl_exec (disch := sl_exact hc)
  sl_step
  iapply Hk
  isplitl [H0 H1 H2]
  · isplitl [H0]; · iexists _; isplitr; · ipureintro; exact h2.read_unread _
                    iexact H0
    isplitl [H1]; · iexists _; isplitr; · ipureintro; exact h3.read_unread _
                    iexact H1
    iexists _; isplitr; · ipureintro; exact h4.read_unread _
    iexact H2
  isplitl [H3]
  · iexists _; isplitr
    swap; · iexact H3
    ipureintro
    have r0 := read_row a3 h3 x1 0 inb_S1x6x1024_S1x1x1024_0_0_0
    have r1 := read_row a3 h3 x1 1 inb_S1x6x1024_S1x1x1024_0_1_0
    unfold run_first.sl.v3
    rw [View.readAt_full, View.readAt_full, h4.read_unread]
    erw [r0, r1]
    rw [read_modulated c i a2 h2 a3 h3 a4 h4 a5 h5 a6 h6 x0 x1 hc _ rfl]
    exact View.read_writes_full _ _ _ _ _
  · iexists _; isplitr
    swap; · iexact H4
    ipureintro
    have r0 := read_row a3 h3 x1 0 inb_S1x6x1024_S1x1x1024_0_0_0
    have r1 := read_row a3 h3 x1 1 inb_S1x6x1024_S1x1x1024_0_1_0
    erw [r0, r1]
    exact read_modulated c i a2 h2 a3 h3 a4 h4 a5 h5 a6 h6 x0 x1 hc _ rfl _

end Body

end Cert.Kernel2Ideal.Proj

end
-- ==== Proof.ProjIdealFrame.lean ====
/- The input projection's frame: over its 160 points the pipeline keeps a sequence's scaled rows in place from the
   sequence's first point to its tenth, stores the ten column tiles of their product, and leaves every argument array
   as it began. -/
module

public import proofs.«01_k».proof.Proof.ProjIdealBody
public import Idealize.ShloMosaic.Lib.Pipeline.TableIdle
public import Idealize.ShloMosaic.Lib.Claim

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a sequence -/

/-- The first point of the sequence that point `t` works on. -/
def firstPt (t : Fin cfg0.N) : Fin cfg0.N := ⟨t.val - t.val % 10, Nat.lt_of_le_of_lt (Nat.sub_le _ _) t.isLt⟩

theorem firstPt_self (t : Fin cfg0.N) (h : t.val % 10 = 0) : firstPt t = t := Fin.ext (by show t.val - t.val % 10 = t.val; omega)

theorem firstPt_pred (t : Fin cfg0.N) (h : t.val % 10 ≠ 0) :
    firstPt ⟨t.val - 1, Nat.lt_of_le_of_lt (Nat.sub_le _ _) t.isLt⟩ = firstPt t :=
  Fin.ext (by show t.val - 1 - (t.val - 1) % 10 = t.val - t.val % 10; omega)

/-- The body stores the scaled rows exactly at a sequence's first point. -/
theorem cond_first : ∀ t : Fin cfg0.N, k0_cond1 (grid0.coords t) = 1#1 ↔ t.val % 10 = 0 := by decide +kernel

theorem idle_first (t : Fin cfg0.N) : cfg0.idle 4 (cfg0.grid.coords t) = !decide (t.val % 10 = 0) := by
  show (!(k0_cond1 (grid0.coords t) == 1#1)) = _
  by_cases h : t.val % 10 = 0
  · rw [(cond_first t).mpr h, decide_eq_true h]; rfl
  · have h' : k0_cond1 (grid0.coords t) ≠ 1#1 := fun e => h ((cond_first t).mp e)
    rw [decide_eq_false h, beq_eq_false_iff_ne.mpr h']

/-- The scaled rows' buffer holds nothing of use exactly before a sequence's first point. -/
theorem fresh_rows (n : ℕ) (hn : n ≤ cfg0.N) : cfg0.fresh 4 n = decide (n % 10 = 0) :=
  cfg0.fresh_tab 4 (fun n => decide (n % 10 = 0)) rfl (fun t => by
    rw [idle_first]
    by_cases h9 : t.val % 10 = 9
    · rw [(flush0_4 t).mpr h9, Bool.true_or, decide_eq_true (show (t.val + 1) % 10 = 0 by omega)]
    · have hf : (cfg0.win 4).flush t = false := Bool.eq_false_iff.mpr fun e => h9 ((flush0_4 t).mp e)
      rw [hf, Bool.false_or, Bool.not_and_self, decide_eq_false (show ¬ (t.val + 1) % 10 = 0 by omega)]) n hn

/-! ## The blocks -/

/-- The scaled rows of the sequence that point `t` works on. -/
def rowsAt (c : Dev nD) (t : Fin cfg0.N) : Vec F S1x2048x1024 .bf16 :=
  modulated (iblk m c 0 (firstPt t)) (iblk m c 1 (firstPt t))

/-- The pipeline's proof data: each input's buffer keeps its block, the first result's ends at the rows' product with
    the column tile, the second's keeps the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]; try rfl
theorem after_mod (c : Dev nD) (t : Fin cfg0.N) : (dats m 0 c).after 1 t = iblk m c 1 t := by dsimp only [dats]; try rfl
theorem after_w (c : Dev nD) (t : Fin cfg0.N) : (dats m 0 c).after 2 t = iblk m c 2 t := by dsimp only [dats]; try rfl
theorem after_proj (c : Dev nD) (t : Fin cfg0.N) : (dats m 0 c).after 3 t = k0_pay2 (rowsAt m c t) (iblk m c 2 t) := by
  dsimp only [dats]; try rfl
theorem after_rows (c : Dev nD) (t : Fin cfg0.N) : (dats m 0 c).after 4 t = rowsAt m c t := by dsimp only [dats]; try rfl

theorem before_x (c : Dev nD) (t : Fin cfg0.N) (d) : (dats m 0 c).before 0 t d = iblk m c 0 t :=
  before0_0_of m (dats m 0 c) (A_eq m c 0) (after_x m c) t d
theorem before_mod (c : Dev nD) (t : Fin cfg0.N) (d) : (dats m 0 c).before 1 t d = iblk m c 1 t :=
  before0_1_of m (dats m 0 c) (A_eq m c 1) (after_mod m c) t d
theorem before_w (c : Dev nD) (t : Fin cfg0.N) (d) : (dats m 0 c).before 2 t d = iblk m c 2 t :=
  before0_2_of m (dats m 0 c) (A_eq m c 2) (after_w m c) t d

/-- Past a sequence's first point the buffer holds the sequence's scaled rows. -/
theorem before_rows (c : Dev nD) (t : Fin cfg0.N) (h : t.val % 10 ≠ 0) (d) : (dats m 0 c).before 4 t d = rowsAt m c t := by
  rw [(dats m 0 c).before_out_traj 4 rfl (fun _ _ => rfl) (fun t' _ _ hf => by
      rw [fresh_rows t'.val (Nat.le_of_lt t'.isLt)] at hf
      rw [after_rows, after_rows]; unfold rowsAt; rw [firstPt_pred t' (of_decide_eq_false hf)]) t.val t rfl d,
    fresh_rows t.val (Nat.le_of_lt t.isLt), decide_eq_false h, if_neg Bool.false_ne_true, after_rows]
  unfold rowsAt; rw [firstPt_pred t h]

/-! ## The body at a point -/

/-- Holding the sequence's rows is all the pipeline asks of the second result's buffer, wherever in the sequence. -/
theorem leaves_rows (c : Dev nD) (t : Fin cfg0.N) :
    owns (c : Thread nD τ) (st0_4 t) fullShare (rowsAt m c t) ⊢ (dats m 0 c).leavesExact 4 t := by
  by_cases h : t.val % 10 = 0
  · have hi : cfg0.idle 4 (cfg0.grid.coords t) = false := by rw [idle_first, decide_eq_true h]; rfl
    have e : (dats m 0 c).leavesExact 4 t = owns (c : Thread nD τ) (st0_4 t) fullShare (rowsAt m c t) := by
      unfold Dat.leavesExact; rw [hi, after_rows]
    rw [e]
  · by_cases h9 : t.val % 10 = 9
    · have hf := (flush0_4 t).mpr h9
      have e : (dats m 0 c).leavesExact 4 t = owns (c : Thread nD τ) (st0_4 t) fullShare (rowsAt m c t) := by
        unfold Dat.leavesExact; rw [hf, after_rows]; cases cfg0.idle 4 (cfg0.grid.coords t) <;> rfl
      rw [e]
    · have hf : (cfg0.win 4).flush t = false := Bool.eq_false_iff.mpr fun e => h9 ((flush0_4 t).mp e)
      have hi : cfg0.idle 4 (cfg0.grid.coords t) = true := by rw [idle_first, decide_eq_false h]; rfl
      rw [(dats m 0 c).leavesExact_idle 4 t hi hf]
      iintro H
      iexists (rowsAt m c t)
      rw [before_rows m c t h]
      iexact H

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 800000 in
/-- The body's triple at any point of a sequence. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_mod, before_w]
  rw [show (dats m 0 c).Φ t.succ = (dats m 0 c).Φ t.castSucc from rfl,
    show (dats m 0 c).owesAt () t.succ = (dats m 0 c).owesAt () t.castSucc from rfl,
    after_x, after_mod, after_w, after_proj]
  have hl := leaves_rows m c t
  by_cases h : t.val % 10 = 0
  · have hr : rowsAt m c t = modulated (iblk m c 0 t) (iblk m c 1 t) := by unfold rowsAt; rw [firstPt_self t h]
    rw [hr] at hl ⊢
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((cond_first t).mpr h) Set.univ _)
    isplitl [H0 H1 H2]
    · isplitl [H0]; · iexact H0
      isplitl [H1]; · iexact H1
      iexact H2
    isplitl [H3]; · iexists _; iexact H3
    isplitl [H4]; · iexists _; iexact H4
    iintro ⟨⟨H0, H1, H2⟩, H3, H4⟩
    isplitl [HΦ]; · iexact HΦ
    isplitl [Ho]; · iexact Ho
    isplitl [H0]; · iexact H0
    isplitl [H1]; · iexact H1
    isplitl [H2]; · iexact H2
    isplitl [H3]; · iexact H3
    iapply hl
    iexact H4
  · have hc : ¬ k0_cond1 (grid0.coords t) = 1#1 := fun e => h ((cond_first t).mp e)
    simp only [before_rows m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (iblk m c 0 t) (iblk m c 1 t) (iblk m c 2 t) (rowsAt m c t) hc Set.univ _)
    isplitl [H0 H1 H2]
    · isplitl [H0]; · iexact H0
      isplitl [H1]; · iexact H1
      iexact H2
    isplitl [H3]; · iexists _; iexact H3
    isplitl [H4]; · iexact H4
    iintro ⟨⟨H0, H1, H2⟩, H3, H4⟩
    isplitl [HΦ]; · iexact HΦ
    isplitl [Ho]; · iexact Ho
    isplitl [H0]; · iexact H0
    isplitl [H1]; · iexact H1
    isplitl [H2]; · iexact H2
    isplitl [H3]; · iexact H3
    iapply hl
    iexact H4

theorem body_row (t : Fin cfg0.N) : defs₀ (F := F) .tc cfg0.body (cfg0.bodyArgs t (cfg0.slots t)) = bodyAt0 t := by
  unfold defs₀; rw [Defs.onTc_tc]

/-- The first result is written back at every point, so its contents are asked for as they are. -/
theorem leaves_proj (c : Dev nD) (t : Fin cfg0.N) :
    (dats m 0 c).leavesExact 3 t = owns (c : Thread nD τ) (st0_3 t) fullShare ((dats m 0 c).after 3 t) := by
  unfold Dat.leavesExact; rw [flush0_3 t]; try cases cfg0.idle 3 (cfg0.grid.coords t) <;> rfl

/-- The body's triple as the pipeline asks for it. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- The launch: every array ends at what the pipeline computes from the proof data, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch's arrays alone. -/
theorem run_arrays : θ_run defs (onTc (τ := τ) (main (F := F))) (s₀ m ρ) (Pipeline.FramePost cfgs (dats m) 0 (V m)) :=
  (θ_run defs _ _).mono (fun _ h => h.1) (run_zero m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_arrays m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_zero m ρ))

end Cert.Kernel2Ideal.Proj

end
-- ==== Proof.ProjIdealValue.lean ====
/- The input projection's two result arrays are the reference's functions of the arguments. -/
module

public import proofs.«01_k».proof.Proof.ProjIdealFrame
public import proofs.«01_k».proof.Proof.Gen.Reference2Ideal.Read
public import Idealize.ShloMosaic.Lib.Pipeline.ValueKit

@[expose] public section

set_option maxRecDepth 16384

noncomputable section

namespace Cert.Projection

open Idealize.ShloMosaic

/-- The column of the input weights that column `n` of the first result multiplies: the head columns 4352 to 7423
    come first, then the columns 2304 to 4351. -/
def column (n : Fin 5120) : Fin 7424 := ⟨if n.val < 3072 then 4352 + n.val else n.val - 768, by split <;> omega⟩

/-- A row scaled and shifted. -/
def scaled (x sh sc : EReal) : EReal := x * (Ideal.ofBits .f32 0x3F800000#32 + sc) + sh

end Cert.Projection

namespace Cert.Reference2Ideal.Proj

open Idealize.ShloMosaic Idealize.ShloMosaic.TcCoe Idealize.ShloMosaic.Tactic
open Cert.Reference2Ideal Cert.Reference2Ideal.Gen Cert.Reference2Ideal.Read Cert.Projection

variable (x0 : (⟨S16x2048x1024, .f32⟩ : BufTy).Contents (Elt Ideal)) (x1 : (⟨S16x6x1024, .f32⟩ : BufTy).Contents (Elt Ideal))
  (x2 : (⟨S1024x7424, .f32⟩ : BufTy).Contents (Elt Ideal))

theorem v17_apply (b : Fin 16) (s : Fin 2048) (e : Fin 1024) :
    val_main_v17 (F := Ideal) x0 x1 (ix3 b s e) = scaled (x0 (ix3 b s e)) (x1 (ix3 b 0 e)) (x1 (ix3 b 1 e)) := by
  pointwise [val_main_v0, val_main_v1, val_main_v2, val_main_v3, val_main_v4, val_main_v5, val_main_cst, val_main_v6, val_main_v7, val_main_v8, val_main_v9, val_main_v10, val_main_v11, val_main_v17, scaled]

theorem v16_apply (b : Fin 16) (s : Fin 2048) (n : Fin 5120) :
    val_main_v16 (F := Ideal) x0 x1 x2 (ix3 b s n)
      = ∑ e : Fin 1024, scaled (x0 (ix3 b s e)) (x1 (ix3 b 0 e)) (x1 (ix3 b 1 e)) * x2 (ix2 e (column n)) := by
  pointwise [val_main_v0, val_main_v1, val_main_v2, val_main_v3, val_main_v4, val_main_v5, val_main_cst, val_main_v6, val_main_v7, val_main_v8, val_main_v9, val_main_v10, val_main_v11, val_main_v12, val_main_v13, val_main_v14, val_main_v15, val_main_v16, scaled]
  unfold column
  split
  · rfl
  · refine Finset.sum_congr rfl fun e _ => congrArg (fun k => _ * x2 (ix2 e k)) (Fin.ext ?_)
    show 2304 + (n.val - 3072) = n.val - 768
    omega

end Cert.Reference2Ideal.Proj

namespace Cert.Kernel2Ideal.Proj

open Idealize.ShloMosaic Idealize.ShloMosaic.TcCoe Idealize.ShloMosaic.Tactic
open Idealize.SL Idealize.SL.Sem
open Idealize.ShloMosaic.Pipeline (Dat Cfg Window)
open Cert.Kernel2Ideal.Gen Cert.Projection

theorem pay1_apply (v12 v14 : Vec Ideal S1x1x1024 .f32) (v22 : Vec Ideal S1x256x1024 .f32) (r : Fin 256) (e : Fin 1024) :
    k0_pay1 v12 v14 v22 (ix3 0 r e) = scaled (v22 (ix3 0 r e)) (v12 (ix3 0 0 e)) (v14 (ix3 0 0 e)) := by
  pointwise [k0_pay1, scaled]

theorem pay2_apply (u : Vec Ideal S1x2048x1024 .bf16) (w : Vec Ideal S1024x512 .bf16) (s : Fin 2048) (n : Fin 512) :
    k0_pay2 u w (ix3 0 s n) = ∑ e : Fin 1024, u (ix3 0 s e) * w (ix2 e n) := by
  pointwise [k0_pay2]

theorem modulated_apply (x0 : Vec Ideal S1x2048x1024 .f32) (x1 : Vec Ideal S1x6x1024 .f32) (s : Fin 2048) (e : Fin 1024) :
    modulated x0 x1 (ix3 0 s e) = scaled (x0 (ix3 0 s e)) (x1 (ix3 0 0 e)) (x1 (ix3 0 1 e)) := by
  unfold modulated
  refine Eq.trans (b := k0_pay1 (modRow 0 x1) (modRow 1 x1) (chunk ⟨s.val / 256, by omega⟩ x0) (ix3 0 ⟨s.val % 256, Nat.mod_lt _ (by decide)⟩ e)) ?_ ?_
  · refine congrArg _ (funext (α := Fin 3) fun a => ?_)
    match a with
    | 0 => rfl
    | 1 => rfl
    | 2 => rfl
  rw [pay1_apply]
  unfold modRow chunk
  refine congr (congr (congrArg scaled (congrArg x0 ?_)) (congrArg x1 ?_)) (congrArg x1 ?_)
  · refine funext (α := Fin 3) fun a => Fin.ext ?_
    match a with
    | 0 => rfl
    | 1 => show 256 * (s.val / 256) + s.val % 256 = s.val; omega
    | 2 => rfl
  · refine funext (α := Fin 3) fun a => Fin.ext ?_
    match a with
    | 0 => rfl
    | 1 => rfl
    | 2 => rfl
  · refine funext (α := Fin 3) fun a => Fin.ext ?_
    match a with
    | 0 => rfl
    | 1 => rfl
    | 2 => rfl

variable (m : (ℓ : Loc nD τ sig) → Buf (Elt Ideal) ℓ)

/-- The region finds the input weights' wanted columns, in the first result's order (the format change is the identity). -/
theorem V_v3 (c : Dev nD) (e : Fin 1024) (n : Fin 5120) :
    V m c main_v3 (ix2 e n) = m ((c : Thread nD τ).loc main_arg2) (ix2 e (column n)) := by
  entry_read
  pointwise []
  unfold column
  split
  · rfl
  · refine congrArg (fun k => m ((c : Thread nD τ).loc main_arg2) (ix2 e k)) (Fin.ext ?_)
    show 2304 + (n.val - 3072) = n.val - 768
    omega

/-! ## The grid's coordinates: ten points a sequence -/

theorem coord_seq (t : Fin 160) : (grid0.coords t 0).val = t.val / 10 := by
  show t.val / grid0.stride 0 % 16 = t.val / 10
  rw [show grid0.stride 0 = 10 by decide]
  omega

theorem coord_tile (t : Fin 160) : (grid0.coords t 1).val = t.val % 10 := by
  show t.val / grid0.stride 1 % 10 = t.val % 10
  rw [show grid0.stride 1 = 1 by decide]
  omega

/-! ## The blocks at coordinates -/

theorem iblk_x (c : Dev nD) (t : Fin 160) (s : Fin 2048) (e : Fin 1024) :
    iblk m c 0 t (ix3 0 s e) = m ((c : Thread nD τ).loc main_arg0) (ix3 ⟨t.val / 10, by omega⟩ s e) := by
  show V m c main_arg0 (((cfg0.win 0).blk t).view.emb (ix3 0 s e)) = _
  rw [V_main_arg0]
  refine congrArg (m ((c : Thread nD τ).loc main_arg0)) (funext (α := Fin 3) fun a => Fin.ext ?_)
  match a with
  | 0 =>
    show (BitVec.ofNat 32 (grid0.coords t 0).val).toNat * 1 + 1 * 0 = t.val / 10
    rw [coord_seq, BitVec.toNat_ofNat]
    omega
  | 1 => show 0 * 2048 + 1 * s.val = s.val; omega
  | 2 => show 0 * 1024 + 1 * e.val = e.val; omega

theorem iblk_mod (c : Dev nD) (t : Fin 160) (k : Fin 6) (e : Fin 1024) :
    iblk m c 1 t (ix3 0 k e) = m ((c : Thread nD τ).loc main_arg1) (ix3 ⟨t.val / 10, by omega⟩ k e) := by
  show V m c main_arg1 (((cfg0.win 1).blk t).view.emb (ix3 0 k e)) = _
  rw [V_main_arg1]
  refine congrArg (m ((c : Thread nD τ).loc main_arg1)) (funext (α := Fin 3) fun a => Fin.ext ?_)
  match a with
  | 0 =>
    show (BitVec.ofNat 32 (grid0.coords t 0).val).toNat * 1 + 1 * 0 = t.val / 10
    rw [coord_seq, BitVec.toNat_ofNat]
    omega
  | 1 => show 0 * 6 + 1 * k.val = k.val; omega
  | 2 => show 0 * 1024 + 1 * e.val = e.val; omega

theorem iblk_w (c : Dev nD) (t : Fin 160) (e : Fin 1024) (n : Fin 512) :
    iblk m c 2 t (ix2 e n) = m ((c : Thread nD τ).loc main_arg2) (ix2 e (column ⟨t.val % 10 * 512 + n.val, by omega⟩)) := by
  refine Eq.trans (b := V m c main_v3 (ix2 e ⟨t.val % 10 * 512 + n.val, by omega⟩)) ?_ (V_v3 m c e _)
  refine congrArg (V m c main_v3) (funext (α := Fin 2) fun a => Fin.ext ?_)
  match a with
  | 0 => show 0 * 1024 + 1 * e.val = e.val; omega
  | 1 =>
    show (BitVec.ofNat 32 (grid0.coords t 1).val).toNat * 512 + 1 * n.val = t.val % 10 * 512 + n.val
    rw [coord_tile, BitVec.toNat_ofNat]
    omega

/-! ## The two results -/

/-- The first result, as the reference's function of the arguments, -/
def projOf (c : Dev nD) : S16x2048x5120.Idx → EReal :=
  Reference2Ideal.Read.val_main_v16 (F := Ideal) (m ((c : Thread nD τ).loc main_arg0)) (m ((c : Thread nD τ).loc main_arg1))
    (m ((c : Thread nD τ).loc main_arg2))

/-- and the second. -/
def rowsOf (c : Dev nD) : S16x2048x1024.Idx → EReal :=
  Reference2Ideal.Read.val_main_v17 (F := Ideal) (m ((c : Thread nD τ).loc main_arg0)) (m ((c : Thread nD τ).loc main_arg1))

/-- The rows a sequence's buffer keeps are the reference's rows of that sequence. -/
theorem rowsAt_apply (c : Dev nD) (t : Fin 160) (s : Fin 2048) (e : Fin 1024) :
    rowsAt m c t (ix3 0 s e) = rowsOf m c (ix3 ⟨t.val / 10, by omega⟩ s e) := by
  unfold rowsAt
  refine (modulated_apply _ _ s e).trans (Eq.trans ?_ (Reference2Ideal.Proj.v17_apply _ _ _ s e).symm)
  have hb : (⟨(firstPt t).val / 10, by have := (firstPt t).isLt; have h : cfg0.N = 160 := rfl; omega⟩ : Fin 16) = ⟨t.val / 10, by omega⟩ :=
    Fin.ext (by show (t.val - t.val % 10) / 10 = t.val / 10; omega)
  refine congr (congr (congrArg scaled ((iblk_x m c (firstPt t) s e).trans ?_)) ((iblk_mod m c (firstPt t) 0 e).trans ?_))
    ((iblk_mod m c (firstPt t) 1 e).trans ?_)
  · exact congrArg (fun b => m ((c : Thread nD τ).loc main_arg0) (ix3 b s e)) hb
  · exact congrArg (fun b => m ((c : Thread nD τ).loc main_arg1) (ix3 b 0 e)) hb
  · exact congrArg (fun b => m ((c : Thread nD τ).loc main_arg1) (ix3 b 1 e)) hb

/-- The column tile stored at point `t` is the reference's. -/
theorem projAt_apply (c : Dev nD) (t : Fin 160) (s : Fin 2048) (n : Fin 512) :
    k0_pay2 (rowsAt m c t) (iblk m c 2 t) (ix3 0 s n)
      = projOf m c (ix3 ⟨t.val / 10, by omega⟩ s ⟨t.val % 10 * 512 + n.val, by omega⟩) := by
  refine (pay2_apply _ _ s n).trans (Eq.trans ?_ (Reference2Ideal.Proj.v16_apply _ _ _ _ s _).symm)
  refine Finset.sum_congr rfl fun e _ => congr (congrArg HMul.hMul ?_) (iblk_w m c t e n)
  exact (rowsAt_apply m c t s e).trans (Reference2Ideal.Proj.v17_apply _ _ _ s e)

/-- The second result's array after the run: the block is written back at a sequence's tenth point. -/
theorem array_rows (c : Dev nD) : (dats m 0 c).arrAt 4 cfg0.N = rowsOf m c := by
  have hemb : ∀ (t : Fin 160) (y : S1x2048x1024.Idx), ((cfg0.win 4).blk t).view.emb y
      = ix3 (⟨t.val / 10, by omega⟩ : Fin 16) (y 1 : Fin 2048) (y 2 : Fin 1024) := by
    intro t y
    refine funext (α := Fin 3) fun a => Fin.ext ?_
    match a with
    | 0 =>
      have : (y 0).val < 1 := (y 0).isLt
      show (BitVec.ofNat 32 (grid0.coords t 0).val).toNat * 1 + 1 * (y 0).val = t.val / 10
      rw [coord_seq, BitVec.toNat_ofNat]
      omega
    | 1 => show 0 * 2048 + 1 * (y 1).val = (y 1).val; omega
    | 2 => show 0 * 1024 + 1 * (y 2).val = (y 2).val; omega
  have hix : ∀ y : S1x2048x1024.Idx, y = ix3 0 (y 1) (y 2) := fun y => funext (α := Fin 3) fun a => by
    match a with
    | 0 => exact Fin.ext (by have : (y 0).val < 1 := (y 0).isLt; show (y 0).val = 0; omega)
    | 1 => rfl
    | 2 => rfl
  refine (dats m 0 c).arrAt_eq_of_emb 4 (rowsOf m c) (fun (t : Fin 160) hf (y : S1x2048x1024.Idx) => ?_) fun (i : S16x2048x1024.Idx) => ?_
  · have h' : rowsAt m c t y = rowsOf m c (((cfg0.win 4).blk t).view.emb y) :=
      ((congrArg (rowsAt m c t) (hix y)).trans (rowsAt_apply m c t (y 1) (y 2))).trans (congrArg (rowsOf m c) (hemb t y).symm)
    exact Eq.trans (b := rowsAt m c t y) (congrFun (after_rows m c t) y) h'
  · have h0 : (i 0).val < 16 := (i 0).isLt
    have ht : (i 0).val * 10 + 9 < 160 := by omega
    refine ⟨⟨(i 0).val * 10 + 9, ht⟩, (flush0_4 _).mpr (by show ((i 0).val * 10 + 9) % 10 = 9; omega), ?_⟩
    have e : i = ((cfg0.win 4).blk ⟨(i 0).val * 10 + 9, ht⟩).view.emb (ix3 (0 : Fin 1) (i 1 : Fin 2048) (i 2 : Fin 1024)) := by
      refine Eq.trans ?_ (hemb ⟨(i 0).val * 10 + 9, ht⟩ (ix3 (0 : Fin 1) (i 1 : Fin 2048) (i 2 : Fin 1024))).symm
      refine funext (α := Fin 3) fun a => Fin.ext ?_
      match a with
      | 0 => show (i 0).val = ((i 0).val * 10 + 9) / 10; omega
      | 1 => rfl
      | 2 => rfl
    exact (congrArg (· ∈ ((cfg0.win 4).blk ⟨(i 0).val * 10 + 9, ht⟩).view.set) e).mpr (Finset.mem_map_of_mem _ (Finset.mem_univ _))

/-- The first result's array after the run. -/
theorem array_proj (c : Dev nD) : (dats m 0 c).arrAt 3 cfg0.N = projOf m c := by
  have hemb : ∀ (t : Fin 160) (y : S1x2048x512.Idx), ((cfg0.win 3).blk t).view.emb y
      = ix3 (⟨t.val / 10, by omega⟩ : Fin 16) (y 1 : Fin 2048)
          (⟨t.val % 10 * 512 + (y 2).val, by have : (y 2).val < 512 := (y 2).isLt; omega⟩ : Fin 5120) := by
    intro t y
    refine funext (α := Fin 3) fun a => Fin.ext ?_
    match a with
    | 0 =>
      have : (y 0).val < 1 := (y 0).isLt
      show (BitVec.ofNat 32 (grid0.coords t 0).val).toNat * 1 + 1 * (y 0).val = t.val / 10
      rw [coord_seq, BitVec.toNat_ofNat]
      omega
    | 1 => show 0 * 2048 + 1 * (y 1).val = (y 1).val; omega
    | 2 =>
      show (BitVec.ofNat 32 (grid0.coords t 1).val).toNat * 512 + 1 * (y 2).val = t.val % 10 * 512 + (y 2).val
      rw [coord_tile, BitVec.toNat_ofNat]
      omega
  have hix : ∀ y : S1x2048x512.Idx, y = ix3 0 (y 1) (y 2) := fun y => funext (α := Fin 3) fun a => by
    match a with
    | 0 => exact Fin.ext (by have : (y 0).val < 1 := (y 0).isLt; show (y 0).val = 0; omega)
    | 1 => rfl
    | 2 => rfl
  refine (dats m 0 c).arrAt_eq_of_emb 3 (projOf m c) (fun (t : Fin 160) hf (y : S1x2048x512.Idx) => ?_) fun (i : S16x2048x5120.Idx) => ?_
  · have h' : k0_pay2 (rowsAt m c t) (iblk m c 2 t) y = projOf m c (((cfg0.win 3).blk t).view.emb y) :=
      ((congrArg (k0_pay2 (rowsAt m c t) (iblk m c 2 t)) (hix y)).trans (projAt_apply m c t (y 1) (y 2))).trans (congrArg (projOf m c) (hemb t y).symm)
    exact Eq.trans (b := k0_pay2 (rowsAt m c t) (iblk m c 2 t) y) (congrFun (after_proj m c t) y) h'
  · have h0 : (i 0).val < 16 := (i 0).isLt
    have h2 : (i 2).val < 5120 := (i 2).isLt
    have ht : (i 0).val * 10 + (i 2).val / 512 < 160 := by omega
    refine ⟨⟨(i 0).val * 10 + (i 2).val / 512, ht⟩, flush0_3 _, ?_⟩
    have e : i = ((cfg0.win 3).blk ⟨(i 0).val * 10 + (i 2).val / 512, ht⟩).view.emb
        (ix3 (0 : Fin 1) (i 1 : Fin 2048) (⟨(i 2).val % 512, by omega⟩ : Fin 512)) := by
      refine Eq.trans ?_ (hemb ⟨(i 0).val * 10 + (i 2).val / 512, ht⟩ (ix3 (0 : Fin 1) (i 1 : Fin 2048) (⟨(i 2).val % 512, by omega⟩ : Fin 512))).symm
      refine funext (α := Fin 3) fun a => Fin.ext ?_
      match a with
      | 0 => show (i 0).val = ((i 0).val * 10 + (i 2).val / 512) / 10; omega
      | 1 => rfl
      | 2 => show (i 2).val = ((i 0).val * 10 + (i 2).val / 512) % 10 * 512 + (i 2).val % 512; omega
    exact (congrArg (· ∈ ((cfg0.win 3).blk ⟨(i 0).val * 10 + (i 2).val / 512, ht⟩).view.set) e).mpr (Finset.mem_map_of_mem _ (Finset.mem_univ _))

end Cert.Kernel2Ideal.Proj

end
-- ==== Proof.ProjClaims.lean ====
/- The input projection's claims: both readings of the kernel and the reference run and leave their arguments as they
   were, and kernel and reference end with equal results over the extended reals. -/
module

public import proofs.«01_k».proof.Defs
public import proofs.«01_k».proof.Proof.ProjBitsFrame
public import proofs.«01_k».proof.Proof.ProjIdealValue
public import proofs.«01_k».proof.Proof.Gen.Reference2Ideal.Run
public import Idealize.ShloMosaic.Lib.Quiescent

@[expose] public section

noncomputable section

namespace Cert.Proof.Proj

open Idealize.ShloMosaic Idealize.ShloMosaic.TcCoe Idealize.ShloMosaic.Tactic Idealize.SL.Sem

theorem frame_bits : Cert.quiescent_Kernel2 := fun m ρ _ => Kernel2.Proj.frame m ρ

theorem frame_ideal : Cert.quiescent_Kernel2Ideal := fun m ρ _ => Kernel2Ideal.Proj.frame m ρ

/-- The reference declares no counter, so none is left above zero. -/
theorem frame_reference : Cert.quiescent_Reference2Ideal := fun m ρ _ =>
  (θ_run Reference2Ideal.defs _ _).mono (fun r h => ⟨fun c => (h c).2.2, sem_eq_zero_of_no_sems (by decide) r.2⟩)
    (Reference2Ideal.Value.run (F := Ideal) m ρ)

theorem algebraic : Cert.algebraic_Kernel2Ideal_Reference2Ideal := fun m ρ m' ρ' _ hagree => by
  refine ⟨fun c => Kernel2Ideal.Proj.projOf m c, fun c => Kernel2Ideal.Proj.rowsOf m c,
    (θ_run Kernel2Ideal.defs _ _).mono (fun r h c => ⟨?_, ?_, h.1 c⟩)
      (θ_run_and (Kernel2Ideal.Proj.unchanged m ρ) (Kernel2Ideal.Proj.run_arrays m ρ)),
    (θ_run Reference2Ideal.defs _ _).mono (fun r h c => ⟨(h c).1.trans ?_, (h c).2.1.trans ?_, (h c).2.2⟩)
      (Reference2Ideal.Value.run (F := Ideal) m' ρ')⟩
  · exact ((h.2 c).1 3).trans (Kernel2Ideal.Proj.array_proj m c)
  · exact ((h.2 c).1 4).trans (Kernel2Ideal.Proj.array_rows m c)
  · obtain ⟨h0, h1, h2⟩ := hagree c
    refine (Reference2Ideal.Read.val_main_v16_eq _ _ _).trans ?_
    rw [h0, h1, h2]
    rfl
  · obtain ⟨h0, h1, h2⟩ := hagree c
    refine (Reference2Ideal.Read.val_main_v17_eq _ _).trans ?_
    rw [h0, h1]
    rfl

end Cert.Proof.Proj

end
-- ==== Proof.DilIdealBody.lean ====
/- The dilated projection at one grid point: each group's product is kept as six planes of 128 columns, and every residue
   of the group's dilation takes its tokens from each plane by a strided load. -/
module

public import proofs.«01_k».proof.Proof.Gen.Kernel3Ideal.Value
public import Idealize.ShloMosaic.Lib.VecWindow
public import Idealize.ShloMosaic.Lib.Pipeline.ValueKit

@[expose] public section

set_option maxRecDepth 65536

noncomputable section

namespace Cert.Kernel3Ideal.Dil

open Idealize.ShloMosaic Idealize.ShloMosaic.TcCoe Idealize.ShloMosaic.Tactic
open Idealize.SL Idealize.SL.Sem
open Cert.Kernel3Ideal.Gen

/-! ## The planes of a product -/

/-- Group `g` of the stacked weights. -/
def slab (g : Fin 3) (x1 : Vec Ideal S3x1024x768 .bf16) : Vec Ideal S1x1024x768 .bf16 := fun j =>
  x1 (ix3 g (j 1 : Fin 1024) (j 2 : Fin 768))

theorem slices_plane (k : Nat) (hk : k < 6) : S2048x768.Slices ![0, 128 * k] S2048x128 :=
  ⟨rfl, fun a => by
    match a with
    | 0 => show 0 + 2048 ≤ 2048; omega
    | 1 => show 128 * k + 128 ≤ 768; omega⟩

/-- Plane `k` of a product: its columns from `128 k` on. -/
def plane (p : FVec Ideal S2048x768 .f32) (k : Nat) (hk : k < 6) : FVec Ideal S1x2048x128 .f32 :=
  shapeCast S1x2048x128 (extractStridedSlice S2048x128 ![0, 128 * k] p (slices_plane k hk)) shapeCasts_S2048x128_S1x2048x128

theorem inb_plane (k : Nat) (hk : k < 6) : ∀ a, (![k, 0, 0] : Fin 3 → Nat) a + S1x2048x128.size a ≤ S6x2048x128.size a := fun a => by
  match a with
  | 0 => show k + 1 ≤ 6; omega
  | 1 => show 0 + 2048 ≤ 2048; omega
  | 2 => show 0 + 128 ≤ 128; omega

/-- The first `n` planes' stores, the last first. -/
def planes (p : FVec Ideal S2048x768 .f32) : (n : Nat) → n ≤ 6 → List (View.Piece (Elt Ideal) S6x2048x128 .f32)
  | 0, _ => []
  | n + 1, h => ⟨Rect.unit (s := S6x2048x128) ![n, 0, 0] S1x2048x128.size (inb_plane n h), plane p n h⟩ :: planes p n (Nat.le_of_lt h)

/-- A product's element at a plane, token and lane. -/
def planeAt (p : FVec Ideal S2048x768 .f32) (k : S6x2048x128.Idx) : EReal :=
  p (ix2 (k 1 : Fin 2048) (⟨128 * (k 0).val + (k 2).val, by
    have h0 : (k 0).val < 6 := (k 0).isLt
    have h2 : (k 2).val < 128 := (k 2).isLt
    omega⟩ : Fin 768))

theorem plane_apply (p : FVec Ideal S2048x768 .f32) (k : Nat) (hk : k < 6) (s : Fin 2048) (l : Fin 128) :
    plane p k hk (ix3 0 s l) = p (ix2 s (⟨128 * k + l.val, by omega⟩ : Fin 768)) := by
  pointwise [plane]

/-- Every plane's store agrees with the product. -/
theorem planes_agree (p : FVec Ideal S2048x768 .f32) : ∀ (n : Nat) (h : n ≤ 6), ∀ q ∈ planes p n h, ∀ y : q.1.shape.Idx,
    q.2 y = planeAt p (q.1.emb y)
  | 0, _ => fun q hq => absurd hq List.not_mem_nil
  | n + 1, h => fun q hq => by
    rcases List.mem_cons.mp hq with rfl | hq
    · intro (y : S1x2048x128.Idx)
      have h0 : (y 0).val < 1 := (y 0).isLt
      have e : y = ix3 0 (y 1 : Fin 2048) (y 2 : Fin 128) := funext (α := Fin 3) fun a => by
        match a with
        | 0 => exact Fin.ext (by show (y 0).val = 0; omega)
        | 1 => rfl
        | 2 => rfl
      refine (congrArg (plane p n h) e).trans ((plane_apply p n h (y 1) (y 2)).trans ?_)
      refine congrArg p (funext (α := Fin 2) fun a => Fin.ext ?_)
      match a with
      | 0 => show (y 1).val = 0 + 1 * (y 1).val; omega
      | 1 => show 128 * n + (y 2).val = 128 * (n + 1 * (y 0).val) + (0 + 1 * (y 2).val); omega
    · exact planes_agree p n (Nat.le_of_lt h) q hq

/-- The six planes' stores cover the buffer. -/
theorem planes_cover (p : FVec Ideal S2048x768 .f32) (y : S6x2048x128.Idx) : ∀ (n : Nat) (h : n ≤ 6), (y 0).val < n → ∃ q ∈ planes p n h, y ∈ q.1.set
  | 0, _, hy => absurd hy (Nat.not_lt_zero _)
  | n + 1, h, hy => by
    by_cases hn : (y 0).val < n
    · obtain ⟨q, hq, hm⟩ := planes_cover p y n (Nat.le_of_lt h) hn
      exact ⟨q, List.mem_cons_of_mem _ hq, hm⟩
    · refine ⟨_, List.mem_cons_self, (Rect.mem_set_unit (inb := inb_plane n h)).mpr fun a => ?_⟩
      have h1 : (y 1).val < 2048 := (y 1).isLt
      have h2 : (y 2).val < 128 := (y 2).isLt
      match a with
      | 0 => exact ⟨by show n ≤ (y 0).val; omega, by show (y 0).val < n + 1; omega⟩
      | 1 => exact ⟨Nat.zero_le _, by show (y 1).val < 0 + 2048; omega⟩
      | 2 => exact ⟨Nat.zero_le _, by show (y 2).val < 0 + 128; omega⟩

/-- After the six stores, over whatever the buffer held, it holds the product. -/
theorem read_planes {sig : RefSig} {κ : Kind} {sp : Space} (v : View sig κ sp S6x2048x128 .f32) (p : FVec Ideal S2048x768 .f32) (L : List (View.Piece (Elt Ideal) S6x2048x128 .f32)) (f : v.ty.Contents (Elt Ideal))
    (y : S6x2048x128.Idx) : v.read (Elt Ideal) (v.writes (Elt Ideal) f (planes p 6 (Nat.le_refl 6) ++ L)) y = planeAt p y := by
  rw [View.writes_append]
  exact View.read_writes_apply_of_pieces v _ (planeAt p) _ (planes_agree p 6 _) y (planes_cover p y 6 _ (y 0).isLt)

/-! ## The residues of a dilation -/

section Residues

variable {sig : RefSig} {κ : Kind} {sp : Space} (v : View sig κ sp S6x2048x128 .f32) (M : List (View.Piece (Elt Ideal) S6x2048x128 .f32))
  (d L : Nat) (hd : d * L = 2048)
  (cast : ((⟨3, ![1, L, 128]⟩ : Shape).Idx → EReal) → (⟨4, ![1, 1, L, 128]⟩ : Shape).Idx → EReal)

theorem inb_store (n : Nat) (hn : n < 6 * d) : ∀ a, (![0, n / 6, 0, 128 * (n % 6)] : Fin 4 → Nat) a + (![1, 1, L, 128] : Fin 4 → Nat) a ≤ (![1, d, L, 768] : Fin 4 → Nat) a := fun a => by
  match a with
  | 0 => show 0 + 1 ≤ 1; omega
  | 1 => show n / 6 + 1 ≤ d; omega
  | 2 => show 0 + L ≤ L; omega
  | 3 => show 128 * (n % 6) + 128 ≤ 768; omega

include hd in
theorem inb_load (n : Nat) (hn : n < 6 * d) : ∀ a, (![1, L, 128] : Fin 3 → Nat) a = 0 ∨ (![n % 6, n / 6, 0] : Fin 3 → Nat) a + (![1, d, 1] : Fin 3 → Nat) a * ((![1, L, 128] : Fin 3 → Nat) a - 1) < S6x2048x128.size a := fun a => by
  match a with
  | 0 => exact .inr (by show n % 6 + 1 * (1 - 1) < 6; omega)
  | 1 =>
    refine .inr ?_
    show n / 6 + d * (L - 1) < 2048
    have hL : L ≠ 0 := by rintro rfl; omega
    have hs : d * (L - 1) + d = d * L := by
      rw [← Nat.mul_succ]; congr 1; omega
    omega
  | 2 => exact .inr (by show 0 + 1 * (128 - 1) < 128; omega)

/-- The first `n` stores into a group's block, the last first: store `n` puts plane `n % 6` of residue `n / 6`. -/
def strips : (n : Nat) → n ≤ 6 * d → List (View.Piece (Elt Ideal) (⟨4, ![1, d, L, 768]⟩ : Shape) .bf16)
  | 0, _ => []
  | n + 1, h => ⟨Rect.unit (s := (⟨4, ![1, d, L, 768]⟩ : Shape)) ![0, n / 6, 0, 128 * (n % 6)] ![1, 1, L, 128] (inb_store d L n h),
      cast (v.readCov M (⟨![n % 6, n / 6, 0], ![1, L, 128], ![1, d, 1], inb_load d L hd n h⟩ : LoadRect S6x2048x128))⟩ ::
    strips n (Nat.le_of_lt h)

/-- What a group's block holds: residue `r`'s token `l` is the product's row `l d + r`. -/
def stripAt (p : FVec Ideal S2048x768 .f32) (y : (⟨4, ![1, d, L, 768]⟩ : Shape).Idx) : EReal :=
  p (ix2 (⟨(y 2).val * d + (y 1).val, by
    have h1 : (y 1).val < d := (y 1).isLt
    have h2 : (y 2).val < L := (y 2).isLt
    calc (y 2).val * d + (y 1).val < (y 2).val * d + d := by omega
      _ = ((y 2).val + 1) * d := (Nat.succ_mul _ _).symm
      _ ≤ L * d := Nat.mul_le_mul_right d h2
      _ = 2048 := by rw [Nat.mul_comm]; exact hd⟩ : Fin 2048) (⟨(y 3).val, (y 3).isLt⟩ : Fin 768))

/-- Every store into a group's block agrees with the product, when the planes hold it and the format change is the
    identity. -/
theorem strips_agree (p : FVec Ideal S2048x768 .f32) (hM : ∀ y, v.read (Elt Ideal) (v.writes (Elt Ideal) v.junk M) y = planeAt p y)
    (hcast : ∀ w (l : Fin L) (k : Fin 128), cast w (ix4 0 0 l k) = w (ix3 0 l k)) :
    ∀ (n : Nat) (h : n ≤ 6 * d), ∀ q ∈ strips v M d L hd cast n h, ∀ y : q.1.shape.Idx, q.2 y = stripAt d L hd p (q.1.emb y)
  | 0, _ => fun q hq => absurd hq List.not_mem_nil
  | n + 1, h => fun q hq => by
    rcases List.mem_cons.mp hq with rfl | hq
    · intro (y : (⟨4, ![1, 1, L, 128]⟩ : Shape).Idx)
      have h0 : (y 0).val < 1 := (y 0).isLt
      have h1 : (y 1).val < 1 := (y 1).isLt
      have e : y = ix4 0 0 (y 2 : Fin L) (y 3 : Fin 128) := funext (α := Fin 4) fun a => by
        match a with
        | 0 => exact Fin.ext (by show (y 0).val = 0; omega)
        | 1 => exact Fin.ext (by show (y 1).val = 0; omega)
        | 2 => rfl
        | 3 => rfl
      refine (congrArg (cast _) e).trans ((hcast _ (y 2) (y 3)).trans ((hM _).trans ?_))
      refine congrArg p (funext (α := Fin 2) fun a => Fin.ext ?_)
      match a with
      | 0 =>
        show n / 6 + d * (y 2).val = (0 + 1 * (y 2).val) * d + (n / 6 + 1 * (y 1).val)
        have : d * (y 2).val = (0 + 1 * (y 2).val) * d := by rw [Nat.mul_comm]; congr 1; omega
        omega
      | 1 => show 128 * (n % 6 + 1 * 0) + (0 + 1 * (y 3).val) = 128 * (n % 6) + 1 * (y 3).val; omega
    · exact strips_agree p hM hcast n (Nat.le_of_lt h) q hq

/-- The stores cover the block. -/
theorem strips_cover (y : (⟨4, ![1, d, L, 768]⟩ : Shape).Idx) : ∀ (n : Nat) (h : n ≤ 6 * d), 6 * (y 1).val + (y 3).val / 128 < n →
    ∃ q ∈ strips v M d L hd cast n h, y ∈ q.1.set
  | 0, _, hy => absurd hy (Nat.not_lt_zero _)
  | n + 1, h, hy => by
    by_cases hn : 6 * (y 1).val + (y 3).val / 128 < n
    · obtain ⟨q, hq, hm⟩ := strips_cover y n (Nat.le_of_lt h) hn
      exact ⟨q, List.mem_cons_of_mem _ hq, hm⟩
    · refine ⟨_, List.mem_cons_self, (Rect.mem_set_unit (inb := inb_store d L n h)).mpr fun a => ?_⟩
      have h0 : (y 0).val < 1 := (y 0).isLt
      have h2 : (y 2).val < L := (y 2).isLt
      have h3 : (y 3).val < 768 := (y 3).isLt
      match a with
      | 0 => exact ⟨Nat.zero_le _, by show (y 0).val < 0 + 1; omega⟩
      | 1 => exact ⟨by show n / 6 ≤ (y 1).val; omega, by show (y 1).val < n / 6 + 1; omega⟩
      | 2 => exact ⟨Nat.zero_le _, by show (y 2).val < 0 + L; omega⟩
      | 3 => exact ⟨by show 128 * (n % 6) ≤ (y 3).val; omega, by show (y 3).val < 128 * (n % 6) + 128; omega⟩

/-- So the block holds the product's rows by residue, whatever it held before. -/
theorem read_strips {sig' : RefSig} {κ' : Kind} {sp' : Space} (vo : View sig' κ' sp' (⟨4, ![1, d, L, 768]⟩ : Shape) .bf16) (f : vo.ty.Contents (Elt Ideal))
    (p : FVec Ideal S2048x768 .f32) (hM : ∀ y, v.read (Elt Ideal) (v.writes (Elt Ideal) v.junk M) y = planeAt p y)
    (hcast : ∀ w (l : Fin L) (k : Fin 128), cast w (ix4 0 0 l k) = w (ix3 0 l k)) (y : (⟨4, ![1, d, L, 768]⟩ : Shape).Idx) :
    vo.read (Elt Ideal) (vo.writes (Elt Ideal) f (strips v M d L hd cast (6 * d) (Nat.le_refl _))) y = stripAt d L hd p y :=
  View.read_writes_apply_of_pieces vo _ (stripAt d L hd p) _ (strips_agree v M d L hd cast p hM hcast _ _) y
    (strips_cover v M d L hd cast y _ _ (by
      have h1 : (y 1).val < d := (y 1).isLt
      have h3 : (y 3).val < 768 := (y 3).isLt
      omega))

end Residues

/-! ## The body's three blocks -/

section Body

variable (c : Dev nD) (i : grid0.Coords) (arg1 : Memref sig .tc .vmem S1x2048x1024 .bf16) (harg1 : arg1.IsWhole)
  (arg2 : Memref sig .tc .vmem S3x1024x768 .bf16) (harg2 : arg2.IsWhole) (arg3 : Memref sig .tc .vmem S1x1x2048x768 .bf16) (harg3 : arg3.IsWhole)
  (arg4 : Memref sig .tc .vmem S1x4x512x768 .bf16) (harg4 : arg4.IsWhole) (arg5 : Memref sig .tc .vmem S1x16x128x768 .bf16) (harg5 : arg5.IsWhole)
  (arg6 : Memref sig .tc .vmem S6x2048x128 .f32) (harg6 : arg6.IsWhole)
  (x0 : Vec Ideal S1x2048x1024 .bf16) (x1 : Vec Ideal S3x1024x768 .bf16)

/-- A load of one group of the stacked weights. -/
theorem read_slab (g : Fin 3) (inb : ∀ a, (![g.val, 0, 0] : Fin 3 → Nat) a + S1x1024x768.size a ≤ S3x1024x768.size a) :
    arg2.view.readAt (Elt Ideal) (Rect.unit (s := S3x1024x768) ![g.val, 0, 0] S1x1024x768.size inb).toLoadRect (harg2.unread x1) = slab g x1 := by
  funext j
  rw [View.readAt_apply, harg2.read_unread]
  refine congrArg x1 (funext (α := Fin 3) fun a => Fin.ext ?_)
  match a with
  | 0 => have : (j 0).val < 1 := (j 0).isLt
         show g.val + 1 * (j 0).val = g.val; omega
  | 1 => show 0 + 1 * (j 1).val = (j 1).val; omega
  | 2 => show 0 + 1 * (j 2).val = (j 2).val; omega

/-- A load of the sequence. -/
theorem read_rows :
    arg1.view.readAt (Elt Ideal) (Rect.unit (s := S1x2048x1024) ![0, 0, 0] S1x2048x1024.size inb_S1x2048x1024_S1x2048x1024_0_0_0).toLoadRect (harg1.unread x0) = x0 := by
  funext j
  rw [View.readAt_apply, harg1.read_unread]
  refine congrArg x0 (funext (α := Fin 3) fun a => Fin.ext ?_)
  match a with
  | 0 => show 0 + 1 * (j 0).val = (j 0).val; omega
  | 1 => show 0 + 1 * (j 1).val = (j 1).val; omega
  | 2 => show 0 + 1 * (j 2).val = (j 2).val; omega

/-- The second group's product as the body forms it from its loads, -/
def loaded1 : FVec Ideal S2048x768 .f32 :=
  k0_pay4 (arg1.view.readAt (Elt Ideal) (Rect.unit (s := S1x2048x1024) ![0, 0, 0] S1x2048x1024.size inb_S1x2048x1024_S1x2048x1024_0_0_0).toLoadRect (harg1.unread x0))
    (arg2.view.readAt (Elt Ideal) (Rect.unit (s := S3x1024x768) ![1, 0, 0] S1x1024x768.size inb_S3x1024x768_S1x1024x768_1_0_0).toLoadRect (harg2.unread x1))

/-- and the third's. -/
def loaded2 : FVec Ideal S2048x768 .f32 :=
  k0_pay4 (arg1.view.readAt (Elt Ideal) (Rect.unit (s := S1x2048x1024) ![0, 0, 0] S1x2048x1024.size inb_S1x2048x1024_S1x2048x1024_0_0_0).toLoadRect (harg1.unread x0))
    (arg2.view.readAt (Elt Ideal) (Rect.unit (s := S3x1024x768) ![2, 0, 0] S1x1024x768.size inb_S3x1024x768_S1x1024x768_2_0_0).toLoadRect (harg2.unread x1))

theorem loaded1_eq : loaded1 arg1 harg1 arg2 harg2 x0 x1 = k0_pay4 x0 (slab 1 x1) :=
  congr (congrArg k0_pay4 (read_rows arg1 harg1 x0)) (read_slab arg2 harg2 x1 1 _)

theorem loaded2_eq : loaded2 arg1 harg1 arg2 harg2 x0 x1 = k0_pay4 x0 (slab 2 x1) :=
  congr (congrArg k0_pay4 (read_rows arg1 harg1 x0)) (read_slab arg2 harg2 x1 2 _)

/-- The buffer's stores when the second group's planes are read, -/
theorem planes_first : kernelRun0_A.sl.HS0_6 c arg1 harg1 arg2 harg2 x0 x1 = planes (loaded1 arg1 harg1 arg2 harg2 x0 x1) 6 (Nat.le_refl 6) := rfl

/-- and when the third group's are. -/
theorem planes_second : kernelRun0_A.sl.HS0_12 c arg1 harg1 arg2 harg2 x0 x1
    = planes (loaded2 arg1 harg1 arg2 harg2 x0 x1) 6 (Nat.le_refl 6) ++ kernelRun0_A.sl.HS0_6 c arg1 harg1 arg2 harg2 x0 x1 := rfl

theorem strips_second : (kernelRun0_A c i arg1 harg1 arg2 harg2 arg3 harg3 arg4 harg4 arg5 harg5 arg6 harg6 x0 x1).2.1
    = strips arg6.view (kernelRun0_A.sl.HS0_6 c arg1 harg1 arg2 harg2 x0 x1) 4 512 rfl (k0_pay38 (F := Ideal)) (6 * 4) (Nat.le_refl (6 * 4)) := by
  unfold kernelRun0_A
  rfl

theorem strips_third : (kernelRun0_A c i arg1 harg1 arg2 harg2 arg3 harg3 arg4 harg4 arg5 harg5 arg6 harg6 x0 x1).2.2.1
    = strips arg6.view (kernelRun0_A.sl.HS0_12 c arg1 harg1 arg2 harg2 x0 x1) 16 128 rfl (k0_pay2 (F := Ideal)) (6 * 16) (Nat.le_refl (6 * 16)) := by
  unfold kernelRun0_A
  rfl

theorem cast_second (w : Vec Ideal S1x512x128 .f32) (l : Fin 512) (k : Fin 128) : k0_pay38 w (ix4 0 0 l k) = w (ix3 0 l k) := by
  pointwise [k0_pay38]

theorem cast_third (w : Vec Ideal S1x128x128 .f32) (l : Fin 128) (k : Fin 128) : k0_pay2 w (ix4 0 0 l k) = w (ix3 0 l k) := by
  pointwise [k0_pay2]

theorem product_apply (u : Vec Ideal S1x2048x1024 .bf16) (w : Vec Ideal S1x1024x768 .bf16) (s : Fin 2048) (n : Fin 768) :
    k0_pay4 u w (ix2 s n) = ∑ e : Fin 1024, u (ix3 0 s e) * w (ix3 0 e n) := by
  pointwise [k0_pay4]

theorem stored_apply (u : Vec Ideal S1x2048x1024 .bf16) (w : Vec Ideal S1x1024x768 .bf16) (s : Fin 2048) (n : Fin 768) :
    k0_pay3 u w (ix4 0 0 s n) = ∑ e : Fin 1024, u (ix3 0 s e) * w (ix3 0 e n) := by
  pointwise [k0_pay3]

/-- The second result's block, -/
theorem out_second (r : Fin 4) (l : Fin 512) (n : Fin 768) :
    out0_A_3 c i arg1 harg1 arg2 harg2 arg3 harg3 arg4 harg4 arg5 harg5 arg6 harg6 x0 x1 (ix4 0 r l n)
      = ∑ e : Fin 1024, x0 (ix3 0 (⟨l.val * 4 + r.val, by omega⟩ : Fin 2048) e) * x1 (ix3 1 e n) := by
  refine (congrArg (fun P => VO0_3.read (Elt Ideal) (VO0_3.writes (Elt Ideal) VO0_3.junk P) (ix4 0 r l n))
    (strips_second c i arg1 harg1 arg2 harg2 arg3 harg3 arg4 harg4 arg5 harg5 arg6 harg6 x0 x1)).trans ?_
  refine (read_strips arg6.view (kernelRun0_A.sl.HS0_6 c arg1 harg1 arg2 harg2 x0 x1) 4 512 rfl (k0_pay38 (F := Ideal)) VO0_3 VO0_3.junk (loaded1 arg1 harg1 arg2 harg2 x0 x1) (fun y => ?_) cast_second _).trans ?_
  · rw [planes_first]
    refine Eq.trans (congrFun (congrArg _ (congrArg _ (List.append_nil _).symm)) y) (read_planes arg6.view _ [] _ y)
  · unfold stripAt
    rw [loaded1_eq]
    exact product_apply _ _ _ _

/-- the third's, -/
theorem out_third (r : Fin 16) (l : Fin 128) (n : Fin 768) :
    out0_A_4 c i arg1 harg1 arg2 harg2 arg3 harg3 arg4 harg4 arg5 harg5 arg6 harg6 x0 x1 (ix4 0 r l n)
      = ∑ e : Fin 1024, x0 (ix3 0 (⟨l.val * 16 + r.val, by omega⟩ : Fin 2048) e) * x1 (ix3 2 e n) := by
  refine (congrArg (fun P => VO0_4.read (Elt Ideal) (VO0_4.writes (Elt Ideal) VO0_4.junk P) (ix4 0 r l n))
    (strips_third c i arg1 harg1 arg2 harg2 arg3 harg3 arg4 harg4 arg5 harg5 arg6 harg6 x0 x1)).trans ?_
  refine (read_strips arg6.view (kernelRun0_A.sl.HS0_12 c arg1 harg1 arg2 harg2 x0 x1) 16 128 rfl (k0_pay2 (F := Ideal)) VO0_4 VO0_4.junk (loaded2 arg1 harg1 arg2 harg2 x0 x1) (fun y => ?_) cast_third _).trans ?_
  · rw [planes_second]
    exact read_planes arg6.view _ _ _ y
  · unfold stripAt
    rw [loaded2_eq]
    exact product_apply _ _ _ _

/-- and the first's, which is stored whole. -/
theorem out_first (r : Fin 1) (l : Fin 2048) (n : Fin 768) :
    out0_A_2 c i arg1 harg1 arg2 harg2 arg3 harg3 arg4 harg4 arg5 harg5 arg6 harg6 x0 x1 (ix4 0 r l n)
      = ∑ e : Fin 1024, x0 (ix3 0 l e) * x1 (ix3 0 e n) := by
  obtain rfl : r = 0 := Fin.ext (by omega)
  have hL : (kernelRun0_A c i arg1 harg1 arg2 harg2 arg3 harg3 arg4 harg4 arg5 harg5 arg6 harg6 x0 x1).1
      = [⟨Rect.unit (s := S1x1x2048x768) ![0, 0, 0, 0] S1x1x2048x768.size inb_S1x1x2048x768_S1x1x2048x768_0_0_0_0,
        k0_pay3 (arg1.view.readAt (Elt Ideal) (Rect.unit (s := S1x2048x1024) ![0, 0, 0] S1x2048x1024.size inb_S1x2048x1024_S1x2048x1024_0_0_0).toLoadRect (harg1.unread x0))
          (arg2.view.readAt (Elt Ideal) (Rect.unit (s := S3x1024x768) ![0, 0, 0] S1x1024x768.size inb_S3x1024x768_S1x1024x768_0_0_0).toLoadRect (harg2.unread x1))⟩] := by
    unfold kernelRun0_A
    rfl
  unfold out0_A_2
  rw [hL, View.read_writes_full, read_rows]
  refine (congrFun (congrArg (k0_pay3 x0) (read_slab arg2 harg2 x1 0 _)) _).trans ?_
  exact stored_apply _ _ _ _

end Body

end Cert.Kernel3Ideal.Dil

end
-- ==== Proof.DilRef.lean ====
/- The dilated projection's weights, and the reference's three results, read at an index. -/
module

public import proofs.«01_k».proof.Proof.Gen.Kernel3Ideal.Value
public import proofs.«01_k».proof.Proof.Gen.Reference3Ideal.Read
public import Idealize.ShloMosaic.Lib.StableHlo.ReadAt
public import Idealize.ShloMosaic.Lib.Pipeline.ValueKit

@[expose] public section

set_option maxRecDepth 65536

noncomputable section

namespace Cert.Dilated

open Idealize.ShloMosaic

/-- The column of the input weights that column `n` of group `g` multiplies: 256 columns of the queries, then as many of
    the keys and of the values. -/
def column (g : Fin 3) (n : Fin 768) : Fin 7424 := ⟨n.val / 256 * 768 + (g.val * 256 + n.val % 256), by omega⟩

/-- One element of group `g`'s product. -/
def entry (x0 : (⟨3, ![16, 2048, 1024]⟩ : Shape).Idx → EReal) (x1 : (⟨2, ![1024, 7424]⟩ : Shape).Idx → EReal) (g : Fin 3) (b : Fin 16) (s : Fin 2048)
    (n : Fin 768) : EReal := ∑ e : Fin 1024, x0 (ix3 b s e) * x1 (ix2 e (column g n))

end Cert.Dilated

namespace Cert.Reference3Ideal.Dil

open Idealize.ShloMosaic Idealize.ShloMosaic.TcCoe Idealize.ShloMosaic.Tactic
open Cert.Reference3Ideal Cert.Reference3Ideal.Gen Cert.Reference3Ideal.Read Cert.Dilated

variable (x0 : (⟨S16x2048x1024, .bf16⟩ : BufTy).Contents (Elt Ideal)) (x1 : (⟨S1024x7424, .f32⟩ : BufTy).Contents (Elt Ideal))

/-- A product with one column is an entry once the column is the group's. -/
theorem entry_of_column (g : Fin 3) (b : Fin 16) (s : Fin 2048) (n : Fin 768) (k : Fin 7424) (hk : k.val = n.val / 256 * 768 + (g.val * 256 + n.val % 256)) :
    ∑ e : Fin 1024, x0 (ix3 b s e) * x1 (ix2 e k) = entry x0 x1 g b s n := by
  obtain rfl : k = column g n := Fin.ext hk
  rfl

theorem v8_apply (b : Fin 16) (s : Fin 2048) (n : Fin 768) : val_main_v8 (F := Ideal) x0 x1 (ix3 b s n) = entry x0 x1 0 b s n := by
  pointwise [val_main_v0, val_main_v1, val_main_v2, val_main_v3, val_main_v4, val_main_v5, val_main_v6, val_main_v7, val_main_v8]
  (repeat' split) <;> exact entry_of_column _ _ _ _ _ _ _ (by dsimp only; omega)

theorem v15_apply (b : Fin 16) (s : Fin 2048) (n : Fin 768) : val_main_v15 (F := Ideal) x0 x1 (ix3 b s n) = entry x0 x1 1 b s n := by
  pointwise [val_main_v0, val_main_v1, val_main_v2, val_main_v3, val_main_v4, val_main_v12, val_main_v13, val_main_v14, val_main_v15]
  (repeat' split) <;> exact entry_of_column _ _ _ _ _ _ _ (by dsimp only; omega)

theorem v22_apply (b : Fin 16) (s : Fin 2048) (n : Fin 768) : val_main_v22 (F := Ideal) x0 x1 (ix3 b s n) = entry x0 x1 2 b s n := by
  pointwise [val_main_v0, val_main_v1, val_main_v2, val_main_v3, val_main_v4, val_main_v19, val_main_v20, val_main_v21, val_main_v22]
  (repeat' split) <;> exact entry_of_column _ _ _ _ _ _ _ (by dsimp only; omega)

/-- The first group keeps the sequence as it is, -/
theorem v11_apply (b : Fin 16) (r : Fin 1) (l : Fin 2048) (n : Fin 768) :
    val_main_v11 (F := Ideal) x0 x1 (ix4 b r l n) = entry x0 x1 0 b l n := by
  rw [← v8_apply, val_main_v11_apply, val_main_v10_apply, val_main_v9_apply]
  refine congrArg (val_main_v8 (F := Ideal) x0 x1) (funext (α := Fin 3) fun a => Fin.ext ?_)
  match a with
  | 0 => show (((b.val * 2048 + l.val) * 1 + r.val) * 768 + n.val) / 1572864 = b.val; omega
  | 1 => show (((b.val * 2048 + l.val) * 1 + r.val) * 768 + n.val) / 768 % 2048 = l.val; omega
  | 2 => show (((b.val * 2048 + l.val) * 1 + r.val) * 768 + n.val) % 768 = n.val; omega

/-- the second takes every fourth token, -/
theorem v18_apply (b : Fin 16) (r : Fin 4) (l : Fin 512) (n : Fin 768) :
    val_main_v18 (F := Ideal) x0 x1 (ix4 b r l n) = entry x0 x1 1 b ⟨l.val * 4 + r.val, by omega⟩ n := by
  rw [← v15_apply, val_main_v18_apply, val_main_v17_apply, val_main_v16_apply]
  refine congrArg (val_main_v15 (F := Ideal) x0 x1) (funext (α := Fin 3) fun a => Fin.ext ?_)
  match a with
  | 0 => show (((b.val * 512 + l.val) * 4 + r.val) * 768 + n.val) / 1572864 = b.val; omega
  | 1 => show (((b.val * 512 + l.val) * 4 + r.val) * 768 + n.val) / 768 % 2048 = l.val * 4 + r.val; omega
  | 2 => show (((b.val * 512 + l.val) * 4 + r.val) * 768 + n.val) % 768 = n.val; omega

/-- and the third every sixteenth. -/
theorem v25_apply (b : Fin 16) (r : Fin 16) (l : Fin 128) (n : Fin 768) :
    val_main_v25 (F := Ideal) x0 x1 (ix4 b r l n) = entry x0 x1 2 b ⟨l.val * 16 + r.val, by omega⟩ n := by
  rw [← v22_apply, val_main_v25_apply, val_main_v24_apply, val_main_v23_apply]
  refine congrArg (val_main_v22 (F := Ideal) x0 x1) (funext (α := Fin 3) fun a => Fin.ext ?_)
  match a with
  | 0 => show (((b.val * 128 + l.val) * 16 + r.val) * 768 + n.val) / 1572864 = b.val; omega
  | 1 => show (((b.val * 128 + l.val) * 16 + r.val) * 768 + n.val) / 768 % 2048 = l.val * 16 + r.val; omega
  | 2 => show (((b.val * 128 + l.val) * 16 + r.val) * 768 + n.val) % 768 = n.val; omega

end Cert.Reference3Ideal.Dil

namespace Cert.Kernel3Ideal.Dil

open Idealize.ShloMosaic Idealize.ShloMosaic.TcCoe Idealize.ShloMosaic.Tactic
open Idealize.SL Idealize.SL.Sem
open Cert.Kernel3Ideal.Gen Cert.Dilated

variable (m : (ℓ : Loc nD τ sig) → Buf (Elt Ideal) ℓ)

/-- The region finds the three groups' columns stacked (the format change is the identity). -/
theorem V_v19 (c : Dev nD) (g : Fin 3) (e : Fin 1024) (n : Fin 768) :
    V m c main_v19 (ix3 g e n) = m ((c : Thread nD τ).loc main_arg1) (ix2 e (column g n)) := by
  have key : ∀ k : Fin 7424, k.val = n.val / 256 * 768 + (g.val * 256 + n.val % 256) →
      m (c, Proc.tc.devRef main_arg1) (ix2 e k) = m ((c : Thread nD τ).loc main_arg1) (ix2 e (column g n)) := fun k hk => by
    obtain rfl : k = column g n := Fin.ext hk
    rfl
  unfold V
  after_reads_at
  split
  · simp only [StableHlo.unary_result']
    after_reads_at
    (repeat' split) <;> (after_reads_at; exact key _ (by dsimp only; omega))
  · split
    · simp only [StableHlo.unary_result']
      after_reads_at
      (repeat' split) <;> (after_reads_at; exact key _ (by dsimp only; omega))
    · simp only [StableHlo.unary_result']
      after_reads_at
      (repeat' split) <;> (after_reads_at; exact key _ (by dsimp only; omega))

end Cert.Kernel3Ideal.Dil

end
-- ==== Proof.DilIdealValue.lean ====
/- The dilated projection's three result arrays are the reference's functions of the arguments. -/
module

public import proofs.«01_k».proof.Proof.DilIdealBody
public import proofs.«01_k».proof.Proof.DilRef

@[expose] public section

set_option maxRecDepth 16384

noncomputable section

namespace Cert.Kernel3Ideal.Dil

open Idealize.ShloMosaic Idealize.ShloMosaic.TcCoe Idealize.ShloMosaic.Tactic
open Idealize.SL Idealize.SL.Sem
open Idealize.ShloMosaic.Pipeline (Dat Cfg Window)
open Cert.Kernel3Ideal.Gen Cert.Dilated

variable (m : (ℓ : Loc nD τ sig) → Buf (Elt Ideal) ℓ)

/-- A grid point's coordinate is the point: one sequence each. -/
theorem coord_seq (t : Fin 16) : (BitVec.ofNat 32 (grid0.coords t 0).val).toNat = t.val := by
  have h : (grid0.coords t 0).val = t.val := by
    show t.val / grid0.stride 0 % 16 = t.val
    rw [show grid0.stride 0 = 1 by decide]
    omega
  rw [h, BitVec.toNat_ofNat]
  omega

/-! ## The blocks at coordinates -/

theorem iblk_u (c : Dev nD) (t : Fin 16) (s : Fin 2048) (e : Fin 1024) :
    iblk m c 0 t (ix3 0 s e) = m ((c : Thread nD τ).loc main_arg0) (ix3 t s e) := by
  show V m c main_arg0 (((cfg0.win 0).blk t).view.emb (ix3 0 s e)) = _
  rw [V_main_arg0]
  refine congrArg (m ((c : Thread nD τ).loc main_arg0)) (funext (α := Fin 3) fun a => Fin.ext ?_)
  match a with
  | 0 =>
    show (BitVec.ofNat 32 (grid0.coords t 0).val).toNat * 1 + 1 * 0 = t.val
    rw [coord_seq]
    omega
  | 1 => show 0 * 2048 + 1 * s.val = s.val; omega
  | 2 => show 0 * 1024 + 1 * e.val = e.val; omega

theorem iblk_w (c : Dev nD) (t : Fin 16) (g : Fin 3) (e : Fin 1024) (n : Fin 768) :
    iblk m c 1 t (ix3 g e n) = m ((c : Thread nD τ).loc main_arg1) (ix2 e (column g n)) := by
  refine Eq.trans (b := V m c main_v19 (ix3 g e n)) ?_ (V_v19 m c g e n)
  refine congrArg (V m c main_v19) (funext (α := Fin 3) fun a => Fin.ext ?_)
  match a with
  | 0 => show 0 * 3 + 1 * g.val = g.val; omega
  | 1 => show 0 * 1024 + 1 * e.val = e.val; omega
  | 2 => show 0 * 768 + 1 * n.val = n.val; omega

/-- A sum over the staged blocks is the group's entry. -/
theorem sum_blocks (c : Dev nD) (t : Fin 16) (g : Fin 3) (s : Fin 2048) (n : Fin 768) (x0 : Vec Ideal S1x2048x1024 .bf16) (x1 : Vec Ideal S3x1024x768 .bf16)
    (h0 : x0 = iblk m c 0 t) (h1 : x1 = iblk m c 1 t) :
    ∑ e : Fin 1024, x0 (ix3 0 s e) * x1 (ix3 g e n)
      = entry (m ((c : Thread nD τ).loc main_arg0)) (m ((c : Thread nD τ).loc main_arg1)) g t s n := by
  subst h0 h1
  exact Finset.sum_congr rfl fun e _ => congr (congrArg HMul.hMul (iblk_u m c t s e)) (iblk_w m c t g e n)

/-- An index of a one-sequence block. -/
theorem eta4 {d L : Nat} (y : (⟨4, ![1, d, L, 768]⟩ : Shape).Idx) : y = ix4 0 (y 1 : Fin d) (y 2 : Fin L) (y 3 : Fin 768) :=
  funext (α := Fin 4) fun a => by
    match a with
    | 0 => exact Fin.ext (by have : (y 0).val < 1 := (y 0).isLt; show (y 0).val = 0; omega)
    | 1 => rfl
    | 2 => rfl
    | 3 => rfl

/-- An index of a result array. -/
theorem eta4' {d L : Nat} (i : (⟨4, ![16, d, L, 768]⟩ : Shape).Idx) : i = ix4 (i 0 : Fin 16) (i 1 : Fin d) (i 2 : Fin L) (i 3 : Fin 768) :=
  funext (α := Fin 4) fun a => by
    match a with
    | 0 => rfl
    | 1 => rfl
    | 2 => rfl
    | 3 => rfl

/-! ## The results -/

/-- The first result, as the reference's function of the arguments, -/
def firstOf (c : Dev nD) : S16x1x2048x768.Idx → EReal :=
  Reference3Ideal.Read.val_main_v11 (F := Ideal) (m ((c : Thread nD τ).loc main_arg0)) (m ((c : Thread nD τ).loc main_arg1))

/-- the second, -/
def secondOf (c : Dev nD) : S16x4x512x768.Idx → EReal :=
  Reference3Ideal.Read.val_main_v18 (F := Ideal) (m ((c : Thread nD τ).loc main_arg0)) (m ((c : Thread nD τ).loc main_arg1))

/-- and the third. -/
def thirdOf (c : Dev nD) : S16x16x128x768.Idx → EReal :=
  Reference3Ideal.Read.val_main_v25 (F := Ideal) (m ((c : Thread nD τ).loc main_arg0)) (m ((c : Thread nD τ).loc main_arg1))

theorem first_apply (c : Dev nD) (t : Fin 16) (r : Fin 1) (l : Fin 2048) (n : Fin 768) :
    (outsAt0 m c t).1 (ix4 0 r l n) = firstOf m c (ix4 t r l n) := by
  unfold outsAt0
  dsimp only
  refine (out_first c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) r l n).trans ?_
  exact (sum_blocks m c t 0 l n _ _ rfl rfl).trans (Reference3Ideal.Dil.v11_apply _ _ t r l n).symm

theorem second_apply (c : Dev nD) (t : Fin 16) (r : Fin 4) (l : Fin 512) (n : Fin 768) :
    (outsAt0 m c t).2.1 (ix4 0 r l n) = secondOf m c (ix4 t r l n) := by
  unfold outsAt0
  dsimp only
  refine (out_second c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) r l n).trans ?_
  exact (sum_blocks m c t 1 _ n _ _ rfl rfl).trans (Reference3Ideal.Dil.v18_apply _ _ t r l n).symm

theorem third_apply (c : Dev nD) (t : Fin 16) (r : Fin 16) (l : Fin 128) (n : Fin 768) :
    (outsAt0 m c t).2.2 (ix4 0 r l n) = thirdOf m c (ix4 t r l n) := by
  unfold outsAt0
  dsimp only
  refine (out_third c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) r l n).trans ?_
  exact (sum_blocks m c t 2 _ n _ _ rfl rfl).trans (Reference3Ideal.Dil.v25_apply _ _ t r l n).symm

/-! ## Where a block lies: sequence `t` of its array -/

theorem emb_first (t : Fin 16) (y : S1x1x2048x768.Idx) :
    ((cfg0.win 2).blk t).view.emb y = ix4 t (y 1 : Fin 1) (y 2 : Fin 2048) (y 3 : Fin 768) := by
  refine funext (α := Fin 4) fun a => Fin.ext ?_
  have : (y 0).val < 1 := (y 0).isLt
  match a with
  | 0 => show (BitVec.ofNat 32 (grid0.coords t 0).val).toNat * 1 + 1 * (y 0).val = t.val; rw [coord_seq]; omega
  | 1 => show 0 * 1 + 1 * (y 1).val = (y 1).val; omega
  | 2 => show 0 * 2048 + 1 * (y 2).val = (y 2).val; omega
  | 3 => show 0 * 768 + 1 * (y 3).val = (y 3).val; omega

theorem emb_second (t : Fin 16) (y : S1x4x512x768.Idx) :
    ((cfg0.win 3).blk t).view.emb y = ix4 t (y 1 : Fin 4) (y 2 : Fin 512) (y 3 : Fin 768) := by
  refine funext (α := Fin 4) fun a => Fin.ext ?_
  have : (y 0).val < 1 := (y 0).isLt
  match a with
  | 0 => show (BitVec.ofNat 32 (grid0.coords t 0).val).toNat * 1 + 1 * (y 0).val = t.val; rw [coord_seq]; omega
  | 1 => show 0 * 4 + 1 * (y 1).val = (y 1).val; omega
  | 2 => show 0 * 512 + 1 * (y 2).val = (y 2).val; omega
  | 3 => show 0 * 768 + 1 * (y 3).val = (y 3).val; omega

theorem emb_third (t : Fin 16) (y : S1x16x128x768.Idx) :
    ((cfg0.win 4).blk t).view.emb y = ix4 t (y 1 : Fin 16) (y 2 : Fin 128) (y 3 : Fin 768) := by
  refine funext (α := Fin 4) fun a => Fin.ext ?_
  have : (y 0).val < 1 := (y 0).isLt
  match a with
  | 0 => show (BitVec.ofNat 32 (grid0.coords t 0).val).toNat * 1 + 1 * (y 0).val = t.val; rw [coord_seq]; omega
  | 1 => show 0 * 16 + 1 * (y 1).val = (y 1).val; omega
  | 2 => show 0 * 128 + 1 * (y 2).val = (y 2).val; omega
  | 3 => show 0 * 768 + 1 * (y 3).val = (y 3).val; omega

/-- The first result's array after the run, -/
theorem array_first (c : Dev nD) : (dats m 0 c).arrAt 2 cfg0.N = firstOf m c := by
  refine (dats m 0 c).arrAt_eq_of_emb 2 (firstOf m c) (fun (t : Fin 16) hf (y : S1x1x2048x768.Idx) => ?_) fun (i : S16x1x2048x768.Idx) => ⟨(i 0 : Fin 16), flush0_2 _, ?_⟩
  · have h : (outsAt0 m c t).1 y = firstOf m c (((cfg0.win 2).blk t).view.emb y) :=
      ((congrArg (outsAt0 m c t).1 (eta4 y)).trans (first_apply m c t (y 1) (y 2) (y 3))).trans (congrArg (firstOf m c) (emb_first t y).symm)
    exact Eq.trans (b := (outsAt0 m c t).1 y) (congrFun (after0_2 m c t) y) h
  · have e : i = ((cfg0.win 2).blk (i 0 : Fin 16)).view.emb (ix4 (0 : Fin 1) (i 1 : Fin 1) (i 2 : Fin 2048) (i 3 : Fin 768)) :=
      (eta4' i).trans (emb_first (i 0) (ix4 (0 : Fin 1) (i 1 : Fin 1) (i 2 : Fin 2048) (i 3 : Fin 768))).symm
    exact (congrArg (· ∈ ((cfg0.win 2).blk (i 0 : Fin 16)).view.set) e).mpr (Finset.mem_map_of_mem _ (Finset.mem_univ _))

/-- the second's, -/
theorem array_second (c : Dev nD) : (dats m 0 c).arrAt 3 cfg0.N = secondOf m c := by
  refine (dats m 0 c).arrAt_eq_of_emb 3 (secondOf m c) (fun (t : Fin 16) hf (y : S1x4x512x768.Idx) => ?_) fun (i : S16x4x512x768.Idx) => ⟨(i 0 : Fin 16), flush0_3 _, ?_⟩
  · have h : (outsAt0 m c t).2.1 y = secondOf m c (((cfg0.win 3).blk t).view.emb y) :=
      ((congrArg (outsAt0 m c t).2.1 (eta4 y)).trans (second_apply m c t (y 1) (y 2) (y 3))).trans (congrArg (secondOf m c) (emb_second t y).symm)
    exact Eq.trans (b := (outsAt0 m c t).2.1 y) (congrFun (after0_3 m c t) y) h
  · have e : i = ((cfg0.win 3).blk (i 0 : Fin 16)).view.emb (ix4 (0 : Fin 1) (i 1 : Fin 4) (i 2 : Fin 512) (i 3 : Fin 768)) :=
      (eta4' i).trans (emb_second (i 0) (ix4 (0 : Fin 1) (i 1 : Fin 4) (i 2 : Fin 512) (i 3 : Fin 768))).symm
    exact (congrArg (· ∈ ((cfg0.win 3).blk (i 0 : Fin 16)).view.set) e).mpr (Finset.mem_map_of_mem _ (Finset.mem_univ _))

/-- and the third's. -/
theorem array_third (c : Dev nD) : (dats m 0 c).arrAt 4 cfg0.N = thirdOf m c := by
  refine (dats m 0 c).arrAt_eq_of_emb 4 (thirdOf m c) (fun (t : Fin 16) hf (y : S1x16x128x768.Idx) => ?_) fun (i : S16x16x128x768.Idx) => ⟨(i 0 : Fin 16), flush0_4 _, ?_⟩
  · have h : (outsAt0 m c t).2.2 y = thirdOf m c (((cfg0.win 4).blk t).view.emb y) :=
      ((congrArg (outsAt0 m c t).2.2 (eta4 y)).trans (third_apply m c t (y 1) (y 2) (y 3))).trans (congrArg (thirdOf m c) (emb_third t y).symm)
    exact Eq.trans (b := (outsAt0 m c t).2.2 y) (congrFun (after0_4 m c t) y) h
  · have e : i = ((cfg0.win 4).blk (i 0 : Fin 16)).view.emb (ix4 (0 : Fin 1) (i 1 : Fin 16) (i 2 : Fin 128) (i 3 : Fin 768)) :=
      (eta4' i).trans (emb_third (i 0) (ix4 (0 : Fin 1) (i 1 : Fin 16) (i 2 : Fin 128) (i 3 : Fin 768))).symm
    exact (congrArg (· ∈ ((cfg0.win 4).blk (i 0 : Fin 16)).view.set) e).mpr (Finset.mem_map_of_mem _ (Finset.mem_univ _))

end Cert.Kernel3Ideal.Dil

end
-- ==== Proof.DilClaims.lean ====
/- The dilated projection's claims: both readings of the kernel and the reference run and leave their arguments as they
   were, and kernel and reference end with equal results over the extended reals. -/
module

public import proofs.«01_k».proof.Defs
public import proofs.«01_k».proof.Proof.Gen.Kernel3.Frame
public import proofs.«01_k».proof.Proof.DilIdealValue
public import proofs.«01_k».proof.Proof.Gen.Reference3Ideal.Run
public import Idealize.ShloMosaic.Lib.Quiescent

@[expose] public section

noncomputable section

namespace Cert.Proof.Dil

open Idealize.ShloMosaic Idealize.ShloMosaic.TcCoe Idealize.ShloMosaic.Tactic Idealize.SL.Sem

theorem frame_bits : Cert.quiescent_Kernel3 := fun m ρ _ => Kernel3.Gen.frame m ρ

theorem frame_ideal : Cert.quiescent_Kernel3Ideal := fun m ρ _ => Kernel3Ideal.Gen.frame m ρ

/-- The reference declares no counter, so none is left above zero. -/
theorem frame_reference : Cert.quiescent_Reference3Ideal := fun m ρ _ =>
  (θ_run Reference3Ideal.defs _ _).mono (fun r h => ⟨fun c => (h c).2.2.2, sem_eq_zero_of_no_sems (by decide) r.2⟩)
    (Reference3Ideal.Value.run (F := Ideal) m ρ)

theorem algebraic : Cert.algebraic_Kernel3Ideal_Reference3Ideal := fun m ρ m' ρ' _ hagree => by
  refine ⟨fun c => Kernel3Ideal.Dil.firstOf m c, fun c => Kernel3Ideal.Dil.secondOf m c, fun c => Kernel3Ideal.Dil.thirdOf m c,
    (θ_run Kernel3Ideal.defs _ _).mono (fun r h c => ⟨(h c).1.trans (Kernel3Ideal.Dil.array_first m c),
      (h c).2.1.trans (Kernel3Ideal.Dil.array_second m c), (h c).2.2.1.trans (Kernel3Ideal.Dil.array_third m c), (h c).2.2.2⟩)
      (Kernel3Ideal.Value.run_blocks m ρ),
    (θ_run Reference3Ideal.defs _ _).mono (fun r h c => ⟨(h c).1.trans ?_, (h c).2.1.trans ?_, (h c).2.2.1.trans ?_, (h c).2.2.2⟩)
      (Reference3Ideal.Value.run (F := Ideal) m' ρ')⟩
  · obtain ⟨h0, h1⟩ := hagree c
    refine (Reference3Ideal.Read.val_main_v11_eq _ _).trans ?_
    rw [h0, h1]
    rfl
  · obtain ⟨h0, h1⟩ := hagree c
    refine (Reference3Ideal.Read.val_main_v18_eq _ _).trans ?_
    rw [h0, h1]
    rfl
  · obtain ⟨h0, h1⟩ := hagree c
    refine (Reference3Ideal.Read.val_main_v25_eq _ _).trans ?_
    rw [h0, h1]
    rfl

end Cert.Proof.Dil

end
-- ==== Proof.MergeIdealBody.lean ====
/- The merge kernel at one grid point: from 512 tokens' branch outputs, gates and modulation rows it stores the normed
   residual rows, the scaled rows the experts read (row-tiled), and the router's logits. -/
module

public import proofs.«01_k».proof.Proof.Gen.Kernel4Ideal.Launch
public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel4Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-! ## What the body computes -/

/-- Third `k` of the gates' columns. -/
def third (k : Fin 3) (gl : Vec F S512x3072 .bf16) : Vec F S512x1024 .bf16 := fun j =>
  gl (fun | 0 => ⟨(j 0).val, (j 0).isLt⟩
          | 1 => ⟨1024 * k.val + (j 1).val, by have := (j 1).isLt; have := k.isLt; simp at *; omega⟩)

/-- Row `k` of a sequence's six modulation rows. -/
def modRow (k : Fin 6) (md : Vec F S1x6x1024 .f32) : Vec F S1x1x1024 .f32 := fun j =>
  md (fun | 0 => ⟨0, Nat.one_pos⟩ | 1 => ⟨k.val, k.isLt⟩ | 2 => ⟨(j 2).val, (j 2).isLt⟩)

/-- The residual rows before the norm. -/
def residual (gl : Vec F S512x3072 .bf16) (ya : Vec F S512x256 .bf16) (yb yc : Vec F S512x512 .bf16) (pa : Vec F S1x256x1024 .bf16)
    (pp ph : Vec F S1x512x1024 .bf16) (wo : Vec F S1x1024x1024 .bf16) (md : Vec F S1x6x1024 .f32) (x : Vec F S512x1024 .f32) : FVec F S512x1024 .f32 :=
  k0_pay5 (k0_pay1 (third 0 gl) ya pa (third 1 gl) yb pp) (k0_pay2 (third 2 gl)) yc ph wo (modRow 2 md) x

/-- The normed rows. -/
def normed (gl : Vec F S512x3072 .bf16) (ya : Vec F S512x256 .bf16) (yb yc : Vec F S512x512 .bf16) (pa : Vec F S1x256x1024 .bf16)
    (pp ph : Vec F S1x512x1024 .bf16) (wo : Vec F S1x1024x1024 .bf16) (md : Vec F S1x6x1024 .f32) (x : Vec F S512x1024 .f32) (g b : Vec F S1x1x1024 .f32) : FVec F S512x1024 .f32 :=
  k0_pay6 (residual gl ya yb yc pa pp ph wo md x) g b

/-- The normed rows scaled and shifted for the experts. -/
def scaled (gl : Vec F S512x3072 .bf16) (ya : Vec F S512x256 .bf16) (yb yc : Vec F S512x512 .bf16) (pa : Vec F S1x256x1024 .bf16)
    (pp ph : Vec F S1x512x1024 .bf16) (wo : Vec F S1x1024x1024 .bf16) (md : Vec F S1x6x1024 .f32) (x : Vec F S512x1024 .f32) (g b : Vec F S1x1x1024 .f32) : FVec F S512x1024 .f32 :=
  k0_pay7 (k0_pay3 (modRow 3 md)) (k0_pay4 (modRow 4 md)) (residual gl ya yb yc pa pp ph wo md x) g b

/-- A token-by-column array laid out as a tiled block. -/
def tiled (y : FVec F S512x1024 .f32) : Vec F S4096x128 .f32 := fun r =>
  y (fun | 0 => ⟨(r 0).val / 8, by have := (r 0).isLt; simp at this ⊢; omega⟩
         | 1 => ⟨128 * ((r 0).val % 8) + (r 1).val, by have := (r 1).isLt; simp at this ⊢; omega⟩)

/-! ## The strided stores -/

/-- A strided store of column chunk `k` agrees with the tiled layout. -/
theorem slice_tiled (y : FVec F S512x1024 .f32) (k : Fin 8)
    (inb : ∀ a, S512x128.size a = 0 ∨ (![k.val, 0] : Fin 2 → Nat) a + (![8, 1] : Fin 2 → Nat) a * (S512x128.size a - 1) < S4096x128.size a)
    (sl : S512x1024.Slices ![0, 128 * k.val] S512x128) (j : S512x128.Idx) :
    extractStridedSlice S512x128 ![0, 128 * k.val] y sl j
      = tiled y ((⟨⟨![k.val, 0], S512x128.size, ![8, 1], inb⟩, spos_8_1⟩ : Rect S4096x128).emb j) := by
  unfold extractStridedSlice tiled
  congr 1
  funext a
  apply Fin.ext
  have hk := k.isLt
  match a with
  | 0 =>
    show 0 + (j 0).val = (k.val + 8 * (j 0).val) / 8
    omega
  | 1 =>
    show 128 * k.val + (j 1).val = 128 * ((k.val + 8 * (j 0).val) % 8) + (0 + 1 * (j 1).val)
    omega

/-- The rows of chunk `k` are those congruent to `k` modulo 8. -/
theorem mem_rows (r : S4096x128.Idx) (k : Fin 8) (hk : (r 0).val % 8 = k.val)
    (inb : ∀ a, S512x128.size a = 0 ∨ (![k.val, 0] : Fin 2 → Nat) a + (![8, 1] : Fin 2 → Nat) a * (S512x128.size a - 1) < S4096x128.size a) :
    r ∈ (⟨⟨![k.val, 0], S512x128.size, ![8, 1], inb⟩, spos_8_1⟩ : Rect S4096x128).set := by
  have h0 := (r 0).isLt
  refine (LoadRect.mem_set _).mpr fun a => ?_
  match a with
  | 0 => exact ⟨(r 0).val / 8, by show _ < 512; simp at h0; omega, by show (r 0).val = k.val + 8 * ((r 0).val / 8); omega⟩
  | 1 => exact ⟨(r 1).val, (r 1).isLt, by show (r 1).val = 0 + 1 * (r 1).val; omega⟩

/-- The eight strided stores of a token-by-column array's chunks leave it tiled, whatever the block held. -/
theorem read_tiles (a16 : Memref sig .tc .vmem S4096x128 .f32) (f : a16.view.ty.Contents (Elt F)) (y : FVec F S512x1024 .f32) :
    a16.view.read (Elt F) (a16.view.writes (Elt F) f
      [⟨⟨⟨![7, 0], S512x128.size, ![8, 1], inb_S4096x128_S512x128_7_0_s_8_1⟩, spos_8_1⟩, extractStridedSlice S512x128 ![0, 896] y slices_S512x1024_o0_896_S512x128⟩,
        ⟨⟨⟨![6, 0], S512x128.size, ![8, 1], inb_S4096x128_S512x128_6_0_s_8_1⟩, spos_8_1⟩, extractStridedSlice S512x128 ![0, 768] y slices_S512x1024_o0_768_S512x128⟩,
        ⟨⟨⟨![5, 0], S512x128.size, ![8, 1], inb_S4096x128_S512x128_5_0_s_8_1⟩, spos_8_1⟩, extractStridedSlice S512x128 ![0, 640] y slices_S512x1024_o0_640_S512x128⟩,
        ⟨⟨⟨![4, 0], S512x128.size, ![8, 1], inb_S4096x128_S512x128_4_0_s_8_1⟩, spos_8_1⟩, extractStridedSlice S512x128 ![0, 512] y slices_S512x1024_o0_512_S512x128⟩,
        ⟨⟨⟨![3, 0], S512x128.size, ![8, 1], inb_S4096x128_S512x128_3_0_s_8_1⟩, spos_8_1⟩, extractStridedSlice S512x128 ![0, 384] y slices_S512x1024_o0_384_S512x128⟩,
        ⟨⟨⟨![2, 0], S512x128.size, ![8, 1], inb_S4096x128_S512x128_2_0_s_8_1⟩, spos_8_1⟩, extractStridedSlice S512x128 ![0, 256] y slices_S512x1024_o0_256_S512x128⟩,
        ⟨⟨⟨![1, 0], S512x128.size, ![8, 1], inb_S4096x128_S512x128_1_0_s_8_1⟩, spos_8_1⟩, extractStridedSlice S512x128 ![0, 128] y slices_S512x1024_o0_128_S512x128⟩,
        ⟨⟨⟨![0, 0], S512x128.size, ![8, 1], inb_S4096x128_S512x128_0_0_s_8_1⟩, spos_8_1⟩, extractStridedSlice S512x128 ![0, 0] y slices_S512x1024_o0_0_S512x128⟩]) = tiled y := by
  funext r
  refine View.read_writes_apply_of_pieces _ _ _ _ ?_ r ?_
  · simp only [List.forall_mem_cons, List.not_mem_nil, false_imp_iff, implies_true, and_true]
    exact ⟨slice_tiled _ 7 _ _, slice_tiled _ 6 _ _, slice_tiled _ 5 _ _, slice_tiled _ 4 _ _, slice_tiled _ 3 _ _,
      slice_tiled _ 2 _ _, slice_tiled _ 1 _ _, slice_tiled _ 0 _ _⟩
  · simp only [List.exists_mem_cons_iff, List.not_mem_nil, false_and, exists_false, or_false]
    have h8 : (r 0).val % 8 < 8 := Nat.mod_lt _ (by decide)
    have hm := fun k : Fin 8 => mem_rows r k
    obtain hr | hr | hr | hr | hr | hr | hr | hr : (r 0).val % 8 = 0 ∨ (r 0).val % 8 = 1 ∨ (r 0).val % 8 = 2 ∨ (r 0).val % 8 = 3
      ∨ (r 0).val % 8 = 4 ∨ (r 0).val % 8 = 5 ∨ (r 0).val % 8 = 6 ∨ (r 0).val % 8 = 7 := by omega
    · exact .inr (.inr (.inr (.inr (.inr (.inr (.inr (hm 0 hr _)))))))
    · exact .inr (.inr (.inr (.inr (.inr (.inr (.inl (hm 1 hr _)))))))
    · exact .inr (.inr (.inr (.inr (.inr (.inl (hm 2 hr _))))))
    · exact .inr (.inr (.inr (.inr (.inl (hm 3 hr _)))))
    · exact .inr (.inr (.inr (.inl (hm 4 hr _))))
    · exact .inr (.inr (.inl (hm 5 hr _)))
    · exact .inr (.inl (hm 6 hr _))
    · exact .inl (hm 7 hr _)

/-! ## The loads of parts of a buffer -/

/-- A load of one third of the gates' columns. -/
theorem read_third (a4 : Memref sig .tc .vmem S512x3072 .bf16) (h4 : a4.IsWhole) (gl : Vec F S512x3072 .bf16) (k : Fin 3)
    (inb : ∀ a, (![0, 1024 * k.val] : Fin 2 → Nat) a + S512x1024.size a ≤ S512x3072.size a) :
    a4.view.readAt (Elt F) (Rect.unit (s := S512x3072) ![0, 1024 * k.val] S512x1024.size inb).toLoadRect (h4.unread gl) = third k gl := by
  funext j
  rw [View.readAt_apply, h4.read_unread]
  unfold third
  congr 1
  funext a
  apply Fin.ext
  match a with
  | 0 => show 0 + 1 * (j 0).val = (j 0).val; omega
  | 1 => show 1024 * k.val + 1 * (j 1).val = 1024 * k.val + (j 1).val; omega

/-- A load of one modulation row. -/
theorem read_row (a6 : Memref sig .tc .vmem S1x6x1024 .f32) (h6 : a6.IsWhole) (md : Vec F S1x6x1024 .f32) (k : Fin 6)
    (inb : ∀ a, (![0, k.val, 0] : Fin 3 → Nat) a + S1x1x1024.size a ≤ S1x6x1024.size a) :
    a6.view.readAt (Elt F) (Rect.unit (s := S1x6x1024) ![0, k.val, 0] S1x1x1024.size inb).toLoadRect (h6.unread md) = modRow k md := by
  funext j
  rw [View.readAt_apply, h6.read_unread]
  unfold modRow
  congr 1
  funext a
  apply Fin.ext
  match a with
  | 0 => have := (j 0).isLt
         show 0 + 1 * (j 0).val = 0; simp at this; omega
  | 1 => have := (j 1).isLt
         show k.val + 1 * (j 1).val = k.val; simp at this; omega
  | 2 => show 0 + 1 * (j 2).val = (j 2).val; omega

section Body

variable (c : Dev nD) (i : grid0.Coords)
  (a1 : Memref sig .tc .vmem S512x256 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x3072 .bf16) (h4 : a4.IsWhole)
  (a5 : Memref sig .tc .vmem S512x1024 .f32) (h5 : a5.IsWhole)
  (a6 : Memref sig .tc .vmem S1x6x1024 .f32) (h6 : a6.IsWhole)
  (a7 : Memref sig .tc .vmem S1x256x1024 .bf16) (h7 : a7.IsWhole)
  (a8 : Memref sig .tc .vmem S1x512x1024 .bf16) (h8 : a8.IsWhole)
  (a9 : Memref sig .tc .vmem S1x512x1024 .bf16) (h9 : a9.IsWhole)
  (a10 : Memref sig .tc .vmem S1x1024x1024 .bf16) (h10 : a10.IsWhole)
  (a11 : Memref sig .tc .vmem S1x1x1024 .f32) (h11 : a11.IsWhole)
  (a12 : Memref sig .tc .vmem S1x1x1024 .f32) (h12 : a12.IsWhole)
  (a13 : Memref sig .tc .vmem S1024x128 .f32) (h13 : a13.IsWhole)
  (a14 : Memref sig .tc .vmem S1x128 .f32) (h14 : a14.IsWhole)
  (a15 : Memref sig .tc .vmem S512x1024 .f32) (h15 : a15.IsWhole)
  (a16 : Memref sig .tc .vmem S4096x128 .f32) (h16 : a16.IsWhole)
  (a17 : Memref sig .tc .vmem S32x512 .f32) (h17 : a17.IsWhole)
  (ya : Vec F S512x256 .bf16) (yb : Vec F S512x512 .bf16) (yc : Vec F S512x512 .bf16) (gl : Vec F S512x3072 .bf16) (x : Vec F S512x1024 .f32)
  (md : Vec F S1x6x1024 .f32) (pa : Vec F S1x256x1024 .bf16) (pp : Vec F S1x512x1024 .bf16) (ph : Vec F S1x512x1024 .bf16) (wo : Vec F S1x1024x1024 .bf16)
  (g : Vec F S1x1x1024 .f32) (b : Vec F S1x1x1024 .f32) (wr : Vec F S1024x128 .f32) (br : Vec F S1x128 .f32)

/-- What the body only reads: the inputs' blocks. -/
abbrev held : sProp 𝕄 :=
  iprop(owns (c : Thread nD τ) a1 fullShare ya ∗ owns (c : Thread nD τ) a2 fullShare yb ∗ owns (c : Thread nD τ) a3 fullShare yc ∗ owns (c : Thread nD τ) a4 fullShare gl ∗ owns (c : Thread nD τ) a5 fullShare x ∗ owns (c : Thread nD τ) a6 fullShare md ∗ owns (c : Thread nD τ) a7 fullShare pa ∗ owns (c : Thread nD τ) a8 fullShare pp ∗ owns (c : Thread nD τ) a9 fullShare ph ∗ owns (c : Thread nD τ) a10 fullShare wo ∗ owns (c : Thread nD τ) a11 fullShare g ∗ owns (c : Thread nD τ) a12 fullShare b ∗ owns (c : Thread nD τ) a13 fullShare wr ∗ owns (c : Thread nD τ) a14 fullShare br)

set_option maxHeartbeats 4000000 in
/-- The body's triple: it keeps its inputs and leaves the normed rows, the scaled rows tiled, and the logits. -/
theorem run_body (E : Set ℕ) (K : PUnit → sProp 𝕄) :
    iprop(held c a1 a2 a3 a4 a5 a6 a7 a8 a9 a10 a11 a12 a13 a14 ya yb yc gl x md pa pp ph wo g b wr br
        ∗ (∃ d, owns (c : Thread nD τ) a15 fullShare d) ∗ (∃ d, owns (c : Thread nD τ) a16 fullShare d) ∗ (∃ d, owns (c : Thread nD τ) a17 fullShare d)
        ∗ (iprop(held c a1 a2 a3 a4 a5 a6 a7 a8 a9 a10 a11 a12 a13 a14 ya yb yc gl x md pa pp ph wo g b wr br
            ∗ owns (c : Thread nD τ) a15 fullShare (normed gl ya yb yc pa pp ph wo md x g b)
            ∗ owns (c : Thread nD τ) a16 fullShare (tiled (scaled gl ya yb yc pa pp ph wo md x g b))
            ∗ owns (c : Thread nD τ) a17 fullShare (k0_pay16 (scaled gl ya yb yc pa pp ph wo md x g b) wr br)) -∗ K ⟨⟩))
      ⊢ wp frame (wpE (defs₀ (F := F)) Variants.none c none) E
          (cc0_merge_ln1_router i a1 h1 a2 h2 a3 h3 a4 h4 a5 h5 a6 h6 a7 h7 a8 h8 a9 h9 a10 h10 a11 h11 a12 h12 a13 h13 a14 h14 a15 h15 a16 h16 a17 h17) K := by
  simp only [cc0_merge_ln1_router_eq_skeleton]; unfold cc0_merge_ln1_router_skel
  simp only [k0_part4_eq_skeleton]; unfold k0_part4_skel
  simp only [k0_part1_eq_skeleton, k0_part2_eq_skeleton, k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%d15, %f15, -, H15⟩, ⟨%d16, %f16, -, H16⟩, Hk⟩
  obtain rfl := h1.eq_unread hf0; obtain rfl := h2.eq_unread hf1; obtain rfl := h3.eq_unread hf2; obtain rfl := h4.eq_unread hf3; obtain rfl := h5.eq_unread hf4
  obtain rfl := h6.eq_unread hf5; obtain rfl := h7.eq_unread hf6; obtain rfl := h8.eq_unread hf7; obtain rfl := h9.eq_unread hf8; obtain rfl := h10.eq_unread hf9
  obtain rfl := h11.eq_unread hf10; obtain rfl := h12.eq_unread hf11; obtain rfl := h13.eq_unread hf12; obtain rfl := h14.eq_unread hf13
  have t0 := read_third a4 h4 gl 0 inb_S512x3072_S512x1024_0_0
  have t1 := read_third a4 h4 gl 1 inb_S512x3072_S512x1024_0_1024
  have t2 := read_third a4 h4 gl 2 inb_S512x3072_S512x1024_0_2048
  have r2 := read_row a6 h6 md 2 inb_S1x6x1024_S1x1x1024_0_2_0
  have r3 := read_row a6 h6 md 3 inb_S1x6x1024_S1x1x1024_0_3_0
  have r4 := read_row a6 h6 md 4 inb_S1x6x1024_S1x1x1024_0_4_0
  have w0 : a1.view.readAt (Elt F) (Rect.unit (s := S512x256) ![0, 0] S512x256.size inb_S512x256_S512x256_0_0).toLoadRect (h1.unread ya) = ya :=
    (View.readAt_full _ _ _).trans (h1.read_unread _)
  have w1 : a2.view.readAt (Elt F) (Rect.unit (s := S512x512) ![0, 0] S512x512.size inb_S512x512_S512x512_0_0).toLoadRect (h2.unread yb) = yb :=
    (View.readAt_full _ _ _).trans (h2.read_unread _)
  have w2 : a3.view.readAt (Elt F) (Rect.unit (s := S512x512) ![0, 0] S512x512.size inb_S512x512_S512x512_0_0).toLoadRect (h3.unread yc) = yc :=
    (View.readAt_full _ _ _).trans (h3.read_unread _)
  have w4 : a5.view.readAt (Elt F) (Rect.unit (s := S512x1024) ![0, 0] S512x1024.size inb_S512x1024_S512x1024_0_0).toLoadRect (h5.unread x) = x :=
    (View.readAt_full _ _ _).trans (h5.read_unread _)
  have w6 : a7.view.readAt (Elt F) (Rect.unit (s := S1x256x1024) ![0, 0, 0] S1x256x1024.size inb_S1x256x1024_S1x256x1024_0_0_0).toLoadRect (h7.unread pa) = pa :=
    (View.readAt_full _ _ _).trans (h7.read_unread _)
  have w7 : a8.view.readAt (Elt F) (Rect.unit (s := S1x512x1024) ![0, 0, 0] S1x512x1024.size inb_S1x512x1024_S1x512x1024_0_0_0).toLoadRect (h8.unread pp) = pp :=
    (View.readAt_full _ _ _).trans (h8.read_unread _)
  have w8 : a9.view.readAt (Elt F) (Rect.unit (s := S1x512x1024) ![0, 0, 0] S1x512x1024.size inb_S1x512x1024_S1x512x1024_0_0_0).toLoadRect (h9.unread ph) = ph :=
    (View.readAt_full _ _ _).trans (h9.read_unread _)
  have w9 : a10.view.readAt (Elt F) (Rect.unit (s := S1x1024x1024) ![0, 0, 0] S1x1024x1024.size inb_S1x1024x1024_S1x1024x1024_0_0_0).toLoadRect (h10.unread wo) = wo :=
    (View.readAt_full _ _ _).trans (h10.read_unread _)
  have w10 : a11.view.readAt (Elt F) (Rect.unit (s := S1x1x1024) ![0, 0, 0] S1x1x1024.size inb_S1x1x1024_S1x1x1024_0_0_0).toLoadRect (h11.unread g) = g :=
    (View.readAt_full _ _ _).trans (h11.read_unread _)
  have w11 : a12.view.readAt (Elt F) (Rect.unit (s := S1x1x1024) ![0, 0, 0] S1x1x1024.size inb_S1x1x1024_S1x1x1024_0_0_0).toLoadRect (h12.unread b) = b :=
    (View.readAt_full _ _ _).trans (h12.read_unread _)
  have w12 : a13.view.readAt (Elt F) (Rect.unit (s := S1024x128) ![0, 0] S1024x128.size inb_S1024x128_S1024x128_0_0).toLoadRect (h13.unread wr) = wr :=
    (View.readAt_full _ _ _).trans (h13.read_unread _)
  have w13 : a14.view.readAt (Elt F) (Rect.unit (s := S1x128) ![0, 0] S1x128.size inb_S1x128_S1x128_0_0).toLoadRect (h14.unread br) = br :=
    (View.readAt_full _ _ _).trans (h14.read_unread _)
  sl_exec
  sl_step
  iapply Hk
  isplitl [H0 H1 H2 H3 H4 H5 H6 H7 H8 H9 H10 H11 H12 H13]
  · isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    iexists _; isplitr; · ipureintro; exact h14.read_unread _
    iexact H13
  isplitl [H14]
  · iexists _; isplitr
    swap; · iexact H14
    ipureintro
    exact View.read_writes_full _ _ _ _ _
  isplitl [H15]
  · iexists _; isplitr
    swap; · iexact H15
    ipureintro
    exact read_tiles a16 f15 (scaled gl ya yb yc pa pp ph wo md x g b)
  · iexists _; isplitr
    swap; · iexact H16
    ipureintro
    exact View.read_writes_full _ _ _ _ _

end Body

end Cert.Kernel4Ideal.Merge

end
-- ==== Proof.MergeIdealFrame.lean ====
/- The merge kernel's frame: over its 64 points the pipeline stores each 512 tokens' normed rows, scaled rows and
   logits, and leaves every argument array as it began. -/
module

public import proofs.«01_k».proof.Proof.MergeIdealBody
public import Idealize.ShloMosaic.Lib.Claim

@[expose] public section

set_option maxRecDepth 16384

noncomputable section

namespace Cert.Kernel4Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The normed rows of the tokens that point `t` works on. -/
def normedAt (c : Dev nD) (t : Fin cfg0.N) : FVec F S512x1024 .f32 :=
  normed (X0_3 m c t) (iblk m c 0 t) (iblk m c 1 t) (iblk m c 2 t) (iblk m c 6 t) (iblk m c 7 t) (iblk m c 8 t) (iblk m c 9 t) (iblk m c 5 t) (iblk m c 4 t)
    (iblk m c 10 t) (iblk m c 11 t)

/-- Their scaled rows. -/
def scaledAt (c : Dev nD) (t : Fin cfg0.N) : FVec F S512x1024 .f32 :=
  scaled (X0_3 m c t) (iblk m c 0 t) (iblk m c 1 t) (iblk m c 2 t) (iblk m c 6 t) (iblk m c 7 t) (iblk m c 8 t) (iblk m c 9 t) (iblk m c 5 t) (iblk m c 4 t)
    (iblk m c 10 t) (iblk m c 11 t)

/-- The pipeline's proof data: each input's buffer keeps its block, the results' end at the normed rows, the tiled
    scaled rows and the logits. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => normedAt m c t
    | ⟨15, _⟩ => tiled (scaledAt m c t)
    | ⟨16, _⟩ => k0_pay16 (scaledAt m c t) (iblk m c 12 t) (iblk m c 13 t)
    | ⟨n + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_ya (c : Dev nD) (t : Fin cfg0.N) : (dats m 0 c).after 0 t = iblk m c 0 t := by dsimp only [dats]; try rfl
theorem after_yb (c : Dev nD) (t : Fin cfg0.N) : (dats m 0 c).after 1 t = iblk m c 1 t := by dsimp only [dats]; try rfl
theorem after_yc (c : Dev nD) (t : Fin cfg0.N) : (dats m 0 c).after 2 t = iblk m c 2 t := by dsimp only [dats]; try rfl
theorem after_gl (c : Dev nD) (t : Fin cfg0.N) : (dats m 0 c).after 3 t = X0_3 m c t := by dsimp only [dats]; try rfl
theorem after_x (c : Dev nD) (t : Fin cfg0.N) : (dats m 0 c).after 4 t = iblk m c 4 t := by dsimp only [dats]; try rfl
theorem after_mod (c : Dev nD) (t : Fin cfg0.N) : (dats m 0 c).after 5 t = iblk m c 5 t := by dsimp only [dats]; try rfl
theorem after_pa (c : Dev nD) (t : Fin cfg0.N) : (dats m 0 c).after 6 t = iblk m c 6 t := by dsimp only [dats]; try rfl
theorem after_pp (c : Dev nD) (t : Fin cfg0.N) : (dats m 0 c).after 7 t = iblk m c 7 t := by dsimp only [dats]; try rfl
theorem after_ph (c : Dev nD) (t : Fin cfg0.N) : (dats m 0 c).after 8 t = iblk m c 8 t := by dsimp only [dats]; try rfl
theorem after_wo (c : Dev nD) (t : Fin cfg0.N) : (dats m 0 c).after 9 t = iblk m c 9 t := by dsimp only [dats]; try rfl
theorem after_g (c : Dev nD) (t : Fin cfg0.N) : (dats m 0 c).after 10 t = iblk m c 10 t := by dsimp only [dats]; try rfl
theorem after_b (c : Dev nD) (t : Fin cfg0.N) : (dats m 0 c).after 11 t = iblk m c 11 t := by dsimp only [dats]; try rfl
theorem after_wr (c : Dev nD) (t : Fin cfg0.N) : (dats m 0 c).after 12 t = iblk m c 12 t := by dsimp only [dats]; try rfl
theorem after_br (c : Dev nD) (t : Fin cfg0.N) : (dats m 0 c).after 13 t = iblk m c 13 t := by dsimp only [dats]; try rfl
theorem after_x1 (c : Dev nD) (t : Fin cfg0.N) : (dats m 0 c).after 14 t = normedAt m c t := by dsimp only [dats]; try rfl
theorem after_u2 (c : Dev nD) (t : Fin cfg0.N) : (dats m 0 c).after 15 t = tiled (scaledAt m c t) := by dsimp only [dats]; try rfl
theorem after_lt (c : Dev nD) (t : Fin cfg0.N) :
    (dats m 0 c).after 16 t = k0_pay16 (scaledAt m c t) (iblk m c 12 t) (iblk m c 13 t) := by dsimp only [dats]; try rfl

theorem before_ya (c : Dev nD) (t : Fin cfg0.N) (d) : (dats m 0 c).before 0 t d = iblk m c 0 t :=
  before0_0_of m (dats m 0 c) (A_eq m c 0) (after_ya m c) t d
theorem before_yb (c : Dev nD) (t : Fin cfg0.N) (d) : (dats m 0 c).before 1 t d = iblk m c 1 t :=
  before0_1_of m (dats m 0 c) (A_eq m c 1) (after_yb m c) t d
theorem before_yc (c : Dev nD) (t : Fin cfg0.N) (d) : (dats m 0 c).before 2 t d = iblk m c 2 t :=
  before0_2_of m (dats m 0 c) (A_eq m c 2) (after_yc m c) t d
theorem before_gl (c : Dev nD) (t : Fin cfg0.N) (d) : (dats m 0 c).before 3 t d = X0_3 m c t :=
  before0_3_of m (dats m 0 c) (A_eq m c 3) (after_gl m c) t d
theorem before_x (c : Dev nD) (t : Fin cfg0.N) (d) : (dats m 0 c).before 4 t d = iblk m c 4 t :=
  before0_4_of m (dats m 0 c) (A_eq m c 4) (after_x m c) t d
theorem before_mod (c : Dev nD) (t : Fin cfg0.N) (d) : (dats m 0 c).before 5 t d = iblk m c 5 t :=
  before0_5_of m (dats m 0 c) (A_eq m c 5) (after_mod m c) t d
theorem before_pa (c : Dev nD) (t : Fin cfg0.N) (d) : (dats m 0 c).before 6 t d = iblk m c 6 t :=
  before0_6_of m (dats m 0 c) (A_eq m c 6) (after_pa m c) t d
theorem before_pp (c : Dev nD) (t : Fin cfg0.N) (d) : (dats m 0 c).before 7 t d = iblk m c 7 t :=
  before0_7_of m (dats m 0 c) (A_eq m c 7) (after_pp m c) t d
theorem before_ph (c : Dev nD) (t : Fin cfg0.N) (d) : (dats m 0 c).before 8 t d = iblk m c 8 t :=
  before0_8_of m (dats m 0 c) (A_eq m c 8) (after_ph m c) t d
theorem before_wo (c : Dev nD) (t : Fin cfg0.N) (d) : (dats m 0 c).before 9 t d = iblk m c 9 t :=
  before0_9_of m (dats m 0 c) (A_eq m c 9) (after_wo m c) t d
theorem before_g (c : Dev nD) (t : Fin cfg0.N) (d) : (dats m 0 c).before 10 t d = iblk m c 10 t :=
  before0_10_of m (dats m 0 c) (A_eq m c 10) (after_g m c) t d
theorem before_b (c : Dev nD) (t : Fin cfg0.N) (d) : (dats m 0 c).before 11 t d = iblk m c 11 t :=
  before0_11_of m (dats m 0 c) (A_eq m c 11) (after_b m c) t d
theorem before_wr (c : Dev nD) (t : Fin cfg0.N) (d) : (dats m 0 c).before 12 t d = iblk m c 12 t :=
  before0_12_of m (dats m 0 c) (A_eq m c 12) (after_wr m c) t d
theorem before_br (c : Dev nD) (t : Fin cfg0.N) (d) : (dats m 0 c).before 13 t d = iblk m c 13 t :=
  before0_13_of m (dats m 0 c) (A_eq m c 13) (after_br m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_ya, before_yb, before_yc, before_gl, before_x, before_mod, before_pa, before_pp, before_ph, before_wo, before_g, before_b, before_wr, before_br]
  rw [show (dats m 0 c).Φ t.succ = (dats m 0 c).Φ t.castSucc from rfl,
    show (dats m 0 c).owesAt () t.succ = (dats m 0 c).owesAt () t.castSucc from rfl,
    after_ya, after_yb, after_yc, after_gl, after_x, after_mod, after_pa, after_pp, after_ph, after_wo, after_g, after_b, after_wr, after_br, after_x1, after_u2, after_lt]
  unfold normedAt scaledAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run_body c (grid0.coords t) _ _ _ _ _ _ _ _ _ _ _ _ _ _ _ _ _ _ _ _ _ _ _ _ _ _ _ _ _ _ _ _ _ _
    (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [H15]; · iexists _; iexact H15
  isplitl [H16]; · iexists _; iexact H16
  iintro ⟨⟨H0, H1, H2, H3, H4, H5, H6, H7, H8, H9, H10, H11, H12, H13⟩, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_row (t : Fin cfg0.N) : defs₀ (F := F) .tc cfg0.body (cfg0.bodyArgs t (cfg0.slots t)) = bodyAt0 t := by
  unfold defs₀; rw [Defs.onTc_tc]

/-- Every result is written back at every point, so its contents are asked for as they are. -/
theorem leaves_x1 (c : Dev nD) (t : Fin cfg0.N) :
    (dats m 0 c).leavesExact 14 t = owns (c : Thread nD τ) (st0_14 t) fullShare ((dats m 0 c).after 14 t) := by
  unfold Dat.leavesExact; rw [flush0_14 t]; try cases cfg0.idle 14 (cfg0.grid.coords t) <;> rfl
theorem leaves_u2 (c : Dev nD) (t : Fin cfg0.N) :
    (dats m 0 c).leavesExact 15 t = owns (c : Thread nD τ) (st0_15 t) fullShare ((dats m 0 c).after 15 t) := by
  unfold Dat.leavesExact; rw [flush0_15 t]; try cases cfg0.idle 15 (cfg0.grid.coords t) <;> rfl
theorem leaves_lt (c : Dev nD) (t : Fin cfg0.N) :
    (dats m 0 c).leavesExact 16 t = owns (c : Thread nD τ) (st0_16 t) fullShare ((dats m 0 c).after 16 t) := by
  unfold Dat.leavesExact; rw [flush0_16 t]; try cases cfg0.idle 16 (cfg0.grid.coords t) <;> rfl

/-- The body's triple as the pipeline asks for it. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- The launch: every array ends at what the pipeline computes from the proof data, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch's arrays alone. -/
theorem run_arrays : θ_run defs (onTc (τ := τ) (main (F := F))) (s₀ m ρ) (Pipeline.FramePost cfgs (dats m) 0 (V m)) :=
  (θ_run defs _ _).mono (fun _ h => h.1) (run_zero m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_arrays m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_zero m ρ))

end Cert.Kernel4Ideal.Merge

end
-- ==== Proof.MergeRef.lean ====
/- A token's merged, normed and scaled rows as functions of its inputs, and the merge reference's results read at an
   index. -/
module

public import proofs.«01_k».proof.Proof.Gen.Reference4Ideal.Read
public import Idealize.ShloMosaic.Lib.StableHlo.ReadAt
public import Idealize.ShloMosaic.Lib.Pipeline.ValueKit

@[expose] public section

set_option maxRecDepth 65536

noncomputable section

namespace Cert.Merge

open Idealize.ShloMosaic

/-- The logistic gate. -/
def gate (v : EReal) : EReal := Ideal.div 1 (1 + Ideal.exp (-v))

/-- A token's gated sum of the three branches' projections, at column `d`. -/
def mergedRow (gl : Fin 3 → Fin 1024 → EReal) (ya : Fin 256 → EReal) (yb yc : Fin 512 → EReal) (pa : Fin 256 → Fin 1024 → EReal)
    (pp ph : Fin 512 → Fin 1024 → EReal) (d : Fin 1024) : EReal :=
  gate (gl 0 d) * (∑ e : Fin 256, ya e * pa e d) + gate (gl 1 d) * (∑ e : Fin 512, yb e * pp e d) + gate (gl 2 d) * ∑ e : Fin 512, yc e * ph e d

/-- Its residual row: the input scaled plus the output projection of the merged row under the modulation gate. -/
def residualRow (x gt u : Fin 1024 → EReal) (wo : Fin 1024 → Fin 1024 → EReal) (n : Fin 1024) : EReal :=
  Ideal.ofBits .f32 0x3FB504F3#32 * x n + (1 + gt n) * ∑ d : Fin 1024, u d * wo d n

/-- A row's mean. -/
def rowMean (r : Fin 1024 → EReal) : EReal := Ideal.div (∑ e : Fin 1024, r e) (Ideal.ofBits .f32 0x44800000#32)

/-- The layer norm of a row. -/
def layerNorm (r g b : Fin 1024 → EReal) (n : Fin 1024) : EReal :=
  (r n - rowMean r) * Ideal.rsqrt (rowMean (fun e => (r e - rowMean r) * (r e - rowMean r)) + Ideal.ofBits .f32 0x3727C5AC#32) * g n + b n

/-- A row scaled and shifted. -/
def rescale (v sc sh : EReal) : EReal := v * (1 + sc) + sh

end Cert.Merge

namespace Cert.Reference4Ideal.Merge

open Idealize.ShloMosaic Idealize.ShloMosaic.TcCoe Idealize.ShloMosaic.Tactic
open Cert.Reference4Ideal Cert.Reference4Ideal.Gen Cert.Reference4Ideal.Read Cert.Merge

variable (x0 : (⟨S16x2048x256, .bf16⟩ : BufTy).Contents (Elt Ideal)) (x1 x2 : (⟨S16x2048x512, .bf16⟩ : BufTy).Contents (Elt Ideal))
  (x3 : (⟨S16x2048x5120, .bf16⟩ : BufTy).Contents (Elt Ideal)) (x4 : (⟨S16x2048x1024, .f32⟩ : BufTy).Contents (Elt Ideal))
  (x5 : (⟨S16x6x1024, .f32⟩ : BufTy).Contents (Elt Ideal)) (x6 : (⟨S2x256x1024, .f32⟩ : BufTy).Contents (Elt Ideal))
  (x7 x8 : (⟨S2x512x1024, .f32⟩ : BufTy).Contents (Elt Ideal)) (x9 : (⟨S2x1024x1024, .f32⟩ : BufTy).Contents (Elt Ideal))
  (x10 x11 : (⟨S2x1024, .f32⟩ : BufTy).Contents (Elt Ideal))

/-- The gates' inputs of a token: the first 3072 columns of its projection, in three groups. -/
def gates (b : Fin 16) (s : Fin 2048) (k : Fin 3) (d : Fin 1024) : EReal := x3 (ix3 b s (⟨1024 * k.val + d.val, by omega⟩ : Fin 5120))

/-- A token's residual row from the arguments, -/
def residualOf (b : Fin 16) (s : Fin 2048) : Fin 1024 → EReal :=
  residualRow (fun n => x4 (ix3 b s n)) (fun n => x5 (ix3 b 2 n))
    (mergedRow (gates x3 b s) (fun e => x0 (ix3 b s e)) (fun e => x1 (ix3 b s e)) (fun e => x2 (ix3 b s e))
      (fun e d => x6 (ix3 0 e d)) (fun e d => x7 (ix3 0 e d)) (fun e d => x8 (ix3 0 e d)))
    (fun d n => x9 (ix3 0 d n))

/-- and its normed row. -/
def normedOf (b : Fin 16) (s : Fin 2048) : Fin 1024 → EReal :=
  layerNorm (residualOf x0 x1 x2 x3 x4 x5 x6 x7 x8 x9 b s) (fun n => x10 (ix2 0 n)) (fun n => x11 (ix2 0 n))

theorem v16_apply (b : Fin 16) (s : Fin 2048) (d : Fin 3072) :
    val_main_v16 (F := Ideal) x3 (ix3 b s d) = gate (x3 (ix3 b s (⟨d.val, by omega⟩ : Fin 5120))) := by
  pointwise [val_main_v9, val_main_v10, val_main_v11, val_main_v12, val_main_cst, val_main_v13, val_main_v14, val_main_cst_0, val_main_v15, val_main_v16, gate]

theorem v17_apply (b : Fin 16) (s : Fin 2048) (k : Fin 3) (d : Fin 1024) :
    val_main_v17 (F := Ideal) x3 (ix4 b s k d) = gate (gates x3 b s k d) := by
  refine (val_main_v17_apply x3 _).trans (Eq.trans ?_ (v16_apply x3 b s ⟨1024 * k.val + d.val, by omega⟩))
  refine congrArg (val_main_v16 (F := Ideal) x3) (funext (α := Fin 3) fun a => Fin.ext ?_)
  match a with
  | 0 => show (((b.val * 2048 + s.val) * 3 + k.val) * 1024 + d.val) / 6291456 = b.val; omega
  | 1 => show (((b.val * 2048 + s.val) * 3 + k.val) * 1024 + d.val) / 3072 % 2048 = s.val; omega
  | 2 => show (((b.val * 2048 + s.val) * 3 + k.val) * 1024 + d.val) % 3072 = 1024 * k.val + d.val; omega

theorem v22_apply (b : Fin 16) (s : Fin 2048) (d : Fin 1024) : val_main_v22 (F := Ideal) x3 (ix3 b s d) = gate (gates x3 b s 0 d) := by
  pointwise [val_main_v21, val_main_v22]
  exact v17_apply x3 b s 0 d

theorem v28_apply (b : Fin 16) (s : Fin 2048) (d : Fin 1024) : val_main_v28 (F := Ideal) x3 (ix3 b s d) = gate (gates x3 b s 1 d) := by
  pointwise [val_main_v27, val_main_v28]
  exact v17_apply x3 b s 1 d

theorem v35_apply (b : Fin 16) (s : Fin 2048) (d : Fin 1024) : val_main_v35 (F := Ideal) x3 (ix3 b s d) = gate (gates x3 b s 2 d) := by
  pointwise [val_main_v34, val_main_v35]
  exact v17_apply x3 b s 2 d

theorem v40_apply (b : Fin 16) (s : Fin 2048) (d : Fin 1024) :
    val_main_v40 (F := Ideal) x0 x1 x2 x3 x6 x7 x8 (ix3 b s d)
      = mergedRow (gates x3 b s) (fun e => x0 (ix3 b s e)) (fun e => x1 (ix3 b s e)) (fun e => x2 (ix3 b s e))
          (fun e d => x6 (ix3 0 e d)) (fun e d => x7 (ix3 0 e d)) (fun e d => x8 (ix3 0 e d)) d := by
  unfold mergedRow
  rw [← v22_apply, ← v28_apply, ← v35_apply]
  pointwise [val_main_v18, val_main_v19, val_main_v20, val_main_v23, val_main_v24, val_main_v25, val_main_v26, val_main_v29, val_main_v30, val_main_v31,
    val_main_v32, val_main_v33, val_main_v36, val_main_v37, val_main_v38, val_main_v39, val_main_v40]

theorem v50_apply (b : Fin 16) (s : Fin 2048) (n : Fin 1024) :
    val_main_v50 (F := Ideal) x0 x1 x2 x3 x4 x5 x6 x7 x8 x9 (ix3 b s n) = residualOf x0 x1 x2 x3 x4 x5 x6 x7 x8 x9 b s n := by
  unfold residualOf residualRow
  simp only [← v40_apply]
  pointwise [val_main_v0, val_main_v1, val_main_v2, val_main_v41, val_main_v42, val_main_v43, val_main_cst_1, val_main_v44, val_main_v45, val_main_cst_2,
    val_main_v46, val_main_v47, val_main_v48, val_main_v49, val_main_v50]

theorem v78_apply (b : Fin 16) (s : Fin 2048) (n : Fin 1024) :
    val_main_v78 (F := Ideal) x0 x1 x2 x3 x4 x5 x6 x7 x8 x9 x10 x11 (ix3 b s n) = normedOf x0 x1 x2 x3 x4 x5 x6 x7 x8 x9 x10 x11 b s n := by
  unfold normedOf layerNorm rowMean
  simp only [← v50_apply]
  pointwise [val_main_cst_3, val_main_v51, val_main_v52, val_main_cst_4, val_main_v53, val_main_v54, val_main_v55, val_main_v56, val_main_v57, val_main_cst_5,
    val_main_v58, val_main_v59, val_main_cst_6, val_main_v60, val_main_v61, val_main_v62, val_main_v63, val_main_cst_7, val_main_v64, val_main_v65,
    val_main_v66, val_main_v67, val_main_v68, val_main_v69, val_main_v70, val_main_v71, val_main_v72, val_main_v73, val_main_v74, val_main_v75,
    val_main_v76, val_main_v77, val_main_v78]

theorem v84_apply (b : Fin 16) (s : Fin 2048) (n : Fin 1024) :
    val_main_v84 (F := Ideal) x0 x1 x2 x3 x4 x5 x6 x7 x8 x9 x10 x11 (ix3 b s n)
      = rescale (normedOf x0 x1 x2 x3 x4 x5 x6 x7 x8 x9 x10 x11 b s n) (x5 (ix3 b 4 n)) (x5 (ix3 b 3 n)) := by
  unfold rescale
  rw [← v78_apply]
  pointwise [val_main_v3, val_main_v4, val_main_v5, val_main_v6, val_main_v7, val_main_v8, val_main_cst_8, val_main_v79, val_main_v80, val_main_v81,
    val_main_v82, val_main_v83, val_main_v84]

/-- The first result: a token's normed row, -/
theorem v85_apply (r : Fin 32768) (n : Fin 1024) :
    val_main_v85 (F := Ideal) x0 x1 x2 x3 x4 x5 x6 x7 x8 x9 x10 x11 (ix2 r n)
      = normedOf x0 x1 x2 x3 x4 x5 x6 x7 x8 x9 x10 x11 ⟨r.val / 2048, by omega⟩ ⟨r.val % 2048, by omega⟩ n := by
  refine (val_main_v85_apply x0 x1 x2 x3 x4 x5 x6 x7 x8 x9 x10 x11 _).trans (Eq.trans ?_ (v78_apply x0 x1 x2 x3 x4 x5 x6 x7 x8 x9 x10 x11 _ _ n))
  refine congrArg (val_main_v78 (F := Ideal) x0 x1 x2 x3 x4 x5 x6 x7 x8 x9 x10 x11) (funext (α := Fin 3) fun a => Fin.ext ?_)
  match a with
  | 0 => show (r.val * 1024 + n.val) / 2097152 = r.val / 2048; omega
  | 1 => show (r.val * 1024 + n.val) / 1024 % 2048 = r.val % 2048; omega
  | 2 => show (r.val * 1024 + n.val) % 1024 = n.val; omega

/-- and the second: its scaled row, eight tiled rows a token. -/
theorem v86_apply (q : Fin 262144) (l : Fin 128) :
    val_main_v86 (F := Ideal) x0 x1 x2 x3 x4 x5 x6 x7 x8 x9 x10 x11 (ix2 q l)
      = rescale (normedOf x0 x1 x2 x3 x4 x5 x6 x7 x8 x9 x10 x11 ⟨q.val / 16384, by omega⟩ ⟨q.val / 8 % 2048, by omega⟩ ⟨128 * (q.val % 8) + l.val, by omega⟩)
          (x5 (ix3 ⟨q.val / 16384, by omega⟩ 4 ⟨128 * (q.val % 8) + l.val, by omega⟩))
          (x5 (ix3 ⟨q.val / 16384, by omega⟩ 3 ⟨128 * (q.val % 8) + l.val, by omega⟩)) := by
  refine (val_main_v86_apply x0 x1 x2 x3 x4 x5 x6 x7 x8 x9 x10 x11 _).trans (Eq.trans ?_ (v84_apply x0 x1 x2 x3 x4 x5 x6 x7 x8 x9 x10 x11 _ _ _))
  refine congrArg (val_main_v84 (F := Ideal) x0 x1 x2 x3 x4 x5 x6 x7 x8 x9 x10 x11) (funext (α := Fin 3) fun a => Fin.ext ?_)
  match a with
  | 0 => show (q.val * 128 + l.val) / 2097152 = q.val / 16384; omega
  | 1 => show (q.val * 128 + l.val) / 1024 % 2048 = q.val / 8 % 2048; omega
  | 2 => show (q.val * 128 + l.val) % 1024 = 128 * (q.val % 8) + l.val; omega

end Cert.Reference4Ideal.Merge

end
-- ==== Proof.MergeIdealValue.lean ====
/- The merge kernel's first two results over the extended reals: every token's normed row and its scaled row are the
   reference's. -/
module

public import proofs.«01_k».proof.Proof.MergeIdealFrame
public import proofs.«01_k».proof.Proof.MergeRef
public import Idealize.ShloMosaic.Lib.StableHlo.ReadAt
public import Idealize.ShloMosaic.Lib.Pipeline.ValueKit

@[expose] public section

set_option maxRecDepth 16384

noncomputable section

namespace Cert.Kernel4Ideal.Merge

open Idealize.ShloMosaic Idealize.ShloMosaic.TcCoe Idealize.ShloMosaic.Tactic
open Idealize.SL Idealize.SL.Sem
open Idealize.ShloMosaic.Pipeline (Dat Cfg Window)
open Cert.Kernel4Ideal.Gen Cert.Merge

/-! ## The body's payloads at an index -/

section Payloads

variable (gl : Vec Ideal S512x3072 .bf16) (ya : Vec Ideal S512x256 .bf16) (yb yc : Vec Ideal S512x512 .bf16) (pa : Vec Ideal S1x256x1024 .bf16)
  (pp ph : Vec Ideal S1x512x1024 .bf16) (wo : Vec Ideal S1x1024x1024 .bf16) (md : Vec Ideal S1x6x1024 .f32) (x : Vec Ideal S512x1024 .f32)
  (g b : Vec Ideal S1x1x1024 .f32)

theorem residual_apply (i : Fin 512) (n : Fin 1024) :
    residual gl ya yb yc pa pp ph wo md x (ix2 i n)
      = residualRow (fun n => x (ix2 i n)) (fun n => modRow 2 md (ix3 0 0 n))
          (mergedRow (fun k d => third k gl (ix2 i d)) (fun e => ya (ix2 i e)) (fun e => yb (ix2 i e)) (fun e => yc (ix2 i e))
            (fun e d => pa (ix3 0 e d)) (fun e d => pp (ix3 0 e d)) (fun e d => ph (ix3 0 e d)))
          (fun d n => wo (ix3 0 d n)) n := by
  pointwise [residual, k0_pay5, k0_pay1, k0_pay2]
  simp only [zero_sub]
  rfl

theorem normed_apply (i : Fin 512) (n : Fin 1024) :
    normed gl ya yb yc pa pp ph wo md x g b (ix2 i n)
      = layerNorm (fun n => residual gl ya yb yc pa pp ph wo md x (ix2 i n)) (fun n => g (ix3 0 0 n)) (fun n => b (ix3 0 0 n)) n := by
  unfold normed
  pointwise [k0_pay6]
  rfl

theorem scaled_apply (i : Fin 512) (n : Fin 1024) :
    scaled gl ya yb yc pa pp ph wo md x g b (ix2 i n)
      = rescale (normed gl ya yb yc pa pp ph wo md x g b (ix2 i n)) (modRow 4 md (ix3 0 0 n)) (modRow 3 md (ix3 0 0 n)) := by
  unfold scaled normed
  pointwise [k0_pay7, k0_pay3, k0_pay4]
  rfl

end Payloads

variable (m : (ℓ : Loc nD τ sig) → Buf (Elt Ideal) ℓ)

/-! ## What the region finds: the flattened activations, and the weights (the format changes are the identity) -/

/-- A token's sequence, -/
def seqOf (r : Fin 32768) : Fin 16 := ⟨r.val / 2048, by omega⟩
/-- and its place there. -/
def posOf (r : Fin 32768) : Fin 2048 := ⟨r.val % 2048, by omega⟩

theorem V_v17 (c : Dev nD) (r : Fin 32768) (e : Fin 256) :
    V m c main_v17 (ix2 r e) = m ((c : Thread nD τ).loc main_arg0) (ix3 (seqOf r) (posOf r) e) := by
  entry_read
  pointwise [seqOf, posOf]

theorem V_v18 (c : Dev nD) (r : Fin 32768) (e : Fin 512) :
    V m c main_v18 (ix2 r e) = m ((c : Thread nD τ).loc main_arg1) (ix3 (seqOf r) (posOf r) e) := by
  entry_read
  pointwise [seqOf, posOf]

theorem V_v19 (c : Dev nD) (r : Fin 32768) (e : Fin 512) :
    V m c main_v19 (ix2 r e) = m ((c : Thread nD τ).loc main_arg2) (ix3 (seqOf r) (posOf r) e) := by
  entry_read
  pointwise [seqOf, posOf]

theorem V_v20 (c : Dev nD) (r : Fin 32768) (e : Fin 5120) :
    V m c main_v20 (ix2 r e) = m ((c : Thread nD τ).loc main_arg3) (ix3 (seqOf r) (posOf r) e) := by
  entry_read
  pointwise [seqOf, posOf]

theorem V_v21 (c : Dev nD) (r : Fin 32768) (e : Fin 1024) :
    V m c main_v21 (ix2 r e) = m ((c : Thread nD τ).loc main_arg4) (ix3 (seqOf r) (posOf r) e) := by
  entry_read
  pointwise [seqOf, posOf]

theorem V_v0 (c : Dev nD) (l : Fin 2) (e : Fin 256) (n : Fin 1024) :
    V m c main_v0 (ix3 l e n) = m ((c : Thread nD τ).loc main_arg6) (ix3 l e n) := by
  entry_read
  pointwise []

theorem V_v1 (c : Dev nD) (l : Fin 2) (e : Fin 512) (n : Fin 1024) :
    V m c main_v1 (ix3 l e n) = m ((c : Thread nD τ).loc main_arg7) (ix3 l e n) := by
  entry_read
  pointwise []

theorem V_v2 (c : Dev nD) (l : Fin 2) (e : Fin 512) (n : Fin 1024) :
    V m c main_v2 (ix3 l e n) = m ((c : Thread nD τ).loc main_arg8) (ix3 l e n) := by
  entry_read
  pointwise []

theorem V_v3 (c : Dev nD) (l : Fin 2) (e : Fin 1024) (n : Fin 1024) :
    V m c main_v3 (ix3 l e n) = m ((c : Thread nD τ).loc main_arg9) (ix3 l e n) := by
  entry_read
  pointwise []

theorem V_v15 (c : Dev nD) (l : Fin 2) (n : Fin 1024) :
    V m c main_v15 (ix3 l 0 n) = m ((c : Thread nD τ).loc main_arg10) (ix2 l n) := by
  entry_read
  pointwise []

theorem V_v16 (c : Dev nD) (l : Fin 2) (n : Fin 1024) :
    V m c main_v16 (ix3 l 0 n) = m ((c : Thread nD τ).loc main_arg11) (ix2 l n) := by
  entry_read
  pointwise []

/-! ## The blocks at coordinates -/

theorem coord (t : Fin 64) : (grid0.coords t 0).val = t.val := by
  show t.val / grid0.stride 0 % 64 = t.val
  rw [show grid0.stride 0 = 1 by decide]
  omega

/-- Four points a sequence. -/
theorem seq_index : ∀ t : Fin 64, cc0_transform_5 (grid0.coords t) 0 = t.val / 4 := by decide +kernel

theorem row_lt {R : ℕ} (t : Fin 64) (i : Fin R) : t.val * R + i.val < 64 * R := by
  have h : (t.val + 1) * R ≤ 64 * R := Nat.mul_le_mul_right R t.isLt
  rw [Nat.add_mul, Nat.one_mul] at h
  exact Nat.lt_of_lt_of_le (Nat.add_lt_add_left i.isLt _) h

/-- Token `i` of point `t`. -/
def tok (t : Fin 64) (i : Fin 512) : Fin 32768 := ⟨t.val * 512 + i.val, by omega⟩

/-- Where a row block's cell falls in its array: the blocks are `R` rows of the whole width. -/
theorem at_rows {R C T : ℕ} (t : Fin 64) (i : Fin R) (e : Fin C) (hT : 64 * R = T) (j : (⟨2, ![T, C]⟩ : Shape).Idx)
    (h0 : (j 0).val = (BitVec.ofNat 32 (grid0.coords t 0).val).toNat * R + 1 * i.val) (h1 : (j 1).val = 0 * C + 1 * e.val) :
    j = ix2 ⟨t.val * R + i.val, hT ▸ row_lt t i⟩ e := by
  refine funext (α := Fin 2) fun a => Fin.ext ?_
  match a with
  | 0 =>
    refine h0.trans ?_
    rw [coord, BitVec.toNat_ofNat, Nat.mod_eq_of_lt (by omega), Nat.one_mul]
    rfl
  | 1 => exact h1.trans (by rw [Nat.zero_mul, Nat.zero_add, Nat.one_mul]; rfl)

/-- Where a weight block's cell falls: the block is the first layer. -/
theorem at_layer {A B : ℕ} (e : Fin A) (n : Fin B) (j : (⟨3, ![2, A, B]⟩ : Shape).Idx)
    (h0 : (j 0).val = 0) (h1 : (j 1).val = 0 * A + 1 * e.val) (h2 : (j 2).val = 0 * B + 1 * n.val) : j = ix3 0 e n := by
  refine funext (α := Fin 3) fun a => Fin.ext ?_
  match a with
  | 0 => exact h0
  | 1 => exact h1.trans (by rw [Nat.zero_mul, Nat.zero_add, Nat.one_mul]; rfl)
  | 2 => exact h2.trans (by rw [Nat.zero_mul, Nat.zero_add, Nat.one_mul]; rfl)

theorem iblk_ya (c : Dev nD) (t : Fin 64) (i : Fin 512) (e : Fin 256) :
    iblk m c 0 t (ix2 i e) = m ((c : Thread nD τ).loc main_arg0) (ix3 (seqOf (tok t i)) (posOf (tok t i)) e) :=
  (congrArg (V m c main_v17) (at_rows (R := 512) t i e rfl _ rfl rfl)).trans (V_v17 m c (tok t i) e)

theorem iblk_yb (c : Dev nD) (t : Fin 64) (i : Fin 512) (e : Fin 512) :
    iblk m c 1 t (ix2 i e) = m ((c : Thread nD τ).loc main_arg1) (ix3 (seqOf (tok t i)) (posOf (tok t i)) e) :=
  (congrArg (V m c main_v18) (at_rows (R := 512) t i e rfl _ rfl rfl)).trans (V_v18 m c (tok t i) e)

theorem iblk_yc (c : Dev nD) (t : Fin 64) (i : Fin 512) (e : Fin 512) :
    iblk m c 2 t (ix2 i e) = m ((c : Thread nD τ).loc main_arg2) (ix3 (seqOf (tok t i)) (posOf (tok t i)) e) :=
  (congrArg (V m c main_v19) (at_rows (R := 512) t i e rfl _ rfl rfl)).trans (V_v19 m c (tok t i) e)

theorem iblk_x (c : Dev nD) (t : Fin 64) (i : Fin 512) (e : Fin 1024) :
    iblk m c 4 t (ix2 i e) = m ((c : Thread nD τ).loc main_arg4) (ix3 (seqOf (tok t i)) (posOf (tok t i)) e) :=
  (congrArg (V m c main_v21) (at_rows (R := 512) t i e rfl _ rfl rfl)).trans (V_v21 m c (tok t i) e)

theorem iblk_pa (c : Dev nD) (t : Fin 64) (e : Fin 256) (n : Fin 1024) :
    iblk m c 6 t (ix3 0 e n) = m ((c : Thread nD τ).loc main_arg6) (ix3 0 e n) :=
  (congrArg (V m c main_v0) (at_layer e n _ rfl rfl rfl)).trans (V_v0 m c 0 e n)

theorem iblk_pp (c : Dev nD) (t : Fin 64) (e : Fin 512) (n : Fin 1024) :
    iblk m c 7 t (ix3 0 e n) = m ((c : Thread nD τ).loc main_arg7) (ix3 0 e n) :=
  (congrArg (V m c main_v1) (at_layer e n _ rfl rfl rfl)).trans (V_v1 m c 0 e n)

theorem iblk_ph (c : Dev nD) (t : Fin 64) (e : Fin 512) (n : Fin 1024) :
    iblk m c 8 t (ix3 0 e n) = m ((c : Thread nD τ).loc main_arg8) (ix3 0 e n) :=
  (congrArg (V m c main_v2) (at_layer e n _ rfl rfl rfl)).trans (V_v2 m c 0 e n)

theorem iblk_wo (c : Dev nD) (t : Fin 64) (e : Fin 1024) (n : Fin 1024) :
    iblk m c 9 t (ix3 0 e n) = m ((c : Thread nD τ).loc main_arg9) (ix3 0 e n) :=
  (congrArg (V m c main_v3) (at_layer e n _ rfl rfl rfl)).trans (V_v3 m c 0 e n)

theorem iblk_g (c : Dev nD) (t : Fin 64) (n : Fin 1024) :
    iblk m c 10 t (ix3 0 0 n) = m ((c : Thread nD τ).loc main_arg10) (ix2 0 n) :=
  (congrArg (V m c main_v15) (at_layer 0 n _ rfl rfl rfl)).trans (V_v15 m c 0 n)

theorem iblk_b (c : Dev nD) (t : Fin 64) (n : Fin 1024) :
    iblk m c 11 t (ix3 0 0 n) = m ((c : Thread nD τ).loc main_arg11) (ix2 0 n) :=
  (congrArg (V m c main_v16) (at_layer 0 n _ rfl rfl rfl)).trans (V_v16 m c 0 n)

theorem third_col (k : Fin 3) (d : Fin 1024) : 0 * 3072 + 1 * (1024 * k.val + d.val) = 0 * 5120 + 1 * (1024 * k.val + d.val) := by omega

theorem third_gl (c : Dev nD) (t : Fin 64) (i : Fin 512) (k : Fin 3) (d : Fin 1024) :
    third k (X0_3 m c t) (ix2 i d)
      = Reference4Ideal.Merge.gates (m ((c : Thread nD τ).loc main_arg3)) (seqOf (tok t i)) (posOf (tok t i)) k d := by
  unfold third X0_3 Pipeline.Window.fill
  rw [dif_pos (moved0_3 t _)]
  exact (congrArg (V m c main_v20) (at_rows (R := 512) t i (⟨1024 * k.val + d.val, by omega⟩ : Fin 5120) rfl _ rfl (third_col k d))).trans (V_v20 m c _ _)

theorem row_mod (c : Dev nD) (t : Fin 64) (i : Fin 512) (k : Fin 6) (n : Fin 1024) :
    modRow k (iblk m c 5 t) (ix3 0 0 n) = m ((c : Thread nD τ).loc main_arg5) (ix3 (seqOf (tok t i)) k n) := by
  unfold modRow
  refine Eq.trans (b := V m c main_arg5 (ix3 (seqOf (tok t i)) k n)) ?_ (congrFun (V_main_arg5 m c) _)
  refine congrArg (V m c main_arg5) (funext (α := Fin 3) fun a => Fin.ext ?_)
  match a with
  | 0 =>
    show cc0_transform_5 (grid0.coords t) 0 * 1 + 1 * 0 = (t.val * 512 + i.val) / 2048
    rw [seq_index]
    omega
  | 1 => show 0 * 6 + 1 * k.val = k.val; omega
  | 2 => show 0 * 1024 + 1 * n.val = n.val; omega

/-! ## The two results -/

/-- A token's normed row from the arguments. -/
def rowOf (c : Dev nD) : Fin 16 → Fin 2048 → Fin 1024 → EReal :=
  Reference4Ideal.Merge.normedOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem residualAt_apply (c : Dev nD) (t : Fin 64) (i : Fin 512) (n : Fin 1024) :
    residual (X0_3 m c t) (iblk m c 0 t) (iblk m c 1 t) (iblk m c 2 t) (iblk m c 6 t) (iblk m c 7 t) (iblk m c 8 t) (iblk m c 9 t) (iblk m c 5 t) (iblk m c 4 t) (ix2 i n)
      = Reference4Ideal.Merge.residualOf (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (seqOf (tok t i)) (posOf (tok t i)) n := by
  refine (residual_apply (X0_3 m c t) (iblk m c 0 t) (iblk m c 1 t) (iblk m c 2 t) (iblk m c 6 t) (iblk m c 7 t) (iblk m c 8 t) (iblk m c 9 t) (iblk m c 5 t) (iblk m c 4 t) i n).trans ?_
  unfold Reference4Ideal.Merge.residualOf
  have e1 : (fun n => iblk m c 4 t (ix2 i n)) = _ := funext fun n => iblk_x m c t i n
  have e2 : (fun n => modRow 2 (iblk m c 5 t) (ix3 0 0 n)) = _ := funext fun n => row_mod m c t i 2 n
  have e3 : (fun k d => third k (X0_3 m c t) (ix2 i d)) = _ := funext fun k => funext fun d => third_gl m c t i k d
  have e4 : (fun e => iblk m c 0 t (ix2 i e)) = _ := funext fun e => iblk_ya m c t i e
  have e5 : (fun e => iblk m c 1 t (ix2 i e)) = _ := funext fun e => iblk_yb m c t i e
  have e6 : (fun e => iblk m c 2 t (ix2 i e)) = _ := funext fun e => iblk_yc m c t i e
  have e7 : (fun e d => iblk m c 6 t (ix3 0 e d)) = _ := funext fun e => funext fun d => iblk_pa m c t e d
  have e8 : (fun e d => iblk m c 7 t (ix3 0 e d)) = _ := funext fun e => funext fun d => iblk_pp m c t e d
  have e9 : (fun e d => iblk m c 8 t (ix3 0 e d)) = _ := funext fun e => funext fun d => iblk_ph m c t e d
  have e10 : (fun e d => iblk m c 9 t (ix3 0 e d)) = _ := funext fun e => funext fun d => iblk_wo m c t e d
  exact congrFun (congr (congr (congr (congrArg residualRow e1) e2)
    (funext fun d => congrFun (congr (congr (congr (congr (congr (congr (congrArg mergedRow e3) e4) e5) e6) e7) e8) e9) d)) e10) n

/-- The normed rows stored at a point are the reference's. -/
theorem normedAt_apply (c : Dev nD) (t : Fin 64) (i : Fin 512) (n : Fin 1024) :
    normedAt m c t (ix2 i n) = rowOf m c (seqOf (tok t i)) (posOf (tok t i)) n := by
  unfold normedAt rowOf Reference4Ideal.Merge.normedOf
  refine (normed_apply (X0_3 m c t) (iblk m c 0 t) (iblk m c 1 t) (iblk m c 2 t) (iblk m c 6 t) (iblk m c 7 t) (iblk m c 8 t) (iblk m c 9 t) (iblk m c 5 t) (iblk m c 4 t) (iblk m c 10 t) (iblk m c 11 t) i n).trans ?_
  exact congrFun (congr (congr (congrArg layerNorm (funext fun n => residualAt_apply m c t i n)) (funext fun n => iblk_g m c t n))
    (funext fun n => iblk_b m c t n)) n

/-- The scaled rows. -/
theorem scaledAt_apply (c : Dev nD) (t : Fin 64) (i : Fin 512) (n : Fin 1024) :
    scaledAt m c t (ix2 i n) = rescale (rowOf m c (seqOf (tok t i)) (posOf (tok t i)) n)
      (m ((c : Thread nD τ).loc main_arg5) (ix3 (seqOf (tok t i)) 4 n)) (m ((c : Thread nD τ).loc main_arg5) (ix3 (seqOf (tok t i)) 3 n)) := by
  unfold scaledAt
  refine (scaled_apply (X0_3 m c t) (iblk m c 0 t) (iblk m c 1 t) (iblk m c 2 t) (iblk m c 6 t) (iblk m c 7 t) (iblk m c 8 t) (iblk m c 9 t) (iblk m c 5 t) (iblk m c 4 t) (iblk m c 10 t) (iblk m c 11 t) i n).trans ?_
  exact congr (congr (congrArg rescale (normedAt_apply m c t i n)) (row_mod m c t i 4 n)) (row_mod m c t i 3 n)

/-- The first result, as the reference's function of the arguments, -/
def firstOf (c : Dev nD) : S32768x1024.Idx → EReal :=
  Reference4Ideal.Read.val_main_v85 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- and the second. -/
def secondOf (c : Dev nD) : S262144x128.Idx → EReal :=
  Reference4Ideal.Read.val_main_v86 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem first_apply (c : Dev nD) (t : Fin 64) (i : Fin 512) (n : Fin 1024) :
    normedAt m c t (ix2 i n) = firstOf m c (ix2 (tok t i) n) :=
  (normedAt_apply m c t i n).trans (Reference4Ideal.Merge.v85_apply _ _ _ _ _ _ _ _ _ _ _ _ (tok t i) n).symm

theorem second_apply (c : Dev nD) (t : Fin 64) (q : Fin 4096) (l : Fin 128) :
    tiled (scaledAt m c t) (ix2 q l) = secondOf m c (ix2 (⟨t.val * 4096 + q.val, by omega⟩ : Fin 262144) l) := by
  refine Eq.trans (b := scaledAt m c t (ix2 (⟨q.val / 8, by omega⟩ : Fin 512) (⟨128 * (q.val % 8) + l.val, by omega⟩ : Fin 1024))) ?_ ?_
  · unfold tiled
    refine congrArg (scaledAt m c t) (funext (α := Fin 2) fun a => ?_)
    match a with
    | 0 => rfl
    | 1 => rfl
  refine (scaledAt_apply m c t _ _).trans (Eq.trans ?_ (Reference4Ideal.Merge.v86_apply _ _ _ _ _ _ _ _ _ _ _ _ (⟨t.val * 4096 + q.val, by omega⟩ : Fin 262144) l).symm)
  have hs : seqOf (tok t ⟨q.val / 8, by omega⟩) = ⟨(t.val * 4096 + q.val) / 16384, by omega⟩ :=
    Fin.ext (by show (t.val * 512 + q.val / 8) / 2048 = (t.val * 4096 + q.val) / 16384; omega)
  have hp : posOf (tok t ⟨q.val / 8, by omega⟩) = ⟨(t.val * 4096 + q.val) / 8 % 2048, by omega⟩ :=
    Fin.ext (by show (t.val * 512 + q.val / 8) % 2048 = (t.val * 4096 + q.val) / 8 % 2048; omega)
  have hn : (⟨128 * (q.val % 8) + l.val, by omega⟩ : Fin 1024) = ⟨128 * ((t.val * 4096 + q.val) % 8) + l.val, by omega⟩ :=
    Fin.ext (by show 128 * (q.val % 8) + l.val = 128 * ((t.val * 4096 + q.val) % 8) + l.val; omega)
  rw [hs, hp, hn]
  rfl

/-- The first result's array after the run. -/
theorem array_first (c : Dev nD) : (dats m 0 c).arrAt 14 cfg0.N = firstOf m c := by
  have hemb : ∀ (t : Fin 64) (y : S512x1024.Idx), ((cfg0.win 14).blk t).view.emb y
      = ix2 (⟨t.val * 512 + (y 0).val, by have : (y 0).val < 512 := (y 0).isLt; omega⟩ : Fin 32768) (y 1 : Fin 1024) :=
    fun t y => at_rows (R := 512) t (y 0) (y 1 : Fin 1024) rfl _ rfl rfl
  have hix : ∀ y : S512x1024.Idx, y = ix2 (y 0) (y 1) := fun y => funext (α := Fin 2) fun a => by
    match a with
    | 0 => rfl
    | 1 => rfl
  refine (dats m 0 c).arrAt_eq_of_emb 14 (firstOf m c) (fun (t : Fin 64) hf (y : S512x1024.Idx) => ?_) fun (i : S32768x1024.Idx) => ?_
  · have h' : normedAt m c t y = firstOf m c (((cfg0.win 14).blk t).view.emb y) :=
      ((congrArg (normedAt m c t) (hix y)).trans (first_apply m c t (y 0) (y 1))).trans (congrArg (firstOf m c) (hemb t y).symm)
    exact Eq.trans (b := normedAt m c t y) (congrFun (after_x1 m c t) y) h'
  · have h0 : (i 0).val < 32768 := (i 0).isLt
    have ht : (i 0).val / 512 < 64 := by omega
    refine ⟨⟨(i 0).val / 512, ht⟩, flush0_14 _, ?_⟩
    have e : i = ((cfg0.win 14).blk ⟨(i 0).val / 512, ht⟩).view.emb (ix2 (⟨(i 0).val % 512, by omega⟩ : Fin 512) (i 1 : Fin 1024)) := by
      refine Eq.trans ?_ (hemb ⟨(i 0).val / 512, ht⟩ (ix2 (⟨(i 0).val % 512, by omega⟩ : Fin 512) (i 1 : Fin 1024))).symm
      refine funext (α := Fin 2) fun a => Fin.ext ?_
      match a with
      | 0 => show (i 0).val = (i 0).val / 512 * 512 + (i 0).val % 512; omega
      | 1 => rfl
    exact (congrArg (· ∈ ((cfg0.win 14).blk ⟨(i 0).val / 512, ht⟩).view.set) e).mpr (Finset.mem_map_of_mem _ (Finset.mem_univ _))

/-- The second result's array after the run. -/
theorem array_second (c : Dev nD) : (dats m 0 c).arrAt 15 cfg0.N = secondOf m c := by
  have hemb : ∀ (t : Fin 64) (y : S4096x128.Idx), ((cfg0.win 15).blk t).view.emb y
      = ix2 (⟨t.val * 4096 + (y 0).val, by have : (y 0).val < 4096 := (y 0).isLt; omega⟩ : Fin 262144) (y 1 : Fin 128) :=
    fun t y => at_rows (R := 4096) t (y 0) (y 1 : Fin 128) rfl _ rfl rfl
  have hix : ∀ y : S4096x128.Idx, y = ix2 (y 0) (y 1) := fun y => funext (α := Fin 2) fun a => by
    match a with
    | 0 => rfl
    | 1 => rfl
  refine (dats m 0 c).arrAt_eq_of_emb 15 (secondOf m c) (fun (t : Fin 64) hf (y : S4096x128.Idx) => ?_) fun (i : S262144x128.Idx) => ?_
  · have h' : tiled (scaledAt m c t) y = secondOf m c (((cfg0.win 15).blk t).view.emb y) :=
      ((congrArg (tiled (scaledAt m c t)) (hix y)).trans (second_apply m c t (y 0) (y 1))).trans (congrArg (secondOf m c) (hemb t y).symm)
    exact Eq.trans (b := tiled (scaledAt m c t) y) (congrFun (after_u2 m c t) y) h'
  · have h0 : (i 0).val < 262144 := (i 0).isLt
    have ht : (i 0).val / 4096 < 64 := by omega
    refine ⟨⟨(i 0).val / 4096, ht⟩, flush0_15 _, ?_⟩
    have e : i = ((cfg0.win 15).blk ⟨(i 0).val / 4096, ht⟩).view.emb (ix2 (⟨(i 0).val % 4096, by omega⟩ : Fin 4096) (i 1 : Fin 128)) := by
      refine Eq.trans ?_ (hemb ⟨(i 0).val / 4096, ht⟩ (ix2 (⟨(i 0).val % 4096, by omega⟩ : Fin 4096) (i 1 : Fin 128))).symm
      refine funext (α := Fin 2) fun a => Fin.ext ?_
      match a with
      | 0 => show (i 0).val = (i 0).val / 4096 * 4096 + (i 0).val % 4096; omega
      | 1 => rfl
    exact (congrArg (· ∈ ((cfg0.win 15).blk ⟨(i 0).val / 4096, ht⟩).view.set) e).mpr (Finset.mem_map_of_mem _ (Finset.mem_univ _))

end Cert.Kernel4Ideal.Merge

end
-- ==== Proof.MergeClaims.lean ====
/- The merge's claims: both readings of the kernel and the reference run and leave their arguments as they
   were, and kernel and reference end with equal results over the extended reals. -/
module

public import proofs.«01_k».proof.Defs
public import proofs.«01_k».proof.Proof.MergeBitsFrame
public import proofs.«01_k».proof.Proof.MergeIdealValue
public import proofs.«01_k».proof.Proof.Gen.Reference4Ideal.Run
public import Idealize.ShloMosaic.Lib.Quiescent

@[expose] public section

noncomputable section

namespace Cert.Proof.Merge

open Idealize.ShloMosaic Idealize.ShloMosaic.TcCoe Idealize.ShloMosaic.Tactic Idealize.SL.Sem

theorem frame_bits : Cert.quiescent_Kernel4 := fun m ρ _ => Kernel4.Merge.frame m ρ

theorem frame_ideal : Cert.quiescent_Kernel4Ideal := fun m ρ _ => Kernel4Ideal.Merge.frame m ρ

/-- The reference declares no counter, so none is left above zero. -/
theorem frame_reference : Cert.quiescent_Reference4Ideal := fun m ρ _ =>
  (θ_run Reference4Ideal.defs _ _).mono (fun r h => ⟨fun c => (h c).2.2, sem_eq_zero_of_no_sems (by decide) r.2⟩)
    (Reference4Ideal.Value.run (F := Ideal) m ρ)

theorem algebraic : Cert.algebraic_Kernel4Ideal_Reference4Ideal := fun m ρ m' ρ' _ hagree => by
  refine ⟨fun c => Kernel4Ideal.Merge.firstOf m c, fun c => Kernel4Ideal.Merge.secondOf m c,
    (θ_run Kernel4Ideal.defs _ _).mono (fun r h c => ⟨?_, ?_, h.1 c⟩)
      (θ_run_and (Kernel4Ideal.Merge.unchanged m ρ) (Kernel4Ideal.Merge.run_arrays m ρ)),
    (θ_run Reference4Ideal.defs _ _).mono (fun r h c => ⟨(h c).1.trans ?_, (h c).2.1.trans ?_, (h c).2.2⟩)
      (Reference4Ideal.Value.run (F := Ideal) m' ρ')⟩
  · exact ((h.2 c).1 14).trans (Kernel4Ideal.Merge.array_first m c)
  · exact ((h.2 c).1 15).trans (Kernel4Ideal.Merge.array_second m c)
  · obtain ⟨h0, h1, h2, h3, h4, h5, h6, h7, h8, h9, h10, h11, -, -⟩ := hagree c
    refine (Reference4Ideal.Read.val_main_v85_eq _ _).trans ?_
    rw [h0, h1, h2, h3, h4, h5, h6, h7, h8, h9, h10, h11]
    rfl
  · obtain ⟨h0, h1, h2, h3, h4, h5, h6, h7, h8, h9, h10, h11, -, -⟩ := hagree c
    refine (Reference4Ideal.Read.val_main_v86_eq _ _).trans ?_
    rw [h0, h1, h2, h3, h4, h5, h6, h7, h8, h9, h10, h11]
    rfl

end Cert.Proof.Merge

end
-- ==== Proof.PoolMath.lean ====
/- The pooling mixer as one formula over the extended reals, and the two ways of writing a window's sum. -/
module

public import Idealize.ShloMosaic.Lib.VecWindow
public import Idealize.ShloMosaic.Lib.Pipeline.ValueKit

@[expose] public section

noncomputable section

namespace Cert.Pooling

open Idealize.ShloMosaic

/-- The number of tokens in the window of `h` tokens either side of token `t`, as the 32-bit word both programs form. -/
def width (t h : Nat) : BitVec 32 :=
  IntOp.subi (IntOp.minsi (IntOp.addi (BitVec.ofNat 32 t) (BitVec.ofNat 32 h)) 2048#32)
    (IntOp.maxsi (IntOp.subi (BitVec.ofNat 32 t) (BitVec.ofNat 32 h)) 0#32)

/-- Token `s` lies in the window of token `t`. -/
def near (t h s : Nat) : Prop := t ≤ s + h ∧ s < t + h

instance (t h s : Nat) : Decidable (near t h s) := inferInstanceAs (Decidable (_ ∧ _))

/-- The sum of a window. -/
def windowSum (y : Fin 2048 → EReal) (t h : Nat) : EReal := ∑ s : Fin 2048, if near t h s.val then y s else 0

/-- A window's mean, less the token itself. -/
def centred (y : Fin 2048 → EReal) (g : Fin 4) (t : Fin 2048) : EReal :=
  Ideal.div (windowSum y t.val (2 ^ g.val)) (FloatOps.sitofp (F := Ideal) .f32 (width t.val (2 ^ g.val))) - y t

def group (n : Fin 512) : Fin 4 := ⟨n.val / 128, by omega⟩
def lane (n : Fin 512) : Fin 128 := ⟨n.val % 128, by omega⟩
def column (g : Fin 4) (e : Fin 128) : Fin 512 := ⟨128 * g.val + e.val, by omega⟩

/-- One element of the result: a group's centred means times its weights, times the column's scale. -/
def entry (y : Fin 2048 → Fin 512 → EReal) (w : Fin 4 → Fin 128 → Fin 128 → EReal) (sc : Fin 512 → EReal) (t : Fin 2048) (n : Fin 512) : EReal :=
  (∑ e : Fin 128, centred (fun s => y s (column (group n) e)) (group n) t * w (group n) e (lane n)) * sc n

theorem entry_of_column (y : Fin 2048 → Fin 512 → EReal) (w : Fin 4 → Fin 128 → Fin 128 → EReal) (sc : Fin 512 → EReal) (t : Fin 2048)
    (g : Fin 4) (l : Fin 128) (n : Fin 512) (hn : n.val = 128 * g.val + l.val) :
    entry y w sc t n = (∑ e : Fin 128, centred (fun s => y s (column g e)) g t * w g e l) * sc n := by
  obtain rfl : g = group n := Fin.ext (by show g.val = n.val / 128; omega)
  obtain rfl : l = lane n := Fin.ext (by show l.val = n.val % 128; omega)
  rfl

/-- A sequence with eight zeros above it and as many below. -/
def padded (y : Fin 2048 → EReal) (r : Nat) : EReal := if h : 8 ≤ r ∧ r < 2056 then y ⟨r - 8, by omega⟩ else 0

/-- A window's sum is the sum of the padded sequence's rows in it: the rows outside the sequence add zero. -/
theorem sum_padded (y : Fin 2048 → EReal) (t h : Nat) (ht : t < 2048) (hh : h ≤ 8) :
    ∑ j ∈ Finset.range (2 * h), padded y (8 + t - h + j) = windowSum y t h := by
  let G : Nat → EReal := fun r => if 8 + t - h ≤ r ∧ r < 8 + t + h then padded y r else 0
  have hl : ∑ j ∈ Finset.range (2 * h), padded y (8 + t - h + j) = ∑ r ∈ Finset.range 2064, G r := by
    have e : 2 * h = 8 + t + h - (8 + t - h) := by omega
    rw [e, ← Finset.sum_Ico_eq_sum_range]
    refine (Finset.sum_congr rfl fun r hr => ?_).trans (Finset.sum_subset (f := G) (fun r hr => ?_) fun r _ hr => ?_)
    · exact (if_pos (Finset.mem_Ico.mp hr)).symm
    · have := Finset.mem_Ico.mp hr
      exact Finset.mem_range.mpr (by omega)
    · exact if_neg fun hm => hr (Finset.mem_Ico.mpr hm)
  have hr : windowSum y t h = ∑ r ∈ Finset.Ico 8 2056, G r := by
    rw [Finset.sum_Ico_eq_sum_range, windowSum, ← Fin.sum_univ_eq_sum_range (fun k => G (8 + k)) 2048]
    refine Finset.sum_congr rfl fun s _ => ?_
    have hs := s.isLt
    show _ = if 8 + t - h ≤ 8 + s.val ∧ 8 + s.val < 8 + t + h then padded y (8 + s.val) else 0
    have hp : padded y (8 + s.val) = y s := by
      unfold padded
      rw [dif_pos ⟨by omega, by omega⟩]
      exact congrArg y (Fin.ext (by show 8 + s.val - 8 = s.val; omega))
    rw [hp]
    by_cases hn : near t h s.val
    · have := hn
      unfold near at this
      rw [if_pos hn, if_pos (by omega)]
    · rw [if_neg hn, if_neg (by unfold near at hn; omega)]
  rw [hl, hr]
  refine (Finset.sum_subset (fun r hr => ?_) fun r _ hr => ?_).symm
  · have := Finset.mem_Ico.mp hr
    exact Finset.mem_range.mpr (by omega)
  · show (if 8 + t - h ≤ r ∧ r < 8 + t + h then padded y r else 0) = 0
    have : padded y r = 0 := dif_neg fun hm => hr (Finset.mem_Ico.mpr hm)
    rw [this, ite_self]

theorem toInt_word (a : Nat) (ha : a < 2 ^ 31) : (BitVec.ofNat 32 a).toInt = a := by
  rw [BitVec.toInt_eq_toNat_cond, BitVec.toNat_ofNat]
  split <;> omega

/-- Membership of a window, as the signed comparisons with its two ends decide it. -/
theorem near_word (t h s : Nat) (ht : t < 2048) (hh : h ≤ 8) (hs : s < 2048) :
    IntOp.andi (IntOp.cmpi .sle (IntOp.maxsi (IntOp.subi (BitVec.ofNat 32 t) (BitVec.ofNat 32 h)) 0#32) (BitVec.ofNat 32 s))
      (IntOp.cmpi .slt (BitVec.ofNat 32 s) (IntOp.minsi (IntOp.addi (BitVec.ofNat 32 t) (BitVec.ofNat 32 h)) 2048#32)) = BitVec.ofBool (decide (near t h s)) := by
  have hsub : (BitVec.ofNat 32 t - BitVec.ofNat 32 h).toInt = (t : Int) - h := by
    rw [BitVec.toInt_sub, toInt_word t (by omega), toInt_word h (by omega)]
    exact Int.bmod_eq_of_le (by omega) (by omega)
  have hadd : (BitVec.ofNat 32 t + BitVec.ofNat 32 h).toInt = (t : Int) + h := by
    rw [BitVec.toInt_add, toInt_word t (by omega), toInt_word h (by omega)]
    exact Int.bmod_eq_of_le (by omega) (by omega)
  have hlo : (IntOp.maxsi (IntOp.subi (BitVec.ofNat 32 t) (BitVec.ofNat 32 h)) 0#32).toInt ≤ s ↔ t ≤ s + h := by
    unfold IntOp.maxsi IntOp.subi
    split
    · rw [hsub]; omega
    · rename_i hc
      rw [BitVec.slt_iff_toInt_lt, hsub] at hc
      have : (0#32).toInt = 0 := rfl
      omega
  have hhi : (s : Int) < (IntOp.minsi (IntOp.addi (BitVec.ofNat 32 t) (BitVec.ofNat 32 h)) 2048#32).toInt ↔ s < t + h := by
    have h2 : (2048#32).toInt = 2048 := rfl
    unfold IntOp.minsi IntOp.addi
    split
    · rw [hadd]; omega
    · rename_i hc
      rw [BitVec.slt_iff_toInt_lt, hadd] at hc
      omega
  have ha : IntOp.cmpi .sle (IntOp.maxsi (IntOp.subi (BitVec.ofNat 32 t) (BitVec.ofNat 32 h)) 0#32) (BitVec.ofNat 32 s) = BitVec.ofBool (decide (t ≤ s + h)) := by
    refine congrArg BitVec.ofBool (Bool.eq_iff_iff.mpr ?_)
    rw [BitVec.sle_iff_toInt_le, toInt_word s (by omega), hlo, decide_eq_true_iff]
  have hb : IntOp.cmpi .slt (BitVec.ofNat 32 s) (IntOp.minsi (IntOp.addi (BitVec.ofNat 32 t) (BitVec.ofNat 32 h)) 2048#32) = BitVec.ofBool (decide (s < t + h)) := by
    refine congrArg BitVec.ofBool (Bool.eq_iff_iff.mpr ?_)
    rw [BitVec.slt_iff_toInt_lt, toInt_word s (by omega), hhi, decide_eq_true_iff]
  rw [ha, hb]
  unfold near
  by_cases h1 : t ≤ s + h <;> by_cases h2 : s < t + h <;> simp [h1, h2, IntOp.andi]

end Cert.Pooling

end
-- ==== Proof.PoolIdealBody.lean ====
/- The pooling mixer at one sequence: the sequence's 512 columns lie in a buffer between eight zero rows above and as many
   below; every chunk of 256 tokens and every group of 128 columns sums its window's shifted loads of that buffer. -/
module

public import proofs.«01_k».proof.Proof.Gen.Kernel5Ideal.Value
public import proofs.«01_k».proof.Proof.PoolMath

@[expose] public section

set_option maxRecDepth 65536

noncomputable section

namespace Cert.Kernel5Ideal.Pool

open Idealize.ShloMosaic Idealize.ShloMosaic.TcCoe Idealize.ShloMosaic.Tactic
open Idealize.SL Idealize.SL.Sem
open Cert.Kernel5Ideal.Gen Cert.Pooling

/-! ## The padded sequence -/

/-- The buffer's contents: every column of the sequence padded with zeros. -/
def paddedAt (x0 : Vec Ideal S1x2048x512 .bf16) (y : S2064x512.Idx) : EReal :=
  padded (fun s => x0 (ix3 0 s (y 1 : Fin 512))) (y 0).val

theorem above_apply (s : Fin 8) (k : Fin 512) : k0_pay2 (F := Ideal) (ix2 s k) = 0 := by
  pointwise [k0_pay2]

theorem below_apply (s : Fin 8) (k : Fin 512) : k0_pay3 (F := Ideal) (ix2 s k) = 0 := by
  pointwise [k0_pay3]

theorem rows_apply (u : Vec Ideal S1x2048x512 .bf16) (s : Fin 2048) (k : Fin 512) : k0_pay4 u (ix2 s k) = u (ix3 0 s k) := by
  pointwise [k0_pay4]

/-! ## One chunk of one group -/

section Chunk

variable {sig : RefSig} {κ : Kind} {sp : Space} (v : View sig κ sp S2064x512 .f32) (M : List (View.Piece (Elt Ideal) S2064x512 .f32))

theorem inb_tap (r g : Nat) (hr : r + 256 ≤ 2064) (hg : g < 4) : ∀ a, (![r, 128 * g] : Fin 2 → Nat) a + S256x128.size a ≤ S2064x512.size a := fun a => by
  match a with
  | 0 => exact hr
  | 1 => show 128 * g + 128 ≤ 512; omega

/-- A load of 256 rows of the buffer from row `r` on, in group `g`'s columns. -/
def tap (g : Nat) (hg : g < 4) (r : Nat) (hr : r + 256 ≤ 2064) : Vec Ideal S256x128 .f32 :=
  v.readCov M (Rect.unit (s := S2064x512) ![r, 128 * g] S256x128.size (inb_tap r g hr hg)).toLoadRect

/-- The sum of the loads from row `r` to row `r + n`. -/
def taps (g : Nat) (hg : g < 4) (r : Nat) : (n : Nat) → r + n + 256 ≤ 2064 → FVec Ideal S256x128 .f32
  | 0, h => tap v M g hg r h
  | n + 1, h => addf (taps g hg r n (by omega)) (tap v M g hg (r + (n + 1)) h)

/-- The number of tokens in the window of each of chunk `c`'s tokens. -/
def count (c h : Nat) : IVec S256x1 32 :=
  subi (minsi (addi (addi (broadcast S256x1 (BitVec.ofNat 32 (256 * c))) (iota .tc S256x1 32 [0] iota_S256x1_d0_w32)) (broadcast S256x1 (BitVec.ofNat 32 h))) (broadcast S256x1 2048#32))
    (maxsi (subi (addi (broadcast S256x1 (BitVec.ofNat 32 (256 * c))) (iota .tc S256x1 32 [0] iota_S256x1_d0_w32)) (broadcast S256x1 (BitVec.ofNat 32 h))) (broadcast S256x1 0#32))

/-- Half of group `g`'s window is `2 ^ g` tokens. -/
theorem half_le (g : Nat) (hg : g < 4) : 2 ^ g ≤ 8 := by
  have : 2 ^ g ≤ 2 ^ 3 := Nat.pow_le_pow_right (by decide) (by omega)
  omega

/-- The window's mean, less the token itself. -/
def pooled (c g : Nat) (hc : c < 8) (hg : g < 4) : FVec Ideal S256x128 .f32 :=
  subf (divf (taps v M g hg (8 + 256 * c - 2 ^ g) (2 * 2 ^ g - 1) (by have := half_le g hg; omega))
      (broadcastTo S256x128 (sitofp .f32 (count c (2 ^ g))) broadcasts_S256x1_S256x128))
    (tap v M g hg (8 + 256 * c) (by omega))

/-- A chunk times the group's weights and scale. -/
def mixed (u : FVec Ideal S256x128 .f32) (w : Vec Ideal S1x1x128x128 .f32) (sc : Vec Ideal S1x1x128 .f32) : FVec Ideal S1x256x128 .bf16 :=
  shapeCast S1x256x128 (truncf .bf16 (mulf (matmul dot_S256x128_S128x128_S256x128_1_0_0_1_n_n none (truncf .bf16 u bitsLt_bf16_f32)
      (truncf .bf16 (shapeCast S128x128 w shapeCasts_S1x1x128x128_S128x128) bitsLt_bf16_f32) (constant S256x128 .f32 0x00000000#32))
    (broadcastTo S256x128 (shapeCast S1x128 sc shapeCasts_S1x1x128_S1x128) broadcasts_S1x128_S256x128)) bitsLt_bf16_f32) shapeCasts_S256x128_S1x256x128

theorem inb_chunk (n : Nat) (hn : n < 32) : ∀ a, (![0, 256 * (n / 4), 128 * (n % 4)] : Fin 3 → Nat) a + S1x256x128.size a ≤ S1x2048x512.size a := fun a => by
  match a with
  | 0 => show 0 + 1 ≤ 1; omega
  | 1 => show 256 * (n / 4) + 256 ≤ 2048; omega
  | 2 => show 128 * (n % 4) + 128 ≤ 512; omega

theorem inb_weights (g : Nat) (hg : g < 4) : ∀ a, (![0, g, 0, 0] : Fin 4 → Nat) a + S1x1x128x128.size a ≤ S1x4x128x128.size a := fun a => by
  match a with
  | 0 => show 0 + 1 ≤ 1; omega
  | 1 => show g + 1 ≤ 4; omega
  | 2 => show 0 + 128 ≤ 128; omega
  | 3 => show 0 + 128 ≤ 128; omega

theorem inb_scale (g : Nat) (hg : g < 4) : ∀ a, (![0, 0, 128 * g] : Fin 3 → Nat) a + S1x1x128.size a ≤ S1x1x512.size a := fun a => by
  match a with
  | 0 => show 0 + 1 ≤ 1; omega
  | 1 => show 0 + 1 ≤ 1; omega
  | 2 => show 128 * g + 128 ≤ 512; omega

theorem mixed_apply (u : FVec Ideal S256x128 .f32) (w : Vec Ideal S1x1x128x128 .f32) (sc : Vec Ideal S1x1x128 .f32) (s : Fin 256) (l : Fin 128) :
    mixed u w sc (ix3 0 s l) = (∑ e : Fin 128, u (ix2 s e) * w (ix4 0 0 e l)) * sc (ix3 0 0 l) := by
  pointwise [mixed]

variable (x0 : Vec Ideal S1x2048x512 .bf16) (hM : ∀ y, v.read (Elt Ideal) (v.writes (Elt Ideal) v.junk M) y = paddedAt x0 y)

include hM in
theorem tap_apply (g : Fin 4) (r : Nat) (hr : r + 256 ≤ 2064) (s : Fin 256) (e : Fin 128) :
    tap v M g.val g.isLt r hr (ix2 s e) = padded (fun t => x0 (ix3 0 t (column g e))) (r + s.val) := by
  refine (hM _).trans ?_
  have h1 : ((Rect.unit (s := S2064x512) ![r, 128 * g.val] S256x128.size (inb_tap r g.val hr g.isLt)).toLoadRect.idx (ix2 s e) 1 : Fin 512) = column g e :=
    Fin.ext (by show 128 * g.val + 1 * e.val = 128 * g.val + e.val; omega)
  have h0 : ((Rect.unit (s := S2064x512) ![r, 128 * g.val] S256x128.size (inb_tap r g.val hr g.isLt)).toLoadRect.idx (ix2 s e) 0).val = r + s.val := by
    show r + 1 * s.val = r + s.val
    omega
  unfold paddedAt
  exact congr (congrArg (fun k : Fin 512 => padded fun t => x0 (ix3 0 t k)) h1) h0

include hM in
theorem taps_apply (g : Fin 4) (r : Nat) (s : Fin 256) (e : Fin 128) : ∀ (n : Nat) (h : r + n + 256 ≤ 2064),
    taps v M g.val g.isLt r n h (ix2 s e) = ∑ j ∈ Finset.range (n + 1), padded (fun t => x0 (ix3 0 t (column g e))) (r + s.val + j)
  | 0, h => by
    rw [Finset.sum_range_one]
    exact tap_apply v M x0 hM g r h s e
  | n + 1, h => by
    rw [Finset.sum_range_succ, ← taps_apply g r s e n (by omega), show r + s.val + (n + 1) = r + (n + 1) + s.val by omega,
      ← tap_apply v M x0 hM g (r + (n + 1)) h s e]
    rfl

theorem pooled_parts (c g : Nat) (hc : c < 8) (hg : g < 4) (s : Fin 256) (e : Fin 128) :
    pooled v M c g hc hg (ix2 s e) = Ideal.div (taps v M g hg (8 + 256 * c - 2 ^ g) (2 * 2 ^ g - 1) (by have := half_le g hg; omega) (ix2 s e))
      (FloatOps.sitofp (F := Ideal) .f32 (width (256 * c + s.val) (2 ^ g))) - tap v M g hg (8 + 256 * c) (by omega) (ix2 s e) := by
  unfold pooled width
  rw [BitVec.ofNat_add]
  generalize taps v M g hg _ _ _ = p
  generalize tap v M g hg _ _ = q
  pointwise [count]
  rfl

include hM in
/-- A chunk's centred mean is the formula's at its token. -/
theorem pooled_apply (c : Fin 8) (g : Fin 4) (s : Fin 256) (e : Fin 128) :
    pooled v M c.val g.val c.isLt g.isLt (ix2 s e) = centred (fun t => x0 (ix3 0 t (column g e))) g (⟨256 * c.val + s.val, by omega⟩ : Fin 2048) := by
  have hh := half_le g.val g.isLt
  have hp : 1 ≤ 2 ^ g.val := Nat.one_le_two_pow
  rw [pooled_parts, taps_apply v M x0 hM, tap_apply v M x0 hM]
  unfold centred
  rw [← sum_padded _ _ _ (by omega) hh, show 2 * 2 ^ g.val - 1 + 1 = 2 * 2 ^ g.val by omega,
    show 8 + 256 * c.val - 2 ^ g.val + s.val = 8 + (256 * c.val + s.val) - 2 ^ g.val by omega]
  refine congrArg₂ (fun a b : EReal => a - b) rfl ?_
  unfold padded
  rw [dif_pos ⟨by omega, by omega⟩]
  exact congrArg (fun t : Fin 2048 => x0 (ix3 0 t (column g e))) (Fin.ext (by show 8 + 256 * c.val + s.val - 8 = 256 * c.val + s.val; omega))

end Chunk

section Body

variable (c : Dev nD) (i : grid0.Coords) (arg1 : Memref sig .tc .vmem S1x2048x512 .bf16) (harg1 : arg1.IsWhole)
  (arg2 : Memref sig .tc .vmem S1x4x128x128 .f32) (harg2 : arg2.IsWhole) (arg3 : Memref sig .tc .vmem S1x1x512 .f32) (harg3 : arg3.IsWhole)
  (arg4 : Memref sig .tc .vmem S1x2048x512 .bf16) (harg4 : arg4.IsWhole) (arg5 : Memref sig .tc .vmem S2064x512 .f32) (harg5 : arg5.IsWhole)
  (x0 : Vec Ideal S1x2048x512 .bf16) (x1 : Vec Ideal S1x4x128x128 .f32) (x2 : Vec Ideal S1x1x512 .f32)

/-- The first `n` stores into the result's block, the last first: store `n` is chunk `n / 4` of group `n % 4`. -/
def chunks (M : List (View.Piece (Elt Ideal) S2064x512 .f32)) : (n : Nat) → n ≤ 32 → List (View.Piece (Elt Ideal) S1x2048x512 .bf16)
  | 0, _ => []
  | n + 1, h => ⟨Rect.unit (s := S1x2048x512) ![0, 256 * (n / 4), 128 * (n % 4)] S1x256x128.size (inb_chunk n h),
      mixed (pooled arg5.view M (n / 4) (n % 4) (by omega) (by omega))
        (arg2.view.readAt (Elt Ideal) (Rect.unit (s := S1x4x128x128) ![0, n % 4, 0, 0] S1x1x128x128.size (inb_weights (n % 4) (by omega))).toLoadRect (harg2.unread x1))
        (arg3.view.readAt (Elt Ideal) (Rect.unit (s := S1x1x512) ![0, 0, 128 * (n % 4)] S1x1x128.size (inb_scale (n % 4) (by omega))).toLoadRect (harg3.unread x2))⟩ ::
    chunks M n (Nat.le_of_lt h)

/-- The body's stores are these. -/
theorem stores_eq : (kernelRun0_A c i arg1 harg1 arg2 harg2 arg3 harg3 arg4 harg4 arg5 harg5 x0 x1 x2).1
    = chunks arg2 harg2 arg3 harg3 arg5 x1 x2 (kernelRun0_A.sl.HS0_3 c arg1 harg1 x0) 32 (Nat.le_refl 32) := by
  unfold kernelRun0_A
  rfl

/-- When it is read, the buffer holds the padded sequence. -/
theorem buffer_padded (v : View sig .tc .vmem S2064x512 .f32) (y : S2064x512.Idx) :
    v.read (Elt Ideal) (v.writes (Elt Ideal) v.junk (kernelRun0_A.sl.HS0_3 c arg1 harg1 x0)) y = paddedAt x0 y := by
  have hx : arg1.view.readAt (Elt Ideal) (Rect.unit (s := S1x2048x512) ![0, 0, 0] S1x2048x512.size inb_S1x2048x512_S1x2048x512_0_0_0).toLoadRect (harg1.unread x0) = x0 := by
    funext j
    rw [View.readAt_apply, harg1.read_unread]
    refine congrArg x0 (funext (α := Fin 3) fun a => Fin.ext ?_)
    match a with
    | 0 => show 0 + 1 * (j 0).val = (j 0).val; omega
    | 1 => show 0 + 1 * (j 1).val = (j 1).val; omega
    | 2 => show 0 + 1 * (j 2).val = (j 2).val; omega
  have hL : kernelRun0_A.sl.HS0_3 c arg1 harg1 x0 =
      [⟨Rect.unit (s := S2064x512) ![8, 0] S2048x512.size inb_S2064x512_S2048x512_8_0, k0_pay4 (F := Ideal)
          (arg1.view.readAt (Elt Ideal) (Rect.unit (s := S1x2048x512) ![0, 0, 0] S1x2048x512.size inb_S1x2048x512_S1x2048x512_0_0_0).toLoadRect (harg1.unread x0))⟩,
        ⟨Rect.unit (s := S2064x512) ![2056, 0] S8x512.size inb_S2064x512_S8x512_2056_0, k0_pay3 (F := Ideal)⟩,
        ⟨Rect.unit (s := S2064x512) ![0, 0] S8x512.size inb_S2064x512_S8x512_0_0, k0_pay2 (F := Ideal)⟩] := rfl
  rw [hL, hx]
  have h0 : (y 0).val < 2064 := (y 0).isLt
  have h1 : (y 1).val < 512 := (y 1).isLt
  refine View.read_writes_apply_of_pieces (Val := Elt Ideal) v _ (paddedAt x0) _ (fun q hq => ?_) y ?_
  · simp only [List.mem_cons, List.not_mem_nil, or_false] at hq
    rcases hq with rfl | rfl | rfl
    · intro (z : S2048x512.Idx)
      have hz : (z 0).val < 2048 := (z 0).isLt
      refine (congrArg (k0_pay4 x0) (show z = ix2 (z 0 : Fin 2048) (z 1 : Fin 512) from funext (α := Fin 2) fun a => by
        match a with
        | 0 => rfl
        | 1 => rfl)).trans ((rows_apply x0 (z 0) (z 1)).trans ?_)
      unfold paddedAt padded
      rw [dif_pos (by show 8 ≤ 8 + 1 * (z 0).val ∧ 8 + 1 * (z 0).val < 2056; omega)]
      refine congrArg x0 (funext (α := Fin 3) fun a => Fin.ext ?_)
      match a with
      | 0 => rfl
      | 1 => show (z 0).val = 8 + 1 * (z 0).val - 8; omega
      | 2 => show (z 1).val = 0 + 1 * (z 1).val; omega
    · intro (z : S8x512.Idx)
      have hz : (z 0).val < 8 := (z 0).isLt
      refine (congrArg (k0_pay3 (F := Ideal)) (show z = ix2 (z 0 : Fin 8) (z 1 : Fin 512) from funext (α := Fin 2) fun a => by
        match a with
        | 0 => rfl
        | 1 => rfl)).trans ((below_apply (z 0) (z 1)).trans ?_)
      unfold paddedAt padded
      rw [dif_neg (by show ¬ (8 ≤ 2056 + 1 * (z 0).val ∧ 2056 + 1 * (z 0).val < 2056); omega)]
    · intro (z : S8x512.Idx)
      have hz : (z 0).val < 8 := (z 0).isLt
      refine (congrArg (k0_pay2 (F := Ideal)) (show z = ix2 (z 0 : Fin 8) (z 1 : Fin 512) from funext (α := Fin 2) fun a => by
        match a with
        | 0 => rfl
        | 1 => rfl)).trans ((above_apply (z 0) (z 1)).trans ?_)
      unfold paddedAt padded
      rw [dif_neg (by show ¬ (8 ≤ 0 + 1 * (z 0).val ∧ 0 + 1 * (z 0).val < 2056); omega)]
  · by_cases ha : (y 0).val < 8
    · refine ⟨_, List.mem_cons_of_mem _ (List.mem_cons_of_mem _ List.mem_cons_self), (Rect.mem_set_unit (inb := inb_S2064x512_S8x512_0_0)).mpr fun a => ?_⟩
      match a with
      | 0 => exact ⟨Nat.zero_le _, by show (y 0).val < 0 + 8; omega⟩
      | 1 => exact ⟨Nat.zero_le _, by show (y 1).val < 0 + 512; omega⟩
    by_cases hb : (y 0).val < 2056
    · refine ⟨_, List.mem_cons_self, (Rect.mem_set_unit (inb := inb_S2064x512_S2048x512_8_0)).mpr fun a => ?_⟩
      match a with
      | 0 => exact ⟨by show 8 ≤ (y 0).val; omega, by show (y 0).val < 8 + 2048; omega⟩
      | 1 => exact ⟨Nat.zero_le _, by show (y 1).val < 0 + 512; omega⟩
    · refine ⟨_, List.mem_cons_of_mem _ List.mem_cons_self, (Rect.mem_set_unit (inb := inb_S2064x512_S8x512_2056_0)).mpr fun a => ?_⟩
      match a with
      | 0 => exact ⟨by show 2056 ≤ (y 0).val; omega, by show (y 0).val < 2056 + 8; omega⟩
      | 1 => exact ⟨Nat.zero_le _, by show (y 1).val < 0 + 512; omega⟩

/-- A load of one group's weights, -/
theorem read_weights (g : Fin 4) (e l : Fin 128) :
    arg2.view.readAt (Elt Ideal) (Rect.unit (s := S1x4x128x128) ![0, g.val, 0, 0] S1x1x128x128.size (inb_weights g.val g.isLt)).toLoadRect (harg2.unread x1) (ix4 0 0 e l)
      = x1 (ix4 0 g e l) := by
  rw [View.readAt_apply, harg2.read_unread]
  refine congrArg x1 (funext (α := Fin 4) fun a => Fin.ext ?_)
  match a with
  | 0 => rfl
  | 1 => show g.val + 1 * 0 = g.val; omega
  | 2 => show 0 + 1 * e.val = e.val; omega
  | 3 => show 0 + 1 * l.val = l.val; omega

/-- and of its scales. -/
theorem read_scale (g : Fin 4) (l : Fin 128) :
    arg3.view.readAt (Elt Ideal) (Rect.unit (s := S1x1x512) ![0, 0, 128 * g.val] S1x1x128.size (inb_scale g.val g.isLt)).toLoadRect (harg3.unread x2) (ix3 0 0 l)
      = x2 (ix3 0 0 (column g l)) := by
  rw [View.readAt_apply, harg3.read_unread]
  refine congrArg x2 (funext (α := Fin 3) fun a => Fin.ext ?_)
  match a with
  | 0 => rfl
  | 1 => rfl
  | 2 => show 128 * g.val + 1 * l.val = 128 * g.val + l.val; omega

/-- The block as a function of the input blocks. -/
def blockAt (y : S1x2048x512.Idx) : EReal :=
  entry (fun s k => x0 (ix3 0 s k)) (fun g e l => x1 (ix4 0 g e l)) (fun n => x2 (ix3 0 0 n)) (y 1 : Fin 2048) (y 2 : Fin 512)

/-- Every store agrees with the formula, when the buffer holds the padded sequence, -/
theorem chunks_agree (M : List (View.Piece (Elt Ideal) S2064x512 .f32)) (hM : ∀ y, arg5.view.read (Elt Ideal) (arg5.view.writes (Elt Ideal) arg5.view.junk M) y = paddedAt x0 y) :
    ∀ (n : Nat) (h : n ≤ 32), ∀ q ∈ chunks arg2 harg2 arg3 harg3 arg5 x1 x2 M n h, ∀ y : q.1.shape.Idx, q.2 y = blockAt x0 x1 x2 (q.1.emb y)
  | 0, _ => fun q hq => absurd hq List.not_mem_nil
  | n + 1, h => fun q hq => by
    rcases List.mem_cons.mp hq with rfl | hq
    · intro (y : S1x256x128.Idx)
      have e : y = ix3 0 (y 1 : Fin 256) (y 2 : Fin 128) := funext (α := Fin 3) fun a => by
        match a with
        | 0 => exact Fin.ext (by have : (y 0).val < 1 := (y 0).isLt; show (y 0).val = 0; omega)
        | 1 => rfl
        | 2 => rfl
      have h1 : (y 1).val < 256 := (y 1).isLt
      have h2 : (y 2).val < 128 := (y 2).isLt
      refine (congrArg (mixed _ _ _) e).trans ((mixed_apply _ _ _ (y 1) (y 2)).trans ?_)
      have et : ((Rect.unit (s := S1x2048x512) ![0, 256 * (n / 4), 128 * (n % 4)] S1x256x128.size (inb_chunk n h)).emb y 1 : Fin 2048)
          = (⟨256 * (n / 4) + (y 1).val, by omega⟩ : Fin 2048) := Fin.ext (by show 256 * (n / 4) + 1 * (y 1).val = 256 * (n / 4) + (y 1).val; omega)
      have ek : ((Rect.unit (s := S1x2048x512) ![0, 256 * (n / 4), 128 * (n % 4)] S1x256x128.size (inb_chunk n h)).emb y 2 : Fin 512)
          = column (⟨n % 4, by omega⟩ : Fin 4) (y 2 : Fin 128) := Fin.ext (by show 128 * (n % 4) + 1 * (y 2).val = 128 * (n % 4) + (y 2).val; omega)
      unfold blockAt
      rw [et, ek, entry_of_column _ _ _ _ (⟨n % 4, by omega⟩ : Fin 4) (y 2 : Fin 128) _ rfl]
      refine congrArg₂ (fun a b : EReal => a * b) (Finset.sum_congr rfl fun k _ => congrArg₂ (fun a b : EReal => a * b) ?_ ?_) ?_
      · exact pooled_apply arg5.view M x0 hM (⟨n / 4, by omega⟩ : Fin 8) (⟨n % 4, by omega⟩ : Fin 4) (y 1) k
      · exact read_weights arg2 harg2 x1 (⟨n % 4, by omega⟩ : Fin 4) k (y 2)
      · exact read_scale arg3 harg3 x2 (⟨n % 4, by omega⟩ : Fin 4) (y 2)
    · exact chunks_agree M hM n (Nat.le_of_lt h) q hq

/-- and the stores cover the block. -/
theorem chunks_cover (M : List (View.Piece (Elt Ideal) S2064x512 .f32)) (y : S1x2048x512.Idx) : ∀ (n : Nat) (h : n ≤ 32),
    4 * ((y 1).val / 256) + (y 2).val / 128 < n → ∃ q ∈ chunks arg2 harg2 arg3 harg3 arg5 x1 x2 M n h, y ∈ q.1.set
  | 0, _, hy => absurd hy (Nat.not_lt_zero _)
  | n + 1, h, hy => by
    by_cases hn : 4 * ((y 1).val / 256) + (y 2).val / 128 < n
    · obtain ⟨q, hq, hm⟩ := chunks_cover M y n (Nat.le_of_lt h) hn
      exact ⟨q, List.mem_cons_of_mem _ hq, hm⟩
    · refine ⟨_, List.mem_cons_self, (Rect.mem_set_unit (inb := inb_chunk n h)).mpr fun a => ?_⟩
      have h0 : (y 0).val < 1 := (y 0).isLt
      have h1 : (y 1).val < 2048 := (y 1).isLt
      have h2 : (y 2).val < 512 := (y 2).isLt
      match a with
      | 0 => exact ⟨Nat.zero_le _, by show (y 0).val < 0 + 1; omega⟩
      | 1 => exact ⟨by show 256 * (n / 4) ≤ (y 1).val; omega, by show (y 1).val < 256 * (n / 4) + 256; omega⟩
      | 2 => exact ⟨by show 128 * (n % 4) ≤ (y 2).val; omega, by show (y 2).val < 128 * (n % 4) + 128; omega⟩

/-- The result's block after the body. -/
theorem out_apply (y : S1x2048x512.Idx) :
    out0_A_3 c i arg1 harg1 arg2 harg2 arg3 harg3 arg4 harg4 arg5 harg5 x0 x1 x2 y = blockAt x0 x1 x2 y := by
  have h1 : (y 1).val < 2048 := (y 1).isLt
  have h2 : (y 2).val < 512 := (y 2).isLt
  unfold out0_A_3
  rw [stores_eq]
  exact View.read_writes_apply_of_pieces _ _ (blockAt x0 x1 x2) _
    (chunks_agree arg2 harg2 arg3 harg3 arg5 x0 x1 x2 _ (buffer_padded c arg1 harg1 x0 arg5.view) 32 _) y
    (chunks_cover arg2 harg2 arg3 harg3 arg5 x1 x2 _ y 32 _ (by omega))

end Body

end Cert.Kernel5Ideal.Pool

end
-- ==== Proof.PoolRef.lean ====
/- The pooling mixer's reference, read at an index: the formula of the sequence, the first layer's weights and its scales. -/
module

public import proofs.«01_k».proof.Proof.Gen.Reference5Ideal.Read
public import proofs.«01_k».proof.Proof.PoolMath

@[expose] public section

set_option maxRecDepth 65536

noncomputable section

namespace Cert.Reference5Ideal.Pool

open Idealize.ShloMosaic Idealize.ShloMosaic.TcCoe Idealize.ShloMosaic.Tactic
open Cert.Reference5Ideal Cert.Reference5Ideal.Gen Cert.Reference5Ideal.Read Cert.Pooling

variable (x0 : (⟨S16x2048x5120, .bf16⟩ : BufTy).Contents (Elt Ideal)) (x1 : (⟨S2x4x128x128, .f32⟩ : BufTy).Contents (Elt Ideal))
  (x2 : (⟨S2x512, .f32⟩ : BufTy).Contents (Elt Ideal))

/-- The pooled columns of the projections start at 3072. -/
def pooledCol (k : Fin 512) : Fin 5120 := ⟨3072 + k.val, by omega⟩

theorem v6_apply (g : Fin 4) : val_main_v6 (F := Ideal) (ix1 g) = BitVec.ofNat 32 (2 ^ g.val) := by
  match g with
  | 0 => rfl
  | 1 => rfl
  | 2 => rfl
  | 3 => rfl

theorem lo_apply (t : Fin 2048) (g : Fin 4) :
    val_main_v13 (F := Ideal) (ix2 t g) = IntOp.maxsi (IntOp.subi (BitVec.ofNat 32 t.val) (BitVec.ofNat 32 (2 ^ g.val))) 0#32 := by
  rw [← v6_apply g]
  pointwise [val_main_v13, val_main_v12, val_main_v11, val_main_v10, val_main_v9, val_main_v8, val_main_v7, val_main_v3, val_main_c_0]

theorem hi_apply (t : Fin 2048) (g : Fin 4) :
    val_main_v20 (F := Ideal) (ix2 t g) = IntOp.minsi (IntOp.addi (BitVec.ofNat 32 t.val) (BitVec.ofNat 32 (2 ^ g.val))) 2048#32 := by
  rw [← v6_apply g]
  pointwise [val_main_v20, val_main_v19, val_main_v18, val_main_v17, val_main_v16, val_main_v15, val_main_v14, val_main_v3, val_main_c_1]

/-- The membership of token `s` in the window of token `t`, as the word comparisons decide it. -/
theorem member_apply (t s : Fin 2048) (g : Fin 4) : val_main_v32 (F := Ideal) (ix3 t s g) = if near t.val (2 ^ g.val) s.val then 1 else 0 := by
  have hg : 2 ^ g.val ≤ 8 := (Nat.pow_le_pow_right (by decide) (show g.val ≤ 3 by omega)).trans (by decide)
  have hw : val_main_v31 (F := Ideal) (ix3 t s g) = BitVec.ofBool (decide (near t.val (2 ^ g.val) s.val)) := by
    rw [← near_word t.val (2 ^ g.val) s.val t.isLt hg s.isLt, ← lo_apply, ← hi_apply]
    pointwise [val_main_v31, val_main_v30, val_main_v29, val_main_v28, val_main_v27, val_main_v26, val_main_v25, val_main_v24, val_main_v23, val_main_v22, val_main_v21, val_main_v3]
  rw [val_main_v32_apply, hw]
  by_cases hn : near t.val (2 ^ g.val) s.val
  · rw [if_pos hn, decide_eq_true hn]
    have h1 : (BitVec.ofBool true).toNat = 1 := rfl
    show (((BitVec.ofBool true).toNat : ℝ) : EReal) = 1
    rw [h1]
    norm_num
  · rw [if_neg hn, decide_eq_false hn]
    show (((BitVec.ofBool false).toNat : ℝ) : EReal) = 0
    norm_num

theorem seq_apply (b : Fin 16) (s : Fin 2048) (g : Fin 4) (e : Fin 128) :
    val_main_v2 (F := Ideal) x0 (ix4 b s g e) = x0 (ix3 b s (pooledCol (column g e))) := by
  rw [val_main_v2_apply, val_main_v1_apply, val_main_v0_apply]
  refine congrArg x0 (funext (α := Fin 3) fun a => Fin.ext ?_)
  match a with
  | 0 => show (((b.val * 2048 + s.val) * 4 + g.val) * 128 + e.val) / 1048576 = b.val; omega
  | 1 => show (((b.val * 2048 + s.val) * 4 + g.val) * 128 + e.val) / 512 % 2048 = s.val; omega
  | 2 => show 3072 + (((b.val * 2048 + s.val) * 4 + g.val) * 128 + e.val) % 512 = 3072 + (128 * g.val + e.val); omega

/-- A window's sum, as the product with the memberships, -/
theorem sum_apply (b : Fin 16) (t : Fin 2048) (g : Fin 4) (e : Fin 128) :
    val_main_v34 (F := Ideal) x0 (ix4 b t g e) = windowSum (fun s => x0 (ix3 b s (pooledCol (column g e)))) t.val (2 ^ g.val) := by
  rw [val_main_v34_apply, val_main_v33_apply]
  refine Finset.sum_congr rfl fun s _ => ?_
  refine (congrArg₂ (fun a b : EReal => a * b) (seq_apply x0 b s g e) (member_apply t s g)).trans ?_
  by_cases hn : near t.val (2 ^ g.val) s.val
  · rw [if_pos hn, if_pos hn, mul_one]
  · rw [if_neg hn, if_neg hn, mul_zero]

/-- the window's mean less the token, -/
theorem centred_apply (b : Fin 16) (t : Fin 2048) (g : Fin 4) (e : Fin 128) :
    val_main_v40 (F := Ideal) x0 (ix4 b t g e) = centred (fun s => x0 (ix3 b s (pooledCol (column g e)))) g t := by
  have hw : val_main_v36 (F := Ideal) (ix2 t g) = FloatOps.sitofp (F := Ideal) .f32 (width t.val (2 ^ g.val)) := by
    rw [val_main_v36_apply, val_main_v35_apply, lo_apply, hi_apply]
    rfl
  rw [val_main_v40_apply, val_main_v39_apply, val_main_v38_apply, val_main_v37_apply, sum_apply, seq_apply]
  unfold centred
  rw [← hw]
  rfl

theorem weights_apply (g : Fin 4) (e l : Fin 128) : val_main_v42 (F := Ideal) x1 (ix3 g e l) = x1 (ix4 0 g e l) := by
  rw [val_main_v42_apply, val_main_v41_apply]
  refine congrArg x1 (funext (α := Fin 4) fun a => Fin.ext ?_)
  match a with
  | 0 => rfl
  | 1 => show ((g.val * 128 + e.val) * 128 + l.val) / 16384 % 4 = g.val; omega
  | 2 => show ((g.val * 128 + e.val) * 128 + l.val) / 128 % 128 = e.val; omega
  | 3 => show ((g.val * 128 + e.val) * 128 + l.val) % 128 = l.val; omega

/-- and the result. -/
theorem v51_apply (b : Fin 16) (t : Fin 2048) (n : Fin 512) :
    val_main_v51 (F := Ideal) x0 x1 x2 (ix3 b t n)
      = entry (fun s k => x0 (ix3 b s (pooledCol k))) (fun g e l => x1 (ix4 0 g e l)) (fun n => x2 (ix2 0 n)) t n := by
  rw [val_main_v51_apply, val_main_v50_apply, val_main_v49_apply, val_main_v48_apply, val_main_v47_apply, val_main_v46_apply,
    val_main_v45_apply, val_main_v44_apply, val_main_v43_apply]
  unfold entry
  refine congrArg₂ (fun a b : EReal => a * b) (Finset.sum_congr rfl fun e _ => ?_) (congrArg x2 (funext (α := Fin 2) fun a => ?_))
  · have el : lidx_main_v43 (idx_main_v44 (idx_main_v45 (ix3 b t n))) e = ix3 (group n) e (lane n) := funext (α := Fin 3) fun a => Fin.ext (by
      match a with
      | 0 => show ((b.val * 2048 + t.val) * 512 + n.val) / 128 % 4 = n.val / 128; omega
      | 1 => rfl
      | 2 => show ((b.val * 2048 + t.val) * 512 + n.val) % 128 = n.val % 128; omega)
    have er : ridx_main_v43 (idx_main_v44 (idx_main_v45 (ix3 b t n))) e = ix4 b t (group n) e := funext (α := Fin 4) fun a => Fin.ext (by
      match a with
      | 0 => show ((b.val * 2048 + t.val) * 512 + n.val) / 1048576 = b.val; omega
      | 1 => show ((b.val * 2048 + t.val) * 512 + n.val) / 512 % 2048 = t.val; omega
      | 2 => show ((b.val * 2048 + t.val) * 512 + n.val) / 128 % 4 = n.val / 128; omega
      | 3 => rfl)
    rw [el, er, weights_apply, centred_apply, mul_comm]
  · match a with
    | 0 => exact Fin.ext (by show 0 = 0; rfl)
    | 1 => exact Fin.ext (by show n.val % 512 = n.val; omega)

end Cert.Reference5Ideal.Pool

end
-- ==== Proof.PoolIdealValue.lean ====
/- The pooling mixer's result array is the reference's function of the arguments. -/
module

public import proofs.«01_k».proof.Proof.PoolIdealBody
public import proofs.«01_k».proof.Proof.PoolRef

@[expose] public section

set_option maxRecDepth 16384

noncomputable section

namespace Cert.Kernel5Ideal.Pool

open Idealize.ShloMosaic Idealize.ShloMosaic.TcCoe Idealize.ShloMosaic.Tactic
open Idealize.SL Idealize.SL.Sem
open Idealize.ShloMosaic.Pipeline (Dat Cfg Window)
open Cert.Kernel5Ideal.Gen Cert.Pooling
open Cert.Reference5Ideal.Pool (pooledCol)

variable (m : (ℓ : Loc nD τ sig) → Buf (Elt Ideal) ℓ)

/-- A grid point is a sequence. -/
theorem coord_seq (t : Fin 16) : (BitVec.ofNat 32 (grid0.coords t 0).val).toNat = t.val := by
  have h : (grid0.coords t 0).val = t.val := by
    show t.val / grid0.stride 0 % 16 = t.val
    rw [show grid0.stride 0 = 1 by decide]
    omega
  rw [h, BitVec.toNat_ofNat]
  omega

/-! ## The blocks at coordinates -/

/-- The staged columns are the projections' from 3072 on. -/
theorem iblk_seq (c : Dev nD) (t : Fin 16) (s : Fin 2048) (k : Fin 512) :
    iblk m c 0 t (ix3 0 s k) = m ((c : Thread nD τ).loc main_arg0) (ix3 t s (pooledCol k)) := by
  show V m c main_arg0 (((cfg0.win 0).blk t).view.emb (ix3 0 s k)) = _
  rw [V_main_arg0]
  refine congrArg (m ((c : Thread nD τ).loc main_arg0)) (funext (α := Fin 3) fun a => Fin.ext ?_)
  match a with
  | 0 =>
    show (BitVec.ofNat 32 (grid0.coords t 0).val).toNat * 1 + 1 * 0 = t.val
    rw [coord_seq]
    omega
  | 1 => show 0 * 2048 + 1 * s.val = s.val; omega
  | 2 => show 6 * 512 + 1 * k.val = 3072 + k.val; omega

theorem iblk_weights (c : Dev nD) (t : Fin 16) (g : Fin 4) (e l : Fin 128) :
    iblk m c 1 t (ix4 0 g e l) = m ((c : Thread nD τ).loc main_arg1) (ix4 0 g e l) := by
  show V m c main_arg1 (((cfg0.win 1).blk t).view.emb (ix4 0 g e l)) = _
  rw [V_main_arg1]
  refine congrArg (m ((c : Thread nD τ).loc main_arg1)) (funext (α := Fin 4) fun a => Fin.ext ?_)
  match a with
  | 0 => rfl
  | 1 => show 0 * 4 + 1 * g.val = g.val; omega
  | 2 => show 0 * 128 + 1 * e.val = e.val; omega
  | 3 => show 0 * 128 + 1 * l.val = l.val; omega

theorem V_v0 (c : Dev nD) (l : Fin 2) (n : Fin 512) : V m c main_v0 (ix3 l 0 n) = m ((c : Thread nD τ).loc main_arg2) (ix2 l n) := by
  entry_read
  pointwise []

theorem iblk_scale (c : Dev nD) (t : Fin 16) (n : Fin 512) :
    iblk m c 2 t (ix3 0 0 n) = m ((c : Thread nD τ).loc main_arg2) (ix2 0 n) := by
  refine Eq.trans (b := V m c main_v0 (ix3 0 0 n)) ?_ (V_v0 m c 0 n)
  refine congrArg (V m c main_v0) (funext (α := Fin 3) fun a => Fin.ext ?_)
  match a with
  | 0 => rfl
  | 1 => rfl
  | 2 => show 0 * 512 + 1 * n.val = n.val; omega

/-! ## The result -/

/-- The result, as the reference's function of the arguments. -/
def resultOf (c : Dev nD) : S16x2048x512.Idx → EReal :=
  Reference5Ideal.Read.val_main_v51 (F := Ideal) (m ((c : Thread nD τ).loc main_arg0)) (m ((c : Thread nD τ).loc main_arg1)) (m ((c : Thread nD τ).loc main_arg2))

theorem block_apply (c : Dev nD) (t : Fin 16) (y : S1x2048x512.Idx) :
    (outsAt0 m c t) y = resultOf m c (ix3 t (y 1 : Fin 2048) (y 2 : Fin 512)) := by
  unfold outsAt0
  refine (out_apply c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t) y).trans ?_
  refine Eq.trans ?_ (Reference5Ideal.Pool.v51_apply _ _ _ t (y 1 : Fin 2048) (y 2 : Fin 512)).symm
  have h0 : (fun (s : Fin 2048) (k : Fin 512) => (iblk m c 0 t : Vec Ideal S1x2048x512 .bf16) (ix3 0 s k))
      = fun s k => m ((c : Thread nD τ).loc main_arg0) (ix3 t s (pooledCol k)) := funext fun s => funext fun k => iblk_seq m c t s k
  have h1 : (fun (g : Fin 4) (e l : Fin 128) => (iblk m c 1 t : Vec Ideal S1x4x128x128 .f32) (ix4 0 g e l))
      = fun g e l => m ((c : Thread nD τ).loc main_arg1) (ix4 0 g e l) := funext fun g => funext fun e => funext fun l => iblk_weights m c t g e l
  have h2 : (fun n : Fin 512 => (iblk m c 2 t : Vec Ideal S1x1x512 .f32) (ix3 0 0 n))
      = fun n => m ((c : Thread nD τ).loc main_arg2) (ix2 0 n) := funext fun n => iblk_scale m c t n
  exact congrFun (congrFun (congr (congr (congrArg entry h0) h1) h2) (y 1 : Fin 2048)) (y 2 : Fin 512)

/-- The block of a grid point is its sequence of the result. -/
theorem emb_result (t : Fin 16) (y : S1x2048x512.Idx) :
    ((cfg0.win 3).blk t).view.emb y = ix3 t (y 1 : Fin 2048) (y 2 : Fin 512) := by
  refine funext (α := Fin 3) fun a => Fin.ext ?_
  have : (y 0).val < 1 := (y 0).isLt
  match a with
  | 0 => show (BitVec.ofNat 32 (grid0.coords t 0).val).toNat * 1 + 1 * (y 0).val = t.val; rw [coord_seq]; omega
  | 1 => show 0 * 2048 + 1 * (y 1).val = (y 1).val; omega
  | 2 => show 0 * 512 + 1 * (y 2).val = (y 2).val; omega

/-- The result's array after the run. -/
theorem array_result (c : Dev nD) : (dats m 0 c).arrAt 3 cfg0.N = resultOf m c := by
  refine (dats m 0 c).arrAt_eq_of_emb 3 (resultOf m c) (fun (t : Fin 16) hf (y : S1x2048x512.Idx) => ?_) fun (i : S16x2048x512.Idx) => ⟨(i 0 : Fin 16), flush0_3 _, ?_⟩
  · have h : (outsAt0 m c t) y = resultOf m c (((cfg0.win 3).blk t).view.emb y) :=
      (block_apply m c t y).trans (congrArg (resultOf m c) (emb_result t y).symm)
    exact Eq.trans (b := (outsAt0 m c t) y) (congrFun (after0_3 m c t) y) h
  · have e : i = ((cfg0.win 3).blk (i 0 : Fin 16)).view.emb (ix3 (0 : Fin 1) (i 1 : Fin 2048) (i 2 : Fin 512)) :=
      (show i = ix3 (i 0 : Fin 16) (i 1 : Fin 2048) (i 2 : Fin 512) from funext (α := Fin 3) fun a => by
        match a with
        | 0 => rfl
        | 1 => rfl
        | 2 => rfl).trans (emb_result (i 0) (ix3 (0 : Fin 1) (i 1 : Fin 2048) (i 2 : Fin 512))).symm
    exact (congrArg (· ∈ ((cfg0.win 3).blk (i 0 : Fin 16)).view.set) e).mpr (Finset.mem_map_of_mem _ (Finset.mem_univ _))

end Cert.Kernel5Ideal.Pool

end
-- ==== Proof.PoolClaims.lean ====
/- The pooling mixer's claims: both readings of the kernel and the reference run and leave their arguments as they were, and
   kernel and reference end with equal results over the extended reals. -/
module

public import proofs.«01_k».proof.Defs
public import proofs.«01_k».proof.Proof.Gen.Kernel5.Frame
public import proofs.«01_k».proof.Proof.PoolIdealValue
public import proofs.«01_k».proof.Proof.Gen.Reference5Ideal.Run
public import Idealize.ShloMosaic.Lib.Quiescent

@[expose] public section

noncomputable section

namespace Cert.Proof.Pool

open Idealize.ShloMosaic Idealize.ShloMosaic.TcCoe Idealize.ShloMosaic.Tactic Idealize.SL.Sem

theorem frame_bits : Cert.quiescent_Kernel5 := fun m ρ _ => Kernel5.Gen.frame m ρ

theorem frame_ideal : Cert.quiescent_Kernel5Ideal := fun m ρ _ => Kernel5Ideal.Gen.frame m ρ

/-- The reference has no counters to leave raised. -/
theorem frame_reference : Cert.quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem algebraic : Cert.algebraic_Kernel5Ideal_Reference5Ideal := fun m ρ m' ρ' _ hagree => by
  refine ⟨fun c => Kernel5Ideal.Pool.resultOf m c,
    (θ_run Kernel5Ideal.defs _ _).mono (fun r h c => ⟨(h c).1.trans (Kernel5Ideal.Pool.array_result m c), (h c).2⟩) (Kernel5Ideal.Value.run_blocks m ρ),
    (θ_run Reference5Ideal.defs _ _).mono (fun r h c => ⟨(h c).1.trans ?_, (h c).2⟩) (Reference5Ideal.Value.run (F := Ideal) m' ρ')⟩
  obtain ⟨h0, h1, h2⟩ := hagree c
  refine (Reference5Ideal.Read.val_main_v51_eq _ _ _).trans ?_
  rw [h0, h1, h2]
  rfl

end Cert.Proof.Pool

end
-- ==== Proof.Parts.lean ====
/- A product as three products of high and low parts. Over the extended reals the high part of a number is the number, and the low
   part is the number less itself: the three add up to the product wherever no factor is plus infinity. -/
module

public import Idealize.ShloMosaic.Lib.VecWindow
public import Idealize.ShloMosaic.Lib.Pipeline.ValueKit

@[expose] public section

noncomputable section

namespace Cert.Parts

open Idealize.ShloMosaic

/-- The parts of a product of two numbers add up to it. -/
def Splits (a w : EReal) : Prop := a * w + a * (w - w) + (a - a) * w = a * w

theorem coe_sub_self (r : ℝ) : (r : EReal) - (r : EReal) = 0 := by
  rw [← EReal.coe_sub, sub_self, EReal.coe_zero]

theorem double_bot (a : EReal) : a * ⊥ + a * ⊥ = a * ⊥ := by
  rcases lt_trichotomy a 0 with h | h | h
  · rw [EReal.mul_bot_of_neg h]; rfl
  · rw [h, zero_mul, add_zero]
  · rw [EReal.mul_bot_of_pos h]; rfl

theorem splits_of_ne_top {a w : EReal} (ha : a ≠ ⊤) (hw : w ≠ ⊤) : Splits a w := by
  have hb : (⊥ : EReal) - ⊥ = ⊥ := by rw [sub_eq_add_neg, EReal.neg_bot]; rfl
  unfold Splits
  induction a with
  | top => exact absurd rfl ha
  | bot =>
    induction w with
    | top => exact absurd rfl hw
    | bot => rw [hb, double_bot, double_bot]
    | coe r => rw [coe_sub_self, mul_zero, add_zero, hb, mul_comm, double_bot]
  | coe q =>
    induction w with
    | top => exact absurd rfl hw
    | bot => rw [hb, double_bot, coe_sub_self, zero_mul, add_zero]
    | coe r => rw [coe_sub_self, coe_sub_self, mul_zero, zero_mul, add_zero, add_zero]

theorem splits_zero (a : EReal) : Splits a 0 := by
  unfold Splits
  rw [sub_self_zero, mul_zero, mul_zero, add_zero, add_zero]
where
  sub_self_zero : (0 : EReal) - 0 = 0 := by simp

/-- The three products of parts add up to the product. -/
theorem parts_sum {d : Nat} (a w : Fin d → EReal) (h : ∀ k, Splits (a k) (w k)) :
    (∑ k : Fin d, a k * w k) + (∑ k : Fin d, a k * (w k - w k)) + (∑ k : Fin d, (a k - a k) * w k) = ∑ k : Fin d, a k * w k := by
  rw [← Finset.sum_add_distrib, ← Finset.sum_add_distrib]
  exact Finset.sum_congr rfl fun k _ => h k

/-- What is less than plus infinity. -/
theorem ne_top_of_lt {a : EReal} (h : Ideal.cmp .olt a (Ideal.ofBits .f32 0x7F800000#32) = 1#1) : a ≠ ⊤ := by
  have htop : Ideal.ofBits .f32 0x7F800000#32 = ⊤ := by simp [Ideal.ofBits, Ideal.ieee]
  rw [htop] at h
  rintro rfl
  have h' : BitVec.ofBool (decide ((⊤ : EReal) < ⊤)) = 1#1 := h
  rw [decide_eq_false (lt_irrefl _)] at h'
  exact absurd h' (by decide)

end Cert.Parts

end
-- ==== Proof.AdaMath.lean ====
/- The modulation of a layer: the silu of the conditioning times a column of weights, plus a bias. The kernel's product is three
   products of high and low parts, and the silu of a number that is not plus infinity is not plus infinity. -/
module

public import proofs.«01_k».proof.Proof.Gen.Kernel6Ideal.Skeleton
public import proofs.«01_k».proof.Proof.Gen.Pre_below_infinity
public import proofs.«01_k».proof.Proof.Parts
public import Idealize.ShloMosaic.Lib.VecWindow
public import Idealize.ShloMosaic.Lib.Pipeline.ValueKit

@[expose] public section

set_option maxRecDepth 16384

noncomputable section

namespace Cert.Modulation

open Idealize.ShloMosaic Cert.Parts

/-- The activation of the conditioning. -/
def silu (a : EReal) : EReal := a * Ideal.div 1 (1 + Ideal.exp (-a))

/-- An entry of the modulation, from an example's conditioning, the entry's column of weights and its bias. -/
def entry (a w : Fin 1024 → EReal) (b : EReal) : EReal := (∑ k : Fin 1024, silu (a k) * w k) + b

theorem silu_ne_top {a : EReal} (h : a ≠ ⊤) : silu a ≠ ⊤ := by
  induction a with
  | top => exact absurd rfl h
  | bot =>
    have ht : (1 : EReal) + ⊤ = ⊤ := rfl
    have e : silu ⊥ = 0 := by simp [silu, Ideal.div, ht]
    rw [e]
    exact EReal.zero_ne_top
  | coe r =>
    have hpos : (0 : ℝ) < 1 + Real.exp (-r) := by positivity
    have e : (1 : EReal) + Ideal.exp (-(r : EReal)) = ((1 + Real.exp (-r) : ℝ) : EReal) := by
      rw [← EReal.coe_neg, Ideal.exp_coe, ← EReal.coe_one, ← EReal.coe_add]
    unfold silu Ideal.div
    rw [e, if_neg (by exact_mod_cast hpos.ne'), one_mul, ← EReal.coe_inv, ← EReal.coe_mul]
    exact EReal.coe_ne_top _

/-! ## The precondition -/

section Pre

open Cert.Pre_below_infinity Cert.Pre_below_infinity.Gen

variable (x0 : FVec Ideal S16x1024 .f32) (x1 : FVec Ideal S2x1024x6144 .f32) (x2 : FVec Ideal S2x6144 .f32)

theorem conditioning_of_pre (h : (fn (F := Ideal) x0 x1 x2).1 = fun _ => 1#1) (b : Fin 16) (k : Fin 1024) : x0 (ix2 b k) ≠ ⊤ := by
  have e : (fn (F := Ideal) x0 x1 x2).1 (ix2 b k) = Ideal.cmp .olt (x0 (ix2 b k)) (Ideal.ofBits .f32 0x7F800000#32) := by
    pointwise [fn]
  rw [h] at e
  exact ne_top_of_lt e.symm

theorem columns_of_pre (h : (fn (F := Ideal) x0 x1 x2).2 = fun _ => 1#1) (k : Fin 1024) (n : Fin 6144) : x1 (ix3 0 k n) ≠ ⊤ := by
  have e : (fn (F := Ideal) x0 x1 x2).2 (ix2 k n) = Ideal.cmp .olt (x1 (ix3 0 k n)) (Ideal.ofBits .f32 0x7F800000#32) := by
    pointwise [fn]
  rw [h] at e
  exact ne_top_of_lt e.symm

end Pre

end Cert.Modulation

namespace Cert.Kernel6Ideal.Ada

open Idealize.ShloMosaic Idealize.ShloMosaic.TcCoe Idealize.ShloMosaic.Tactic
open Cert.Kernel6Ideal.Gen Cert.Modulation Cert.Parts

/-- What the body stores, at an entry. -/
theorem pay_apply (x0 : Vec Ideal S16x1024 .f32) (x1 : Vec Ideal S1x1024x768 .f32) (x2 : Vec Ideal S1x1x768 .f32) (b : Fin 16) (n : Fin 768)
    (h0 : ∀ k : Fin 1024, x0 (ix2 b k) ≠ ⊤) (h1 : ∀ k : Fin 1024, x1 (ix3 0 k n) ≠ ⊤) :
    k0_pay1 x0 x1 x2 (ix2 b n) = entry (fun k => x0 (ix2 b k)) (fun k => x1 (ix3 0 k n)) (x2 (ix3 0 0 n)) := by
  have e : k0_pay1 x0 x1 x2 (ix2 b n)
      = (∑ k : Fin 1024, silu (x0 (ix2 b k)) * x1 (ix3 0 k n)) + (∑ k : Fin 1024, silu (x0 (ix2 b k)) * (x1 (ix3 0 k n) - x1 (ix3 0 k n)))
          + (∑ k : Fin 1024, (silu (x0 (ix2 b k)) - silu (x0 (ix2 b k))) * x1 (ix3 0 k n)) + x2 (ix3 0 0 n) := by
    pointwise [k0_pay1, silu]
    simp only [zero_sub]
  rw [e, parts_sum (fun k => silu (x0 (ix2 b k))) (fun k => x1 (ix3 0 k n)) fun k => splits_of_ne_top (silu_ne_top (h0 k)) (h1 k)]
  rfl

end Cert.Kernel6Ideal.Ada

end
-- ==== Proof.AdaIdealValue.lean ====
/- The modulation's result array is the reference's function of the arguments. -/
module

public import proofs.«01_k».proof.Proof.Gen.Kernel6Ideal.Value
public import proofs.«01_k».proof.Proof.Gen.Reference6Ideal.Read
public import proofs.«01_k».proof.Proof.AdaMath

@[expose] public section

set_option maxRecDepth 16384

noncomputable section

namespace Cert.Reference6Ideal.Ada

open Idealize.ShloMosaic Idealize.ShloMosaic.TcCoe Idealize.ShloMosaic.Tactic
open Cert.Reference6Ideal Cert.Reference6Ideal.Gen Cert.Reference6Ideal.Read Cert.Modulation

/-- The reference, read at an entry. -/
theorem v8_apply (x0 : (⟨S16x1024, .f32⟩ : BufTy).Contents (Elt Ideal)) (x1 : (⟨S2x1024x6144, .f32⟩ : BufTy).Contents (Elt Ideal))
    (x2 : (⟨S2x6144, .f32⟩ : BufTy).Contents (Elt Ideal)) (b : Fin 16) (n : Fin 6144) :
    val_main_v8 (F := Ideal) x0 x1 x2 (ix2 b n) = entry (fun k => x0 (ix2 b k)) (fun k => x1 (ix3 0 k n)) (x2 (ix2 0 n)) := by
  pointwise [val_main_v8, val_main_v7, val_main_v6, val_main_v5, val_main_v4, val_main_v3, val_main_v2, val_main_v1, val_main_v0, val_main_call0_v5,
    val_main_call0_v4, val_main_call0_v3, val_main_call0_v2, val_main_call0_v1, val_main_call0_v0, val_main_call0_cst, val_main_call0_cst_0, entry, silu]

end Cert.Reference6Ideal.Ada

namespace Cert.Kernel6Ideal.Ada

open Idealize.ShloMosaic Idealize.ShloMosaic.TcCoe Idealize.ShloMosaic.Tactic
open Idealize.SL Idealize.SL.Sem
open Idealize.ShloMosaic.Pipeline (Dat Cfg Window)
open Cert.Kernel6Ideal.Gen Cert.Modulation

variable (m : (ℓ : Loc nD τ sig) → Buf (Elt Ideal) ℓ)

/-- A grid point is a tile of 768 columns: a column from its tile and its place there, and back. -/
def column (t : Fin 8) (n : Fin 768) : Fin 6144 := ⟨768 * t.val + n.val, by omega⟩

def tile (n : Fin 6144) : Fin 8 := ⟨n.val / 768, by omega⟩

def lane (n : Fin 6144) : Fin 768 := ⟨n.val % 768, by omega⟩

theorem column_tile (n : Fin 6144) : column (tile n) (lane n) = n := Fin.ext (by show 768 * (n.val / 768) + n.val % 768 = n.val; omega)

theorem coord_tile (t : Fin 8) : (BitVec.ofNat 32 (grid0.coords t 0).val).toNat = t.val := by
  have h : (grid0.coords t 0).val = t.val := by
    show t.val / grid0.stride 0 % 8 = t.val
    rw [show grid0.stride 0 = 1 by decide]
    omega
  rw [h, BitVec.toNat_ofNat]
  omega

/-! ## The blocks at coordinates -/

theorem iblk_cond (c : Dev nD) (t : Fin 8) (b : Fin 16) (k : Fin 1024) :
    iblk m c 0 t (ix2 b k) = m ((c : Thread nD τ).loc main_arg0) (ix2 b k) := by
  show V m c main_arg0 (((cfg0.win 0).blk t).view.emb (ix2 b k)) = _
  rw [V_main_arg0]
  refine congrArg (m ((c : Thread nD τ).loc main_arg0)) (funext (α := Fin 2) fun a => Fin.ext ?_)
  match a with
  | 0 => show 0 * 16 + 1 * b.val = b.val; omega
  | 1 => show 0 * 1024 + 1 * k.val = k.val; omega

theorem iblk_weights (c : Dev nD) (t : Fin 8) (k : Fin 1024) (n : Fin 768) :
    iblk m c 1 t (ix3 0 k n) = m ((c : Thread nD τ).loc main_arg1) (ix3 0 k (column t n)) := by
  show V m c main_arg1 (((cfg0.win 1).blk t).view.emb (ix3 0 k n)) = _
  rw [V_main_arg1]
  refine congrArg (m ((c : Thread nD τ).loc main_arg1)) (funext (α := Fin 3) fun a => Fin.ext ?_)
  match a with
  | 0 => rfl
  | 1 => show 0 * 1024 + 1 * k.val = k.val; omega
  | 2 =>
    show (BitVec.ofNat 32 (grid0.coords t 0).val).toNat * 768 + 1 * n.val = 768 * t.val + n.val
    rw [coord_tile]
    omega

theorem V_v0 (c : Dev nD) (l : Fin 2) (n : Fin 6144) : V m c main_v0 (ix3 l 0 n) = m ((c : Thread nD τ).loc main_arg2) (ix2 l n) := by
  entry_read
  pointwise []

theorem iblk_bias (c : Dev nD) (t : Fin 8) (n : Fin 768) :
    iblk m c 2 t (ix3 0 0 n) = m ((c : Thread nD τ).loc main_arg2) (ix2 0 (column t n)) := by
  refine Eq.trans (b := V m c main_v0 (ix3 0 0 (column t n))) ?_ (V_v0 m c 0 (column t n))
  refine congrArg (V m c main_v0) (funext (α := Fin 3) fun a => Fin.ext ?_)
  match a with
  | 0 => rfl
  | 1 => rfl
  | 2 =>
    show (BitVec.ofNat 32 (grid0.coords t 0).val).toNat * 768 + 1 * n.val = 768 * t.val + n.val
    rw [coord_tile]
    omega

/-! ## The result -/

/-- The result, as the reference's function of the arguments. -/
def resultOf (c : Dev nD) : S16x6144.Idx → EReal :=
  Reference6Ideal.Read.val_main_v8 (F := Ideal) (m ((c : Thread nD τ).loc main_arg0)) (m ((c : Thread nD τ).loc main_arg1)) (m ((c : Thread nD τ).loc main_arg2))

/-- A store of a whole block leaves what it stored. -/
theorem canon_whole (w : Vec Ideal S16x768 .f32) (y : S16x768.Idx) : View.canon (Val := Elt Ideal) [⟨r0_3, w⟩] y = w y := by
  have hy : r0_3.emb y = y := funext (α := Fin 2) fun a => Fin.ext (by
    match a with
    | 0 => show 0 + 1 * (y 0).val = (y 0).val; omega
    | 1 => show 0 + 1 * (y 1).val = (y 1).val; omega)
  have h := View.canon_cons_emb (Val := Elt Ideal) r0_3 w [] y
  rw [hy] at h
  exact h

/-- The one store fills the block, and the loads are the whole blocks. -/
theorem out_apply (x0 : Vec Ideal S16x1024 .f32) (x1 : Vec Ideal S1x1024x768 .f32) (x2 : Vec Ideal S1x1x768 .f32) (y : S16x768.Idx) :
    out0_3 x0 x1 x2 y = k0_pay1 x0 x1 x2 y := by
  have h0 : View.ld x0 r0_0 = x0 := funext fun j => congrArg x0 (funext (α := Fin 2) fun a => Fin.ext (by
    match a with
    | 0 => show 0 + 1 * (j 0).val = (j 0).val; omega
    | 1 => show 0 + 1 * (j 1).val = (j 1).val; omega))
  have h1 : View.ld x1 r0_1 = x1 := funext fun j => congrArg x1 (funext (α := Fin 3) fun a => Fin.ext (by
    match a with
    | 0 => show 0 + 1 * (j 0).val = (j 0).val; omega
    | 1 => show 0 + 1 * (j 1).val = (j 1).val; omega
    | 2 => show 0 + 1 * (j 2).val = (j 2).val; omega))
  have h2 : View.ld x2 r0_2 = x2 := funext fun j => congrArg x2 (funext (α := Fin 3) fun a => Fin.ext (by
    match a with
    | 0 => show 0 + 1 * (j 0).val = (j 0).val; omega
    | 1 => show 0 + 1 * (j 1).val = (j 1).val; omega
    | 2 => show 0 + 1 * (j 2).val = (j 2).val; omega))
  unfold out0_3
  rw [h0, h1, h2]
  exact canon_whole (k0_pay1 x0 x1 x2) y

/-- What the arguments have to be: not plus infinity, in the conditioning and in the first layer's weights. -/
structure Bounded (c : Dev nD) : Prop where
  conditioning : ∀ (b : Fin 16) (k : Fin 1024), m ((c : Thread nD τ).loc main_arg0) (ix2 b k) ≠ (⊤ : EReal)
  columns : ∀ (k : Fin 1024) (n : Fin 6144), m ((c : Thread nD τ).loc main_arg1) (ix3 0 k n) ≠ (⊤ : EReal)

theorem block_apply (c : Dev nD) (hf : Bounded m c) (t : Fin 8) (y : S16x768.Idx) :
    out0_3 (iblk m c 0 t) (iblk m c 1 t) (iblk m c 2 t) y = resultOf m c (ix2 (y 0 : Fin 16) (column t (y 1 : Fin 768))) := by
  have ey : y = ix2 (y 0 : Fin 16) (y 1 : Fin 768) := funext (α := Fin 2) fun a => by
    match a with
    | 0 => rfl
    | 1 => rfl
  have h0 : (fun k : Fin 1024 => (iblk m c 0 t : Vec Ideal S16x1024 .f32) (ix2 (y 0 : Fin 16) k))
      = fun k => m ((c : Thread nD τ).loc main_arg0) (ix2 (y 0 : Fin 16) k) := funext fun k => iblk_cond m c t (y 0) k
  have h1 : (fun k : Fin 1024 => (iblk m c 1 t : Vec Ideal S1x1024x768 .f32) (ix3 0 k (y 1 : Fin 768)))
      = fun k => m ((c : Thread nD τ).loc main_arg1) (ix3 0 k (column t (y 1 : Fin 768))) := funext fun k => iblk_weights m c t k (y 1)
  refine (out_apply (iblk m c 0 t) (iblk m c 1 t) (iblk m c 2 t) y).trans ((congrArg (k0_pay1 (iblk m c 0 t) (iblk m c 1 t) (iblk m c 2 t)) ey).trans ?_)
  refine (pay_apply (iblk m c 0 t) (iblk m c 1 t) (iblk m c 2 t) (y 0) (y 1) (fun k => ?_) (fun k => ?_)).trans ?_
  · exact (iblk_cond m c t (y 0) k).trans_ne (hf.conditioning (y 0) k)
  · exact (iblk_weights m c t k (y 1)).trans_ne (hf.columns k (column t (y 1)))
  · refine Eq.trans ?_ (Reference6Ideal.Ada.v8_apply _ _ _ (y 0 : Fin 16) (column t (y 1 : Fin 768))).symm
    exact congr (congr (congrArg entry h0) h1) (iblk_bias m c t (y 1))

/-- The block of a grid point is its tile of the result. -/
theorem emb_result (t : Fin 8) (y : S16x768.Idx) : ((cfg0.win 3).blk t).view.emb y = ix2 (y 0 : Fin 16) (column t (y 1 : Fin 768)) := by
  refine funext (α := Fin 2) fun a => Fin.ext ?_
  match a with
  | 0 => show 0 * 16 + 1 * (y 0).val = (y 0).val; omega
  | 1 => show (BitVec.ofNat 32 (grid0.coords t 0).val).toNat * 768 + 1 * (y 1).val = 768 * t.val + (y 1).val; rw [coord_tile]; omega

/-- The result's array after the run. -/
theorem array_result (c : Dev nD) (hf : Bounded m c) : (dats m 0 c).arrAt 3 cfg0.N = resultOf m c := by
  refine (dats m 0 c).arrAt_eq_of_emb 3 (resultOf m c) (fun (t : Fin 8) _ (y : S16x768.Idx) => ?_) fun (i : S16x6144.Idx) => ⟨tile (i 1), flush0_3 _, ?_⟩
  · have h : out0_3 (iblk m c 0 t) (iblk m c 1 t) (iblk m c 2 t) y = resultOf m c (((cfg0.win 3).blk t).view.emb y) :=
      (block_apply m c hf t y).trans (congrArg (resultOf m c) (emb_result t y).symm)
    exact Eq.trans (b := out0_3 (iblk m c 0 t) (iblk m c 1 t) (iblk m c 2 t) y) (congrFun (after0_3 m c t) y) h
  · have e : i = ((cfg0.win 3).blk (tile (i 1))).view.emb (ix2 (i 0 : Fin 16) (lane (i 1))) :=
      (show i = ix2 (i 0 : Fin 16) (column (tile (i 1)) (lane (i 1))) from funext (α := Fin 2) fun a => by
        match a with
        | 0 => rfl
        | 1 => exact (column_tile (i 1)).symm).trans (emb_result (tile (i 1)) (ix2 (i 0 : Fin 16) (lane (i 1)))).symm
    exact (congrArg (· ∈ ((cfg0.win 3).blk (tile (i 1))).view.set) e).mpr (Finset.mem_map_of_mem _ (Finset.mem_univ _))

end Cert.Kernel6Ideal.Ada

end
-- ==== Proof.AdaClaims.lean ====
/- The modulation's claims: both readings of the kernel and the reference run and leave their arguments as they were, and
   kernel and reference end with equal results over the extended reals. -/
module

public import proofs.«01_k».proof.Defs
public import proofs.«01_k».proof.Proof.Gen.Kernel6.Frame
public import proofs.«01_k».proof.Proof.AdaIdealValue
public import proofs.«01_k».proof.Proof.Gen.Reference6Ideal.Run
public import Idealize.ShloMosaic.Lib.Quiescent

@[expose] public section

noncomputable section

namespace Cert.Proof.Ada

open Idealize.ShloMosaic Idealize.ShloMosaic.TcCoe Idealize.ShloMosaic.Tactic Idealize.SL.Sem

theorem frame_bits : Cert.quiescent_Kernel6 := fun m ρ _ => Kernel6.Gen.frame m ρ

theorem frame_ideal : Cert.quiescent_Kernel6Ideal := fun m ρ _ => Kernel6Ideal.Gen.frame m ρ

/-- The reference has no counters to leave raised. -/
theorem frame_reference : Cert.quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

theorem frame_ideal_pre : Cert.quiescent_Kernel6Ideal_pre_below_infinity := fun m ρ _ => frame_ideal m ρ trivial

theorem frame_reference_pre : Cert.quiescent_Reference6Ideal_pre_below_infinity := fun m ρ _ => frame_reference m ρ trivial

/-- The precondition, decoded. -/
theorem bounded_of_pre (m : (ℓ : Loc Kernel6Ideal.nD Kernel6Ideal.τ Kernel6Ideal.sig) → Buf (Elt Ideal) ℓ) (h : Cert.Pre_Kernel6Ideal_below_infinity m)
    (c : Dev Kernel6Ideal.nD) : Kernel6Ideal.Ada.Bounded m c :=
  ⟨fun b k => Modulation.conditioning_of_pre _ _ _ (h c).1 b k, fun k n => Modulation.columns_of_pre _ _ _ (h c).2 k n⟩

theorem algebraic : Cert.algebraic_Kernel6Ideal_Reference6Ideal_pre_below_infinity := fun m ρ m' ρ' hpre hagree => by
  refine ⟨fun c => Kernel6Ideal.Ada.resultOf m c,
    (θ_run Kernel6Ideal.defs _ _).mono (fun r h c => ⟨(h c).1.trans (Kernel6Ideal.Ada.array_result m c (bounded_of_pre m hpre c)), (h c).2⟩) (Kernel6Ideal.Value.run_blocks m ρ),
    (θ_run Reference6Ideal.defs _ _).mono (fun r h c => ⟨(h c).1.trans ?_, (h c).2⟩) (Reference6Ideal.Value.run (F := Ideal) m' ρ')⟩
  obtain ⟨h0, h1, h2⟩ := hagree c
  refine (Reference6Ideal.Read.val_main_v8_eq _ _ _).trans ?_
  rw [h0, h1, h2]
  rfl

end Cert.Proof.Ada

end
-- ==== Proof.FilterMath.lean ====
/- The long filters: three sine layers over a position's features, then a product with a column of weights and the position's decay.
   The kernel's products are three products of high and low parts, and a sine is never plus infinity. -/
module

public import proofs.«01_k».proof.Proof.Gen.Kernel7Ideal.Frame
public import proofs.«01_k».proof.Proof.Gen.Pre_no_infinite_factor
public import proofs.«01_k».proof.Proof.Parts
public import Idealize.ShloMosaic.Lib.VecWindow
public import Idealize.ShloMosaic.Lib.Pipeline.ValueKit

@[expose] public section

set_option maxRecDepth 16384

noncomputable section

namespace Cert.Filter

open Idealize.ShloMosaic Cert.Parts

/-- One layer: a product with a matrix, a bias, a frequency, and the sine. -/
def layer {d : Nat} (a : Fin d → EReal) (w : Fin d → Fin 64 → EReal) (b f : Fin 64 → EReal) (n : Fin 64) : EReal :=
  Ideal.sin (f n * ((∑ k : Fin d, a k * w k n) + b n))

/-- The three layers. -/
def hidden (z : Fin 33 → EReal) (w : Fin 33 → Fin 64 → EReal) (b : Fin 64 → EReal) (wi : Fin 2 → Fin 64 → Fin 64 → EReal)
    (bi : Fin 2 → Fin 64 → EReal) (f : Fin 64 → EReal) : Fin 64 → EReal :=
  layer (layer (layer z w b f) (wi 0) (bi 0) f) (wi 1) (bi 1) f

/-- An entry of the filters, at a position, with the direction of its column (0 forward, 1 backward): the backward filter has no offset zero. -/
def entry (s dir : Nat) (h w : Fin 64 → EReal) (decay : EReal) : EReal :=
  if s = 0 ∧ dir = 1 then 0 else (∑ k : Fin 64, h k * w k) * decay

theorem sin_ne_top (a : EReal) : Ideal.sin a ≠ ⊤ := by
  induction a with
  | bot => simp
  | top => simp
  | coe r => rw [Ideal.sin_coe]; exact EReal.coe_ne_top _

theorem layer_ne_top {d : Nat} (a : Fin d → EReal) (w : Fin d → Fin 64 → EReal) (b f : Fin 64 → EReal) (n : Fin 64) : layer a w b f n ≠ ⊤ :=
  sin_ne_top _

/-! ## The words of a position and of a direction -/

theorem toInt_word (a : Nat) (ha : a < 2 ^ 31) : (BitVec.ofNat 32 a).toInt = a := by
  rw [BitVec.toInt_eq_toNat_cond, BitVec.toNat_ofNat]
  split <;> omega

theorem later_word (s : Nat) (hs : s < 2048) : IntOp.cmpi .sgt (BitVec.ofNat 32 s) 0#32 = BitVec.ofBool (decide (0 < s)) := by
  refine congrArg BitVec.ofBool (Bool.eq_iff_iff.mpr ?_)
  rw [BitVec.slt_iff_toInt_lt, toInt_word s (by omega), decide_eq_true_iff]
  have : (0#32).toInt = 0 := rfl
  omega

theorem forward_word (g : Nat) (hg : g < 2) : IntOp.cmpi .eq (BitVec.ofNat 32 g) 0#32 = BitVec.ofBool (decide (g = 0)) := by
  match g, hg with
  | 0, _ => rfl
  | 1, _ => rfl

/-! ## The precondition -/

section Pre

open Cert.Pre_no_infinite_factor Cert.Pre_no_infinite_factor.Gen

variable (x0 : FVec Ideal S2048x128 .f32) (x1 : FVec Ideal S2048x512 .f32) (x2 : FVec Ideal S2x33x64 .f32) (x3 : FVec Ideal S2x64 .f32)
  (x4 : FVec Ideal S2x2x64x64 .f32) (x5 : FVec Ideal S2x2x64 .f32) (x6 : FVec Ideal S2x64x2048 .f32) (x7 : FVec Ideal S2x64 .f32)

theorem features_of_pre (h : (fn (F := Ideal) x0 x1 x2 x3 x4 x5 x6 x7).1 = fun _ => 1#1) (s : Fin 2048) (k : Fin 33) :
    x0 (ix2 s (⟨k.val, by omega⟩ : Fin 128)) ≠ ⊤ := by
  have e : (fn (F := Ideal) x0 x1 x2 x3 x4 x5 x6 x7).1 (ix2 s k)
      = Ideal.cmp .olt (x0 (ix2 s (⟨k.val, by omega⟩ : Fin 128))) (Ideal.ofBits .f32 0x7F800000#32) := by
    pointwise [fn]
  rw [h] at e
  exact ne_top_of_lt e.symm

theorem weights_of_pre (h : (fn (F := Ideal) x0 x1 x2 x3 x4 x5 x6 x7).2.1 = fun _ => 1#1) (k : Fin 33) (n : Fin 64) : x2 (ix3 0 k n) ≠ ⊤ := by
  have e : (fn (F := Ideal) x0 x1 x2 x3 x4 x5 x6 x7).2.1 (ix2 k n) = Ideal.cmp .olt (x2 (ix3 0 k n)) (Ideal.ofBits .f32 0x7F800000#32) := by
    pointwise [fn]
  rw [h] at e
  exact ne_top_of_lt e.symm

theorem inner_of_pre (h : (fn (F := Ideal) x0 x1 x2 x3 x4 x5 x6 x7).2.2.1 = fun _ => 1#1) (i : Fin 2) (k n : Fin 64) : x4 (ix4 0 i k n) ≠ ⊤ := by
  have e : (fn (F := Ideal) x0 x1 x2 x3 x4 x5 x6 x7).2.2.1 (ix3 i k n) = Ideal.cmp .olt (x4 (ix4 0 i k n)) (Ideal.ofBits .f32 0x7F800000#32) := by
    pointwise [fn]
  rw [h] at e
  exact ne_top_of_lt e.symm

theorem outer_of_pre (h : (fn (F := Ideal) x0 x1 x2 x3 x4 x5 x6 x7).2.2.2 = fun _ => 1#1) (k : Fin 64) (n : Fin 2048) : x6 (ix3 0 k n) ≠ ⊤ := by
  have e : (fn (F := Ideal) x0 x1 x2 x3 x4 x5 x6 x7).2.2.2 (ix2 k n) = Ideal.cmp .olt (x6 (ix3 0 k n)) (Ideal.ofBits .f32 0x7F800000#32) := by
    pointwise [fn]
  rw [h] at e
  exact ne_top_of_lt e.symm

end Pre

end Cert.Filter

namespace Cert.Kernel7Ideal.Filter

open Idealize.ShloMosaic Idealize.ShloMosaic.TcCoe Idealize.ShloMosaic.Tactic
open Cert.Kernel7Ideal Cert.Kernel7Ideal.Gen Cert.Filter Cert.Parts

/-! ## A layer of the kernel -/

/-- The three products of a layer. -/
def product (h : FVec Ideal S2048x64 .f32) (w : FVec Ideal S64x64 .f32) : FVec Ideal S2048x64 .f32 :=
  addf (addf (matmul dot_S2048x64_S64x64_S2048x64_1_0_0_1_n_n none (truncf .bf16 h bitsLt_bf16_f32) (truncf .bf16 w bitsLt_bf16_f32) (constant S2048x64 .f32 0x00000000#32))
      (matmul dot_S2048x64_S64x64_S2048x64_1_0_0_1_n_n none (truncf .bf16 h bitsLt_bf16_f32)
        (truncf .bf16 (subf w (extf .f32 (truncf .bf16 w bitsLt_bf16_f32) bitsLt_bf16_f32)) bitsLt_bf16_f32) (constant S2048x64 .f32 0x00000000#32)))
    (matmul dot_S2048x64_S64x64_S2048x64_1_0_0_1_n_n none (truncf .bf16 (subf h (extf .f32 (truncf .bf16 h bitsLt_bf16_f32) bitsLt_bf16_f32)) bitsLt_bf16_f32)
      (truncf .bf16 w bitsLt_bf16_f32) (constant S2048x64 .f32 0x00000000#32))

/-- A layer after the first. -/
def inner (h : FVec Ideal S2048x64 .f32) (w : Vec Ideal S1x1x64x64 .f32) (b : Vec Ideal S1x1x1x64 .f32) (f : Vec Ideal S1x1x64 .f32) : FVec Ideal S2048x64 .f32 :=
  sin (mulf (broadcastTo S2048x64 (k0_pay1 f) broadcasts_S1x64_S2048x64)
    (addf (product h (k0_pay3 w)) (broadcastTo S2048x64 (shapeCast S1x64 b shapeCasts_S1x1x1x64_S1x64) broadcasts_S1x64_S2048x64)))

theorem product_apply (h : FVec Ideal S2048x64 .f32) (w : FVec Ideal S64x64 .f32) (s : Fin 2048) (n : Fin 64) :
    product h w (ix2 s n) = (∑ k : Fin 64, h (ix2 s k) * w (ix2 k n)) + (∑ k : Fin 64, h (ix2 s k) * (w (ix2 k n) - w (ix2 k n)))
      + (∑ k : Fin 64, (h (ix2 s k) - h (ix2 s k)) * w (ix2 k n)) := by
  pointwise [product]

theorem inner_apply (h : FVec Ideal S2048x64 .f32) (w : Vec Ideal S1x1x64x64 .f32) (b : Vec Ideal S1x1x1x64 .f32) (f : Vec Ideal S1x1x64 .f32)
    (s : Fin 2048) (n : Fin 64) (hh : ∀ k : Fin 64, h (ix2 s k) ≠ ⊤) (hw : ∀ k : Fin 64, w (ix4 0 0 k n) ≠ ⊤) :
    inner h w b f (ix2 s n) = layer (fun k => h (ix2 s k)) (fun k n => w (ix4 0 0 k n)) (fun n => b (ix4 0 0 0 n)) (fun n => f (ix3 0 0 n)) n := by
  have hp : product h (k0_pay3 w) (ix2 s n) = ∑ k : Fin 64, h (ix2 s k) * w (ix4 0 0 k n) := by
    have hk : ∀ k : Fin 64, k0_pay3 w (ix2 k n) = w (ix4 0 0 k n) := fun k => by pointwise [k0_pay3]
    rw [product_apply]
    simp only [hk]
    exact parts_sum (fun k => h (ix2 s k)) (fun k => w (ix4 0 0 k n)) fun k => splits_of_ne_top (hh k) (hw k)
  unfold inner layer
  rw [← hp]
  generalize product h (k0_pay3 w) = p
  pointwise [k0_pay1]

/-- The first layer reads 128 columns of features; the weights of all but 33 are zero. -/
theorem first_apply (f : Vec Ideal S1x1x64 .f32) (z : Vec Ideal S2048x128 .f32) (w : Vec Ideal S1x128x64 .f32) (b : Vec Ideal S1x1x64 .f32) (s : Fin 2048)
    (n : Fin 64) (hz : ∀ k : Fin 33, z (ix2 s (⟨k.val, by omega⟩ : Fin 128)) ≠ ⊤) (hw : ∀ k : Fin 33, w (ix3 0 (⟨k.val, by omega⟩ : Fin 128) n) ≠ ⊤)
    (hw0 : ∀ k : Fin 128, 33 ≤ k.val → w (ix3 0 k n) = 0) :
    k0_pay2 f z w b (ix2 s n) = layer (fun k : Fin 33 => z (ix2 s (⟨k.val, by omega⟩ : Fin 128))) (fun k n => w (ix3 0 (⟨k.val, by omega⟩ : Fin 128) n))
      (fun n => b (ix3 0 0 n)) (fun n => f (ix3 0 0 n)) n := by
  have e : k0_pay2 f z w b (ix2 s n) = Ideal.sin (f (ix3 0 0 n) * ((∑ k : Fin 128, z (ix2 s k) * w (ix3 0 k n))
      + (∑ k : Fin 128, z (ix2 s k) * (w (ix3 0 k n) - w (ix3 0 k n))) + (∑ k : Fin 128, (z (ix2 s k) - z (ix2 s k)) * w (ix3 0 k n)) + b (ix3 0 0 n))) := by
    pointwise [k0_pay2, k0_pay1]
  have hs : ∀ k : Fin 128, Splits (z (ix2 s k)) (w (ix3 0 k n)) := fun k => by
    by_cases hk : k.val < 33
    · exact splits_of_ne_top (hz ⟨k.val, hk⟩) (hw ⟨k.val, hk⟩)
    · rw [hw0 k (by omega)]
      exact splits_zero _
  have hc : (∑ k : Fin 128, z (ix2 s k) * w (ix3 0 k n))
      = ∑ k : Fin 33, z (ix2 s (⟨k.val, by omega⟩ : Fin 128)) * w (ix3 0 (⟨k.val, by omega⟩ : Fin 128) n) := by
    refine (Fin.sum_univ_add (a := 33) (b := 95) fun k : Fin (33 + 95) => z (ix2 s (k : Fin 128)) * w (ix3 0 (k : Fin 128) n)).trans ?_
    refine (congrArg₂ (fun a b : EReal => a + b) rfl (Finset.sum_eq_zero fun k _ => ?_)).trans (add_zero _)
    rw [hw0 _ (by show 33 ≤ 33 + k.val; omega), mul_zero]
  rw [e, parts_sum (fun k : Fin 128 => z (ix2 s k)) (fun k => w (ix3 0 k n)) hs, hc]
  rfl

/-! ## The products with the columns -/

/-- The three products with 512 columns, times the decay. -/
def columns (h : FVec Ideal S2048x64 .f32) (w : Vec Ideal S1x64x512 .f32) (d : Vec Ideal S2048x512 .f32) : FVec Ideal S2048x512 .f32 :=
  mulf (addf (addf (matmul dot_S2048x64_S64x512_S2048x512_1_0_0_1_n_n none (truncf .bf16 h bitsLt_bf16_f32) (truncf .bf16 (k0_pay10 w) bitsLt_bf16_f32) (constant S2048x512 .f32 0x00000000#32))
      (matmul dot_S2048x64_S64x512_S2048x512_1_0_0_1_n_n none (truncf .bf16 h bitsLt_bf16_f32)
        (truncf .bf16 (subf (k0_pay10 w) (extf .f32 (truncf .bf16 (k0_pay10 w) bitsLt_bf16_f32) bitsLt_bf16_f32)) bitsLt_bf16_f32) (constant S2048x512 .f32 0x00000000#32)))
    (matmul dot_S2048x64_S64x512_S2048x512_1_0_0_1_n_n none (truncf .bf16 (subf h (extf .f32 (truncf .bf16 h bitsLt_bf16_f32) bitsLt_bf16_f32)) bitsLt_bf16_f32)
      (truncf .bf16 (k0_pay10 w) bitsLt_bf16_f32) (constant S2048x512 .f32 0x00000000#32))) d

/-- What is stored for a forward filter, -/
def forward (h : FVec Ideal S2048x64 .f32) (w : Vec Ideal S1x64x512 .f32) (d : Vec Ideal S2048x512 .f32) : FVec Ideal S2048x512 .bf16 :=
  truncf .bf16 (columns h w d) bitsLt_bf16_f32

/-- and for a backward one. -/
def backward (h : FVec Ideal S2048x64 .f32) (w : Vec Ideal S1x64x512 .f32) (d : Vec Ideal S2048x512 .f32) : FVec Ideal S2048x512 .bf16 :=
  truncf .bf16 (select (broadcastTo S2048x512 (shapeCast S2048x1 k0_pay9 shapeCasts_S2048x1_S2048x1) broadcasts_S2048x1_S2048x512) (columns h w d)
    (broadcast S2048x512 (Scalar.ofBits (F := Ideal) .f32 0x00000000#32))) bitsLt_bf16_f32

theorem columns_apply (h : FVec Ideal S2048x64 .f32) (w : Vec Ideal S1x64x512 .f32) (d : Vec Ideal S2048x512 .f32) (s : Fin 2048) (n : Fin 512)
    (hh : ∀ k : Fin 64, h (ix2 s k) ≠ ⊤) (hw : ∀ k : Fin 64, w (ix3 0 k n) ≠ ⊤) :
    columns h w d (ix2 s n) = (∑ k : Fin 64, h (ix2 s k) * w (ix3 0 k n)) * d (ix2 s n) := by
  have e : columns h w d (ix2 s n) = ((∑ k : Fin 64, h (ix2 s k) * w (ix3 0 k n)) + (∑ k : Fin 64, h (ix2 s k) * (w (ix3 0 k n) - w (ix3 0 k n)))
      + (∑ k : Fin 64, (h (ix2 s k) - h (ix2 s k)) * w (ix3 0 k n))) * d (ix2 s n) := by
    pointwise [columns, k0_pay10]
  rw [e, parts_sum (fun k => h (ix2 s k)) (fun k => w (ix3 0 k n)) fun k => splits_of_ne_top (hh k) (hw k)]

theorem forward_apply (h : FVec Ideal S2048x64 .f32) (w : Vec Ideal S1x64x512 .f32) (d : Vec Ideal S2048x512 .f32) (s : Fin 2048) (n : Fin 512)
    (hh : ∀ k : Fin 64, h (ix2 s k) ≠ ⊤) (hw : ∀ k : Fin 64, w (ix3 0 k n) ≠ ⊤) :
    forward h w d (ix2 s n) = entry s.val 0 (fun k => h (ix2 s k)) (fun k => w (ix3 0 k n)) (d (ix2 s n)) := by
  unfold entry
  rw [if_neg (fun q => absurd q.2 (by decide)), ← columns_apply h w d s n hh hw]
  rfl

theorem backward_apply (h : FVec Ideal S2048x64 .f32) (w : Vec Ideal S1x64x512 .f32) (d : Vec Ideal S2048x512 .f32) (s : Fin 2048) (n : Fin 512)
    (hh : ∀ k : Fin 64, h (ix2 s k) ≠ ⊤) (hw : ∀ k : Fin 64, w (ix3 0 k n) ≠ ⊤) :
    backward h w d (ix2 s n) = entry s.val 1 (fun k => h (ix2 s k)) (fun k => w (ix3 0 k n)) (d (ix2 s n)) := by
  have e : backward h w d (ix2 s n) = Scalar.select (IntOp.cmpi .sgt (BitVec.ofNat 32 s.val) 0#32) (columns h w d (ix2 s n)) 0 := by
    unfold backward
    generalize columns h w d = p
    pointwise [k0_pay9]
  unfold entry
  rw [e, later_word s.val s.isLt, columns_apply h w d s n hh hw]
  by_cases h0 : s.val = 0
  · rw [if_pos ⟨h0, rfl⟩, decide_eq_false (by omega)]
    rfl
  · rw [if_neg (fun q => h0 q.1), decide_eq_true (by omega)]
    rfl

end Cert.Kernel7Ideal.Filter

end
-- ==== Proof.FilterIdealValue.lean ====
/- The long filters' result array is the reference's function of the arguments. -/
module

public import proofs.«01_k».proof.Proof.Gen.Kernel7Ideal.Value
public import proofs.«01_k».proof.Proof.Gen.Reference7Ideal.Read
public import proofs.«01_k».proof.Proof.FilterMath
public import Idealize.ShloMosaic.Lib.Routing.OpsOne

@[expose] public section

set_option maxRecDepth 16384

noncomputable section

namespace Cert.Filter

/-- The direction of a column, and its channel. -/
def direction (n : Fin 2048) : Nat := n.val / 512 % 2

def channel (n : Fin 2048) : Fin 512 := ⟨n.val % 512, by omega⟩

end Cert.Filter

namespace Cert.Reference7Ideal.Filter

open Idealize.ShloMosaic Idealize.ShloMosaic.TcCoe Idealize.ShloMosaic.Tactic
open Cert.Reference7Ideal Cert.Reference7Ideal.Gen Cert.Reference7Ideal.Read Cert.Filter

variable (x0 : (⟨S2048x128, .f32⟩ : BufTy).Contents (Elt Ideal)) (x1 : (⟨S2048x512, .f32⟩ : BufTy).Contents (Elt Ideal))
  (x2 : (⟨S2x33x64, .f32⟩ : BufTy).Contents (Elt Ideal)) (x3 : (⟨S2x64, .f32⟩ : BufTy).Contents (Elt Ideal))
  (x4 : (⟨S2x2x64x64, .f32⟩ : BufTy).Contents (Elt Ideal)) (x5 : (⟨S2x2x64, .f32⟩ : BufTy).Contents (Elt Ideal))
  (x6 : (⟨S2x64x2048, .f32⟩ : BufTy).Contents (Elt Ideal)) (x7 : (⟨S2x64, .f32⟩ : BufTy).Contents (Elt Ideal))

theorem v14_apply (s : Fin 2048) (n : Fin 64) : val_main_v14 (F := Ideal) x0 x2 x3 x7 (ix2 s n)
    = layer (fun k : Fin 33 => x0 (ix2 s (⟨k.val, by omega⟩ : Fin 128))) (fun k n => x2 (ix3 0 k n)) (fun n => x3 (ix2 0 n)) (fun n => x7 (ix2 0 n)) n := by
  pointwise [val_main_v14, val_main_v13, val_main_v12, val_main_v11, val_main_v10, val_main_v9, val_main_v8, val_main_v7, val_main_v6, val_main_v5, val_main_v4, val_main_v3, val_main_v2, val_main_v1, val_main_v0, layer]

theorem v28_apply (s : Fin 2048) (n : Fin 64) : val_main_v28 (F := Ideal) x0 x2 x3 x4 x5 x7 (ix2 s n)
    = layer (fun k : Fin 64 => val_main_v14 (F := Ideal) x0 x2 x3 x7 (ix2 s k)) (fun k n => x4 (ix4 0 0 k n)) (fun n => x5 (ix3 0 0 n)) (fun n => x7 (ix2 0 n)) n := by
  unfold val_main_v28 val_main_v27 val_main_v24 val_main_v19
  generalize val_main_v14 (F := Ideal) x0 x2 x3 x7 = h
  pointwise [val_main_v28, val_main_v27, val_main_v26, val_main_v25, val_main_v24, val_main_v23, val_main_v22, val_main_v21, val_main_v20, val_main_v19, val_main_v18, val_main_v17, val_main_v16, val_main_v15, layer]

theorem v42_apply (s : Fin 2048) (n : Fin 64) : val_main_v42 (F := Ideal) x0 x2 x3 x4 x5 x7 (ix2 s n)
    = layer (fun k : Fin 64 => val_main_v28 (F := Ideal) x0 x2 x3 x4 x5 x7 (ix2 s k)) (fun k n => x4 (ix4 0 1 k n)) (fun n => x5 (ix3 0 1 n)) (fun n => x7 (ix2 0 n)) n := by
  unfold val_main_v42 val_main_v41 val_main_v38 val_main_v33
  generalize val_main_v28 (F := Ideal) x0 x2 x3 x4 x5 x7 = h
  pointwise [val_main_v42, val_main_v41, val_main_v40, val_main_v39, val_main_v38, val_main_v37, val_main_v36, val_main_v35, val_main_v34, val_main_v33, val_main_v32, val_main_v31, val_main_v30, val_main_v29, layer]

/-- The three layers of the reference. -/
theorem hidden_apply (s : Fin 2048) (n : Fin 64) : val_main_v42 (F := Ideal) x0 x2 x3 x4 x5 x7 (ix2 s n)
    = hidden (fun k : Fin 33 => x0 (ix2 s (⟨k.val, by omega⟩ : Fin 128))) (fun k n => x2 (ix3 0 k n)) (fun n => x3 (ix2 0 n)) (fun i k n => x4 (ix4 0 i k n))
        (fun i n => x5 (ix3 0 i n)) (fun n => x7 (ix2 0 n)) n := by
  have h1 := funext fun k => v14_apply x0 x2 x3 x7 s k
  have h2 := funext fun k => v28_apply x0 x2 x3 x4 x5 x7 s k
  rw [v42_apply, h2, h1]
  rfl

theorem v45_apply (s n : Fin 2048) : val_main_v45 (F := Ideal) x0 x2 x3 x4 x5 x6 x7 (ix2 s n)
    = ∑ k : Fin 64, val_main_v42 (F := Ideal) x0 x2 x3 x4 x5 x7 (ix2 s k) * x6 (ix3 0 k n) := by
  unfold val_main_v45
  generalize val_main_v42 (F := Ideal) x0 x2 x3 x4 x5 x7 = h
  pointwise [val_main_v44, val_main_v43]

theorem kept_apply (s : Fin 2048) (o d : Fin 2) (e : Fin 512) : val_main_call0_v1 (F := Ideal) (ix4 s o d e)
    = IntOp.ori (IntOp.cmpi .sgt (BitVec.ofNat 32 s.val) 0#32) (IntOp.cmpi .eq (BitVec.ofNat 32 d.val) 0#32) := by
  pointwise [val_main_call0_v1, val_main_v61, val_main_v60, val_main_v59, val_main_v58, val_main_v57, val_main_v56, val_main_v55, val_main_v54, val_main_v53, val_main_v52, val_main_v51, val_main_v50, val_main_c, val_main_c_0]

theorem v49_apply (s : Fin 2048) (o d : Fin 2) (e : Fin 512) (n : Fin 2048) (hn : n.val = o.val * 1024 + d.val * 512 + e.val) :
    val_main_v49 (F := Ideal) x0 x1 x2 x3 x4 x5 x6 x7 (ix4 s o d e) = val_main_v45 (F := Ideal) x0 x2 x3 x4 x5 x6 x7 (ix2 s n) * x1 (ix2 s e) := by
  unfold val_main_v49 val_main_v46
  generalize val_main_v45 (F := Ideal) x0 x2 x3 x4 x5 x6 x7 = h
  pointwise [val_main_v48, val_main_v47]
  exact congrArg (fun i : Fin 2048 => h (ix2 s i) * x1 (ix2 s e)) (Fin.ext hn.symm)

theorem kept_word (s : Fin 2048) (d : Fin 2) (x : EReal) :
    Scalar.select (IntOp.ori (IntOp.cmpi .sgt (BitVec.ofNat 32 s.val) 0#32) (IntOp.cmpi .eq (BitVec.ofNat 32 d.val) 0#32)) x 0 = if s.val = 0 ∧ d.val = 1 then 0 else x := by
  have h : IntOp.ori (BitVec.ofBool (decide (0 < s.val))) (BitVec.ofBool (decide (d.val = 0))) = BitVec.ofBool (decide (0 < s.val) || decide (d.val = 0)) := by
    cases decide (0 < s.val) <;> cases decide (d.val = 0) <;> rfl
  rw [later_word s.val s.isLt, forward_word d.val d.isLt, h]
  by_cases hz : s.val = 0 ∧ d.val = 1
  · rw [if_pos hz, decide_eq_false (by omega), decide_eq_false (by omega)]
    rfl
  · rw [if_neg hz, show (decide (0 < s.val) || decide (d.val = 0)) = true by rw [← Bool.decide_or]; exact decide_eq_true (by omega)]
    rfl

/-- The reference, read at an entry. -/
theorem v64_apply (s n : Fin 2048) : val_main_v64 (F := Ideal) x0 x1 x2 x3 x4 x5 x6 x7 (ix2 s n)
    = entry s.val (direction n) (hidden (fun k : Fin 33 => x0 (ix2 s (⟨k.val, by omega⟩ : Fin 128))) (fun k n => x2 (ix3 0 k n)) (fun n => x3 (ix2 0 n))
        (fun i k n => x4 (ix4 0 i k n)) (fun i n => x5 (ix3 0 i n)) (fun n => x7 (ix2 0 n))) (fun k => x6 (ix3 0 k n)) (x1 (ix2 s (channel n))) := by
  have e : val_main_v64 (F := Ideal) x0 x1 x2 x3 x4 x5 x6 x7 (ix2 s n)
      = val_main_v62 (F := Ideal) x0 x1 x2 x3 x4 x5 x6 x7 (ix4 s (⟨n.val / 1024, by omega⟩ : Fin 2) (⟨direction n, Nat.mod_lt _ (by decide)⟩ : Fin 2) (channel n)) := by
    unfold val_main_v64 val_main_v63
    generalize val_main_v62 (F := Ideal) x0 x1 x2 x3 x4 x5 x6 x7 = h
    pointwise []
    rfl
  have hv := v45_apply x0 x2 x3 x4 x5 x6 x7 s n
  simp only [hidden_apply] at hv
  rw [e, val_main_v62_apply, kept_apply, v49_apply x0 x1 x2 x3 x4 x5 x6 x7 s _ _ _ n (by show n.val = n.val / 1024 * 1024 + n.val / 512 % 2 * 512 + n.val % 512; omega), hv,
    val_main_call0_v2_apply]
  exact (congrArg (Scalar.select _ _) (show Ideal.ofBits .f32 0x00000000#32 = 0 by simp [Ideal.ofBits, Ideal.ieee])).trans (kept_word s ⟨direction n, Nat.mod_lt _ (by decide)⟩ _)

end Cert.Reference7Ideal.Filter

namespace Cert.Kernel7Ideal.Filter

open Idealize.ShloMosaic Idealize.ShloMosaic.TcCoe Idealize.ShloMosaic.Tactic
open Idealize.SL Idealize.SL.Sem
open Idealize.ShloMosaic.Pipeline (Dat Cfg Window)
open Cert.Kernel7Ideal Cert.Kernel7Ideal.Gen Cert.Filter

/-! ## The padded weights -/

/-- The dimension numbers of the padding. -/
abbrev pad : ScatterDims S2x128x64 S1 S2x33x64 := scatter_S2x128x64_S1_S2x33x64_012_n_1_0

theorem pad_window (j : S2x33x64.Idx) (a : Fin 3) : pad.window j a = (j a).val := by
  match a with
  | 0 => rfl
  | 1 => rfl
  | 2 => rfl

theorem pad_start (j : S2x33x64.Idx) (idx : IVec S1 32) (h : ∀ i, (idx i).toInt = 0) (a : Fin 3) : pad.start j idx a = 0 := by
  unfold ScatterDims.start
  split
  · exact h _
  · rfl

/-- An update lands at its own place. -/
theorem pad_lands (j : S2x33x64.Idx) (idx : IVec S1 32) (h : ∀ i, (idx i).toInt = 0) (i : S2x128x64.Idx) :
    pad.resultIdx? j idx = some i ↔ ∀ a : Fin 3, (j a).val = (i a).val := by
  rw [Routing.resultIdx?_eq_some]
  refine forall_congr' fun a => ?_
  rw [pad_start j idx h, pad_window]
  omega

/-- Zeros, with the weights written over the first 33 rows. -/
theorem pad_apply (z : FVec Ideal S2x128x64 .f32) (idx : IVec S1 32) (h : ∀ i, (idx i).toInt = 0) (u : FVec Ideal S2x33x64 .f32) (l : Fin 2) (k : Fin 128) (n : Fin 64) :
    (∀ hk : k.val < 33, Host.scatter pad (fun _ b => b) z idx u (ix3 l k n) = u (ix3 l (⟨k.val, hk⟩ : Fin 33) n))
      ∧ (33 ≤ k.val → Host.scatter pad (fun _ b => b) z idx u (ix3 l k n) = z (ix3 l k n)) := by
  refine ⟨fun hk => ?_, fun hk => ?_⟩
  · refine Routing.scatter_set_hit pad z idx u _ _ (fun j hj => congrArg u (funext (α := Fin 3) fun a => Fin.ext ?_)) (ix3 l (⟨k.val, hk⟩ : Fin 33) n) ?_
    · have := (pad_lands j idx h (ix3 l k n)).1 hj a
      match a with
      | 0 => exact this
      | 1 => exact this
      | 2 => exact this
    · refine (pad_lands _ idx h _).2 fun a => ?_
      match a with
      | 0 => rfl
      | 1 => rfl
      | 2 => rfl
  · refine Routing.scatter_set_miss pad z idx u _ fun j hj => ?_
    have h1 : (j 1).val = k.val := (pad_lands j idx h (ix3 l k n)).1 hj 1
    have h2 : (j 1).val < 33 := (j 1).isLt
    omega

variable (m : (ℓ : Loc nD τ sig) → Buf (Elt Ideal) ℓ)

theorem V_v2 (c : Dev nD) : ∃ idx : IVec S1 32, (∀ i, (idx i).toInt = 0) ∧ ∃ z : FVec Ideal S2x128x64 .f32, (∀ i, z i = 0) ∧
    V m c main_v2 = Host.scatter pad (fun _ b => b) z idx (m ((c : Thread nD τ).loc main_arg2)) := by
  refine ⟨broadcastInDim S1 ![] bcast_S_S1 (constantI S_ 32 0#32), fun i => rfl, broadcastInDim S2x128x64 ![] bcast_S_S2x128x64 (constant S_ .f32 0x00000000#32), fun i => ?_, ?_⟩
  · show Ideal.ofBits .f32 0x00000000#32 = 0
    simp [Ideal.ofBits, Ideal.ieee]
  · funext i
    entry_read
    rfl

theorem V_v3 (c : Dev nD) (l : Fin 2) (n : Fin 64) : V m c main_v3 (ix3 l 0 n) = m ((c : Thread nD τ).loc main_arg3) (ix2 l n) := by
  entry_read
  pointwise []

theorem V_v4 (c : Dev nD) (l i : Fin 2) (n : Fin 64) : V m c main_v4 (ix4 l i 0 n) = m ((c : Thread nD τ).loc main_arg5) (ix3 l i n) := by
  entry_read
  pointwise []

theorem V_v5 (c : Dev nD) (l : Fin 2) (n : Fin 64) : V m c main_v5 (ix3 l 0 n) = m ((c : Thread nD τ).loc main_arg7) (ix2 l n) := by
  entry_read
  pointwise []

/-! ## The blocks at coordinates -/

theorem iblk_features (c : Dev nD) (t : Fin 1) (s : Fin 2048) (k : Fin 128) : iblk m c 0 t (ix2 s k) = m ((c : Thread nD τ).loc main_arg0) (ix2 s k) := by
  show V m c main_arg0 (((cfg0.win 0).blk t).view.emb (ix2 s k)) = _
  rw [V_main_arg0]
  refine congrArg (m ((c : Thread nD τ).loc main_arg0)) (funext (α := Fin 2) fun a => Fin.ext ?_)
  match a with
  | 0 => show 0 * 2048 + 1 * s.val = s.val; omega
  | 1 => show 0 * 128 + 1 * k.val = k.val; omega

theorem iblk_padded (c : Dev nD) (t : Fin 1) (k : Fin 128) (n : Fin 64) : iblk m c 1 t (ix3 0 k n) = V m c main_v2 (ix3 0 k n) := by
  refine congrArg (V m c main_v2) (funext (α := Fin 3) fun a => Fin.ext ?_)
  match a with
  | 0 => rfl
  | 1 => show 0 * 128 + 1 * k.val = k.val; omega
  | 2 => show 0 * 64 + 1 * n.val = n.val; omega

theorem iblk_weights (c : Dev nD) (t : Fin 1) (k : Fin 33) (n : Fin 64) :
    iblk m c 1 t (ix3 0 (⟨k.val, by omega⟩ : Fin 128) n) = m ((c : Thread nD τ).loc main_arg2) (ix3 0 k n) := by
  obtain ⟨idx, hi, z, hz, e⟩ := V_v2 m c
  rw [iblk_padded, e]
  exact (pad_apply z idx hi _ 0 ⟨k.val, by omega⟩ n).1 k.isLt

theorem iblk_padding (c : Dev nD) (t : Fin 1) (k : Fin 128) (hk : 33 ≤ k.val) (n : Fin 64) : iblk m c 1 t (ix3 0 k n) = (0 : EReal) := by
  obtain ⟨idx, hi, z, hz, e⟩ := V_v2 m c
  rw [iblk_padded, e]
  exact ((pad_apply z idx hi _ 0 k n).2 hk).trans (hz _)

theorem iblk_bias (c : Dev nD) (t : Fin 1) (n : Fin 64) : iblk m c 2 t (ix3 0 0 n) = m ((c : Thread nD τ).loc main_arg3) (ix2 0 n) := by
  refine Eq.trans (b := V m c main_v3 (ix3 0 0 n)) ?_ (V_v3 m c 0 n)
  refine congrArg (V m c main_v3) (funext (α := Fin 3) fun a => Fin.ext ?_)
  match a with
  | 0 => rfl
  | 1 => rfl
  | 2 => show 0 * 64 + 1 * n.val = n.val; omega

theorem iblk_inner (c : Dev nD) (t : Fin 1) (i : Fin 2) (k n : Fin 64) : iblk m c 3 t (ix4 0 i k n) = m ((c : Thread nD τ).loc main_arg4) (ix4 0 i k n) := by
  show V m c main_arg4 (((cfg0.win 3).blk t).view.emb (ix4 0 i k n)) = _
  rw [V_main_arg4]
  refine congrArg (m ((c : Thread nD τ).loc main_arg4)) (funext (α := Fin 4) fun a => Fin.ext ?_)
  match a with
  | 0 => rfl
  | 1 => show 0 * 2 + 1 * i.val = i.val; omega
  | 2 => show 0 * 64 + 1 * k.val = k.val; omega
  | 3 => show 0 * 64 + 1 * n.val = n.val; omega

theorem iblk_inner_bias (c : Dev nD) (t : Fin 1) (i : Fin 2) (n : Fin 64) : iblk m c 4 t (ix4 0 i 0 n) = m ((c : Thread nD τ).loc main_arg5) (ix3 0 i n) := by
  refine Eq.trans (b := V m c main_v4 (ix4 0 i 0 n)) ?_ (V_v4 m c 0 i n)
  refine congrArg (V m c main_v4) (funext (α := Fin 4) fun a => Fin.ext ?_)
  match a with
  | 0 => rfl
  | 1 => show 0 * 2 + 1 * i.val = i.val; omega
  | 2 => rfl
  | 3 => show 0 * 64 + 1 * n.val = n.val; omega

theorem iblk_outer (c : Dev nD) (t : Fin 1) (k : Fin 64) (n : Fin 2048) : iblk m c 5 t (ix3 0 k n) = m ((c : Thread nD τ).loc main_arg6) (ix3 0 k n) := by
  show V m c main_arg6 (((cfg0.win 5).blk t).view.emb (ix3 0 k n)) = _
  rw [V_main_arg6]
  refine congrArg (m ((c : Thread nD τ).loc main_arg6)) (funext (α := Fin 3) fun a => Fin.ext ?_)
  match a with
  | 0 => rfl
  | 1 => show 0 * 64 + 1 * k.val = k.val; omega
  | 2 => show 0 * 2048 + 1 * n.val = n.val; omega

theorem iblk_freq (c : Dev nD) (t : Fin 1) (n : Fin 64) : iblk m c 6 t (ix3 0 0 n) = m ((c : Thread nD τ).loc main_arg7) (ix2 0 n) := by
  refine Eq.trans (b := V m c main_v5 (ix3 0 0 n)) ?_ (V_v5 m c 0 n)
  refine congrArg (V m c main_v5) (funext (α := Fin 3) fun a => Fin.ext ?_)
  match a with
  | 0 => rfl
  | 1 => rfl
  | 2 => show 0 * 64 + 1 * n.val = n.val; omega

theorem iblk_decay (c : Dev nD) (t : Fin 1) (s : Fin 2048) (n : Fin 512) : iblk m c 7 t (ix2 s n) = m ((c : Thread nD τ).loc main_arg1) (ix2 s n) := by
  show V m c main_arg1 (((cfg0.win 7).blk t).view.emb (ix2 s n)) = _
  rw [V_main_arg1]
  refine congrArg (m ((c : Thread nD τ).loc main_arg1)) (funext (α := Fin 2) fun a => Fin.ext ?_)
  match a with
  | 0 => show 0 * 2048 + 1 * s.val = s.val; omega
  | 1 => show 0 * 512 + 1 * n.val = n.val; omega

/-! ## The block -/

section Block

variable (x0 : Vec Ideal S2048x128 .f32) (x1 : Vec Ideal S1x128x64 .f32) (x2 : Vec Ideal S1x1x64 .f32) (x3 : Vec Ideal S1x2x64x64 .f32)
  (x4 : Vec Ideal S1x2x1x64 .f32) (x5 : Vec Ideal S1x64x2048 .f32) (x6 : Vec Ideal S1x1x64 .f32) (x7 : Vec Ideal S2048x512 .f32)

theorem ld_r0_0 (x : Vec Ideal S1x1x64 .f32) : View.ld x r0_0 = x := funext fun j => congrArg x (funext (α := Fin 3) fun a => Fin.ext (by
  match a with
  | 0 => show 0 + 1 * (j 0).val = (j 0).val; omega
  | 1 => show 0 + 1 * (j 1).val = (j 1).val; omega
  | 2 => show 0 + 1 * (j 2).val = (j 2).val; omega))

theorem ld_r0_1 : View.ld x0 r0_1 = x0 := funext fun j => congrArg x0 (funext (α := Fin 2) fun a => Fin.ext (by
  match a with
  | 0 => show 0 + 1 * (j 0).val = (j 0).val; omega
  | 1 => show 0 + 1 * (j 1).val = (j 1).val; omega))

theorem ld_r0_2 : View.ld x1 r0_2 = x1 := funext fun j => congrArg x1 (funext (α := Fin 3) fun a => Fin.ext (by
  match a with
  | 0 => show 0 + 1 * (j 0).val = (j 0).val; omega
  | 1 => show 0 + 1 * (j 1).val = (j 1).val; omega
  | 2 => show 0 + 1 * (j 2).val = (j 2).val; omega))

theorem ld_r0_8 : View.ld x7 r0_8 = x7 := funext fun j => congrArg x7 (funext (α := Fin 2) fun a => Fin.ext (by
  match a with
  | 0 => show 0 + 1 * (j 0).val = (j 0).val; omega
  | 1 => show 0 + 1 * (j 1).val = (j 1).val; omega))

theorem ld_r0_3 (k n : Fin 64) : View.ld x3 r0_3 (ix4 0 0 k n) = x3 (ix4 0 0 k n) := congrArg x3 (funext (α := Fin 4) fun a => Fin.ext (by
  match a with
  | 0 => rfl
  | 1 => rfl
  | 2 => show 0 + 1 * k.val = k.val; omega
  | 3 => show 0 + 1 * n.val = n.val; omega))

theorem ld_r0_5 (k n : Fin 64) : View.ld x3 r0_5 (ix4 0 0 k n) = x3 (ix4 0 1 k n) := congrArg x3 (funext (α := Fin 4) fun a => Fin.ext (by
  match a with
  | 0 => rfl
  | 1 => rfl
  | 2 => show 0 + 1 * k.val = k.val; omega
  | 3 => show 0 + 1 * n.val = n.val; omega))

theorem ld_r0_4 (n : Fin 64) : View.ld x4 r0_4 (ix4 0 0 0 n) = x4 (ix4 0 0 0 n) := congrArg x4 (funext (α := Fin 4) fun a => Fin.ext (by
  match a with
  | 0 => rfl
  | 1 => rfl
  | 2 => rfl
  | 3 => show 0 + 1 * n.val = n.val; omega))

theorem ld_r0_6 (n : Fin 64) : View.ld x4 r0_6 (ix4 0 0 0 n) = x4 (ix4 0 1 0 n) := congrArg x4 (funext (α := Fin 4) fun a => Fin.ext (by
  match a with
  | 0 => rfl
  | 1 => rfl
  | 2 => rfl
  | 3 => show 0 + 1 * n.val = n.val; omega))

/-- The kernel's three layers, over the blocks it loads. -/
def rows : FVec Ideal S2048x64 .f32 :=
  inner (inner (k0_pay2 (View.ld x6 r0_0) (View.ld x0 r0_1) (View.ld x1 r0_2) (View.ld x2 r0_0)) (View.ld x3 r0_3) (View.ld x4 r0_4) (View.ld x6 r0_0))
    (View.ld x3 r0_5) (View.ld x4 r0_6) (View.ld x6 r0_0)

/-- A column's place, from its group of 512 and its place there. -/
def place (g : Fin 4) (e : Fin 512) : Fin 2048 := ⟨512 * g.val + e.val, by omega⟩

theorem channel_place (g : Fin 4) (e : Fin 512) : channel (place g e) = e := Fin.ext (by show (512 * g.val + e.val) % 512 = e.val; omega)

theorem direction_place (g : Fin 4) (e : Fin 512) : direction (place g e) = g.val % 2 := by show (512 * g.val + e.val) / 512 % 2 = g.val % 2; omega

theorem ld_r0_7 (k : Fin 64) (e : Fin 512) : View.ld x5 r0_7 (ix3 0 k e) = x5 (ix3 0 k (place 0 e)) := congrArg x5 (funext (α := Fin 3) fun a => Fin.ext (by
  match a with
  | 0 => rfl
  | 1 => show 0 + 1 * k.val = k.val; omega
  | 2 => show 0 + 1 * e.val = 512 * 0 + e.val; omega))

theorem ld_r0_10 (k : Fin 64) (e : Fin 512) : View.ld x5 r0_10 (ix3 0 k e) = x5 (ix3 0 k (place 1 e)) := congrArg x5 (funext (α := Fin 3) fun a => Fin.ext (by
  match a with
  | 0 => rfl
  | 1 => show 0 + 1 * k.val = k.val; omega
  | 2 => show 512 + 1 * e.val = 512 * 1 + e.val; omega))

theorem ld_r0_12 (k : Fin 64) (e : Fin 512) : View.ld x5 r0_12 (ix3 0 k e) = x5 (ix3 0 k (place 2 e)) := congrArg x5 (funext (α := Fin 3) fun a => Fin.ext (by
  match a with
  | 0 => rfl
  | 1 => show 0 + 1 * k.val = k.val; omega
  | 2 => show 1024 + 1 * e.val = 512 * 2 + e.val; omega))

theorem ld_r0_14 (k : Fin 64) (e : Fin 512) : View.ld x5 r0_14 (ix3 0 k e) = x5 (ix3 0 k (place 3 e)) := congrArg x5 (funext (α := Fin 3) fun a => Fin.ext (by
  match a with
  | 0 => rfl
  | 1 => show 0 + 1 * k.val = k.val; omega
  | 2 => show 1536 + 1 * e.val = 512 * 3 + e.val; omega))

/-- The four stores fill the block: what they agree with, they leave. -/
theorem tiles (p0 p1 p2 p3 : Vec Ideal S2048x512 .bf16) (G : S2048x2048.Idx → EReal)
    (h3 : ∀ (s : Fin 2048) (e : Fin 512), p0 (ix2 s e) = G (ix2 s (place 3 e))) (h2 : ∀ (s : Fin 2048) (e : Fin 512), p1 (ix2 s e) = G (ix2 s (place 2 e)))
    (h1 : ∀ (s : Fin 2048) (e : Fin 512), p2 (ix2 s e) = G (ix2 s (place 1 e))) (h0 : ∀ (s : Fin 2048) (e : Fin 512), p3 (ix2 s e) = G (ix2 s (place 0 e)))
    (y : S2048x2048.Idx) : View.canon (Val := Elt Ideal) [⟨r0_15, p0⟩, ⟨r0_13, p1⟩, ⟨r0_11, p2⟩, ⟨r0_9, p3⟩] y = G y := by
  have hx : ∀ x : S2048x512.Idx, x = ix2 (x 0 : Fin 2048) (x 1 : Fin 512) := fun x => funext (α := Fin 2) fun a => by
    match a with
    | 0 => rfl
    | 1 => rfl
  refine View.canon_apply_of_pieces (Val := Elt Ideal) G _ (List.forall_mem_cons.2 ⟨fun (x : S2048x512.Idx) => ?_, List.forall_mem_cons.2 ⟨fun (x : S2048x512.Idx) => ?_,
    List.forall_mem_cons.2 ⟨fun (x : S2048x512.Idx) => ?_, List.forall_mem_cons.2 ⟨fun (x : S2048x512.Idx) => ?_, fun _ h => absurd h List.not_mem_nil⟩⟩⟩⟩) y (cover0_8 p0 p1 p2 p3 y)
  · refine ((congrArg p0 (hx x)).trans (h3 (x 0) (x 1))).trans (congrArg G (funext (α := Fin 2) fun a => Fin.ext ?_))
    match a with
    | 0 => show (x 0).val = 0 + 1 * (x 0).val; omega
    | 1 => show 512 * 3 + (x 1).val = 1536 + 1 * (x 1).val; omega
  · refine ((congrArg p1 (hx x)).trans (h2 (x 0) (x 1))).trans (congrArg G (funext (α := Fin 2) fun a => Fin.ext ?_))
    match a with
    | 0 => show (x 0).val = 0 + 1 * (x 0).val; omega
    | 1 => show 512 * 2 + (x 1).val = 1024 + 1 * (x 1).val; omega
  · refine ((congrArg p2 (hx x)).trans (h1 (x 0) (x 1))).trans (congrArg G (funext (α := Fin 2) fun a => Fin.ext ?_))
    match a with
    | 0 => show (x 0).val = 0 + 1 * (x 0).val; omega
    | 1 => show 512 * 1 + (x 1).val = 512 + 1 * (x 1).val; omega
  · refine ((congrArg p3 (hx x)).trans (h0 (x 0) (x 1))).trans (congrArg G (funext (α := Fin 2) fun a => Fin.ext ?_))
    match a with
    | 0 => show (x 0).val = 0 + 1 * (x 0).val; omega
    | 1 => show 512 * 0 + (x 1).val = 0 + 1 * (x 1).val; omega

/-- The stores are the four groups of filters, forward and backward in turn. -/
theorem out_groups : out0_8 x0 x1 x2 x3 x4 x5 x6 x7 = View.canon (Val := Elt Ideal)
    [⟨r0_15, backward (rows x0 x1 x2 x3 x4 x6) (View.ld x5 r0_14) (View.ld x7 r0_8)⟩, ⟨r0_13, forward (rows x0 x1 x2 x3 x4 x6) (View.ld x5 r0_12) (View.ld x7 r0_8)⟩,
      ⟨r0_11, backward (rows x0 x1 x2 x3 x4 x6) (View.ld x5 r0_10) (View.ld x7 r0_8)⟩, ⟨r0_9, forward (rows x0 x1 x2 x3 x4 x6) (View.ld x5 r0_7) (View.ld x7 r0_8)⟩] := rfl

theorem layer_congr {d : Nat} {a a' : Fin d → EReal} {w w' : Fin d → Fin 64 → EReal} {b b' f : Fin 64 → EReal} {n : Fin 64} (ha : a = a') (hw : w = w') (hb : b = b') :
    layer a w b f n = layer a' w' b' f n := by
  rw [ha, hw, hb]

theorem rows_apply (s : Fin 2048) (n : Fin 64) (hz : ∀ k : Fin 33, x0 (ix2 s (⟨k.val, by omega⟩ : Fin 128)) ≠ ⊤)
    (hw : ∀ (k : Fin 33) (n : Fin 64), x1 (ix3 0 (⟨k.val, by omega⟩ : Fin 128) n) ≠ ⊤) (hw0 : ∀ (k : Fin 128) (n : Fin 64), 33 ≤ k.val → x1 (ix3 0 k n) = 0)
    (hi : ∀ (i : Fin 2) (k n : Fin 64), x3 (ix4 0 i k n) ≠ ⊤) :
    rows x0 x1 x2 x3 x4 x6 (ix2 s n) = hidden (fun k : Fin 33 => x0 (ix2 s (⟨k.val, by omega⟩ : Fin 128))) (fun k n => x1 (ix3 0 (⟨k.val, by omega⟩ : Fin 128) n))
      (fun n => x2 (ix3 0 0 n)) (fun i k n => x3 (ix4 0 i k n)) (fun i n => x4 (ix4 0 i 0 n)) (fun n => x6 (ix3 0 0 n)) n := by
  unfold rows
  rw [ld_r0_0 x6, ld_r0_0 x2, ld_r0_1, ld_r0_2]
  have h1 := fun n => first_apply x6 x0 x1 x2 s n hz (fun k => hw k n) fun k hk => hw0 k n hk
  generalize k0_pay2 x6 x0 x1 x2 = p at h1
  have h2 := fun n => (inner_apply p (View.ld x3 r0_3) (View.ld x4 r0_4) x6 s n (fun k => by rw [h1 k]; exact layer_ne_top _ _ _ _ _)
    fun k => by rw [ld_r0_3]; exact hi 0 k n).trans (layer_congr (funext h1) (funext fun k => funext fun n => ld_r0_3 x3 k n) (funext fun n => ld_r0_4 x4 n))
  generalize inner p (View.ld x3 r0_3) (View.ld x4 r0_4) x6 = q at h2
  exact (inner_apply q (View.ld x3 r0_5) (View.ld x4 r0_6) x6 s n (fun k => by rw [h2 k]; exact layer_ne_top _ _ _ _ _)
    fun k => by rw [ld_r0_5]; exact hi 1 k n).trans (layer_congr (funext h2) (funext fun k => funext fun n => ld_r0_5 x3 k n) (funext fun n => ld_r0_6 x4 n))

end Block

/-! ## The result -/

/-- The result, as the reference's function of the arguments. -/
def resultOf (c : Dev nD) : S2048x2048.Idx → EReal :=
  Reference7Ideal.Read.val_main_v64 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- What the arguments have to be: no feature and no weight plus infinity. -/
structure Bounded (c : Dev nD) : Prop where
  features : ∀ (s : Fin 2048) (k : Fin 33), m ((c : Thread nD τ).loc main_arg0) (ix2 s (⟨k.val, by omega⟩ : Fin 128)) ≠ (⊤ : EReal)
  weights : ∀ (k : Fin 33) (n : Fin 64), m ((c : Thread nD τ).loc main_arg2) (ix3 0 k n) ≠ (⊤ : EReal)
  inner : ∀ (i : Fin 2) (k n : Fin 64), m ((c : Thread nD τ).loc main_arg4) (ix4 0 i k n) ≠ (⊤ : EReal)
  outer : ∀ (k : Fin 64) (n : Fin 2048), m ((c : Thread nD τ).loc main_arg6) (ix3 0 k n) ≠ (⊤ : EReal)

/-- The three layers of the launch, -/
def blockRows (c : Dev nD) (t : Fin 1) : FVec Ideal S2048x64 .f32 :=
  rows (iblk m c 0 t) (iblk m c 1 t) (iblk m c 2 t) (iblk m c 3 t) (iblk m c 4 t) (iblk m c 6 t)

theorem blockRows_apply (c : Dev nD) (hb : Bounded m c) (t : Fin 1) (s : Fin 2048) (n : Fin 64) :
    blockRows m c t (ix2 s n) = hidden (fun k : Fin 33 => m ((c : Thread nD τ).loc main_arg0) (ix2 s (⟨k.val, by omega⟩ : Fin 128)))
      (fun k n => m ((c : Thread nD τ).loc main_arg2) (ix3 0 k n)) (fun n => m ((c : Thread nD τ).loc main_arg3) (ix2 0 n))
      (fun i k n => m ((c : Thread nD τ).loc main_arg4) (ix4 0 i k n)) (fun i n => m ((c : Thread nD τ).loc main_arg5) (ix3 0 i n))
      (fun n => m ((c : Thread nD τ).loc main_arg7) (ix2 0 n)) n := by
  have h := rows_apply (iblk m c 0 t) (iblk m c 1 t) (iblk m c 2 t) (iblk m c 3 t) (iblk m c 4 t) (iblk m c 6 t) s n
    (fun k => (iblk_features m c t s _).trans_ne (hb.features s k)) (fun k n => (iblk_weights m c t k n).trans_ne (hb.weights k n))
    (fun k n hk => iblk_padding m c t k hk n) fun i k n => (iblk_inner m c t i k n).trans_ne (hb.inner i k n)
  simp only [iblk_features m c t, iblk_weights m c t, iblk_bias m c t, iblk_inner m c t, iblk_inner_bias m c t, iblk_freq m c t] at h
  exact h

/-- and an entry of the result from them. -/
theorem result_place (c : Dev nD) (hb : Bounded m c) (t : Fin 1) (g : Fin 4) (s : Fin 2048) (e : Fin 512) :
    resultOf m c (ix2 s (place g e)) = entry s.val (g.val % 2) (fun k => blockRows m c t (ix2 s k))
      (fun k => m ((c : Thread nD τ).loc main_arg6) (ix3 0 k (place g e))) (m ((c : Thread nD τ).loc main_arg1) (ix2 s e)) := by
  have h := Reference7Ideal.Filter.v64_apply (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) s (place g e)
  rw [direction_place, channel_place] at h
  have hr := funext fun k => blockRows_apply m c hb t s k
  rw [hr]
  exact h

/-- A group of forward filters, -/
theorem forward_place (c : Dev nD) (hb : Bounded m c) (t : Fin 1) (g : Fin 4) (hg : g.val % 2 = 0) (w : Vec Ideal S1x64x512 .f32)
    (hw : ∀ (k : Fin 64) (e : Fin 512), w (ix3 0 k e) = (iblk m c 5 t : Vec Ideal S1x64x2048 .f32) (ix3 0 k (place g e))) (s : Fin 2048) (e : Fin 512) :
    forward (blockRows m c t) w (View.ld (iblk m c 7 t) r0_8) (ix2 s e) = resultOf m c (ix2 s (place g e)) := by
  have hw' : ∀ k : Fin 64, w (ix3 0 k e) = m ((c : Thread nD τ).loc main_arg6) (ix3 0 k (place g e)) := fun k => (hw k e).trans (iblk_outer m c t k _)
  have h := forward_apply (blockRows m c t) w (iblk m c 7 t) s e (fun k => (blockRows_apply m c hb t s k).trans_ne (layer_ne_top _ _ _ _ _))
    fun k => (hw' k).trans_ne (hb.outer k _)
  rw [ld_r0_8, h, result_place m c hb t, hg, funext hw']
  exact congrArg (entry s.val 0 _ _) (iblk_decay m c t s e)

/-- and one of backward filters. -/
theorem backward_place (c : Dev nD) (hb : Bounded m c) (t : Fin 1) (g : Fin 4) (hg : g.val % 2 = 1) (w : Vec Ideal S1x64x512 .f32)
    (hw : ∀ (k : Fin 64) (e : Fin 512), w (ix3 0 k e) = (iblk m c 5 t : Vec Ideal S1x64x2048 .f32) (ix3 0 k (place g e))) (s : Fin 2048) (e : Fin 512) :
    backward (blockRows m c t) w (View.ld (iblk m c 7 t) r0_8) (ix2 s e) = resultOf m c (ix2 s (place g e)) := by
  have hw' : ∀ k : Fin 64, w (ix3 0 k e) = m ((c : Thread nD τ).loc main_arg6) (ix3 0 k (place g e)) := fun k => (hw k e).trans (iblk_outer m c t k _)
  have h := backward_apply (blockRows m c t) w (iblk m c 7 t) s e (fun k => (blockRows_apply m c hb t s k).trans_ne (layer_ne_top _ _ _ _ _))
    fun k => (hw' k).trans_ne (hb.outer k _)
  rw [ld_r0_8, h, result_place m c hb t, hg, funext hw']
  exact congrArg (entry s.val 1 _ _) (iblk_decay m c t s e)

theorem block_apply (c : Dev nD) (hb : Bounded m c) (t : Fin 1) (y : S2048x2048.Idx) :
    out0_8 (iblk m c 0 t) (iblk m c 1 t) (iblk m c 2 t) (iblk m c 3 t) (iblk m c 4 t) (iblk m c 5 t) (iblk m c 6 t) (iblk m c 7 t) y = resultOf m c y :=
  (congrFun (out_groups (iblk m c 0 t) (iblk m c 1 t) (iblk m c 2 t) (iblk m c 3 t) (iblk m c 4 t) (iblk m c 5 t) (iblk m c 6 t) (iblk m c 7 t)) y).trans
    (tiles _ _ _ _ (resultOf m c) (backward_place m c hb t 3 rfl _ (ld_r0_14 (iblk m c 5 t))) (forward_place m c hb t 2 rfl _ (ld_r0_12 (iblk m c 5 t)))
      (backward_place m c hb t 1 rfl _ (ld_r0_10 (iblk m c 5 t))) (forward_place m c hb t 0 rfl _ (ld_r0_7 (iblk m c 5 t))) y)

/-- The one block is the whole result. -/
theorem emb_result (t : Fin 1) (y : S2048x2048.Idx) : ((cfg0.win 8).blk t).view.emb y = y := by
  refine funext (α := Fin 2) fun a => Fin.ext ?_
  match a with
  | 0 => show 0 * 2048 + 1 * (y 0).val = (y 0).val; omega
  | 1 => show 0 * 2048 + 1 * (y 1).val = (y 1).val; omega

/-- The result's array after the run. -/
theorem array_result (c : Dev nD) (hb : Bounded m c) : (dats m 0 c).arrAt 8 cfg0.N = resultOf m c := by
  refine (dats m 0 c).arrAt_eq_of_emb 8 (resultOf m c) (fun (t : Fin 1) _ (y : S2048x2048.Idx) => ?_) fun (i : S2048x2048.Idx) => ⟨(0 : Fin 1), flush0_8 _, ?_⟩
  · have h := (block_apply m c hb t y).trans (congrArg (resultOf m c) (emb_result t y).symm)
    exact (congrFun (after0_8 m c t) y).trans h
  · exact (congrArg (· ∈ ((cfg0.win 8).blk (0 : Fin 1)).view.set) (emb_result 0 i).symm).mpr (Finset.mem_map_of_mem _ (Finset.mem_univ _))

end Cert.Kernel7Ideal.Filter

end
-- ==== Proof.FilterClaims.lean ====
/- The long filters' claims: both readings of the kernel and the reference run and leave their arguments as they were, and
   kernel and reference end with equal results over the extended reals. -/
module

public import proofs.«01_k».proof.Defs
public import proofs.«01_k».proof.Proof.Gen.Kernel7.Frame
public import proofs.«01_k».proof.Proof.FilterIdealValue
public import proofs.«01_k».proof.Proof.Gen.Reference7Ideal.Run
public import Idealize.ShloMosaic.Lib.Quiescent

@[expose] public section

noncomputable section

namespace Cert.Proof.Filter

open Idealize.ShloMosaic Idealize.ShloMosaic.TcCoe Idealize.ShloMosaic.Tactic Idealize.SL.Sem

theorem frame_bits : Cert.quiescent_Kernel7 := fun m ρ _ => Kernel7.Gen.frame m ρ

theorem frame_ideal : Cert.quiescent_Kernel7Ideal := fun m ρ _ => Kernel7Ideal.Gen.frame m ρ

/-- The reference has no counters to leave raised. -/
theorem frame_reference : Cert.quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem frame_ideal_pre : Cert.quiescent_Kernel7Ideal_pre_no_infinite_factor := fun m ρ _ => frame_ideal m ρ trivial

theorem frame_reference_pre : Cert.quiescent_Reference7Ideal_pre_no_infinite_factor := fun m ρ _ => frame_reference m ρ trivial

/-- The precondition, decoded. -/
theorem bounded_of_pre (m : (ℓ : Loc Kernel7Ideal.nD Kernel7Ideal.τ Kernel7Ideal.sig) → Buf (Elt Ideal) ℓ) (h : Cert.Pre_Kernel7Ideal_no_infinite_factor m)
    (c : Dev Kernel7Ideal.nD) : Kernel7Ideal.Filter.Bounded m c :=
  ⟨fun s k => Cert.Filter.features_of_pre _ _ _ _ _ _ _ _ (h c).1 s k, fun k n => Cert.Filter.weights_of_pre _ _ _ _ _ _ _ _ (h c).2.1 k n,
    fun i k n => Cert.Filter.inner_of_pre _ _ _ _ _ _ _ _ (h c).2.2.1 i k n, fun k n => Cert.Filter.outer_of_pre _ _ _ _ _ _ _ _ (h c).2.2.2 k n⟩

theorem algebraic : Cert.algebraic_Kernel7Ideal_Reference7Ideal_pre_no_infinite_factor := fun m ρ m' ρ' hpre hagree => by
  refine ⟨fun c => Kernel7Ideal.Filter.resultOf m c,
    (θ_run Kernel7Ideal.defs _ _).mono (fun r h c => ⟨(h c).1.trans (Kernel7Ideal.Filter.array_result m c (bounded_of_pre m hpre c)), (h c).2⟩) (Kernel7Ideal.Value.run_blocks m ρ),
    (θ_run Reference7Ideal.defs _ _).mono (fun r h c => ⟨(h c).1.trans ?_, (h c).2⟩) (Reference7Ideal.Value.run (F := Ideal) m' ρ')⟩
  obtain ⟨h0, h1, h2, h3, h4, h5, h6, h7⟩ := hagree c
  refine (Reference7Ideal.Read.val_main_v64_eq _ _ _ _ _ _ _ _).trans ?_
  rw [h0, h1, h2, h3, h4, h5, h6, h7]
  rfl

end Cert.Proof.Filter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_in_range
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_below_infinity
public import proofs.«01_k».proof.Proof.Gen.Pre_no_infinite_factor
public import proofs.«01_k».proof.Proof.FfnClaims
public import proofs.«01_k».proof.Proof.ProjClaims
public import proofs.«01_k».proof.Proof.DilClaims
public import proofs.«01_k».proof.Proof.MergeClaims
public import proofs.«01_k».proof.Proof.PoolClaims
public import proofs.«01_k».proof.Proof.AdaClaims
public import proofs.«01_k».proof.Proof.FilterClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_experts_in_range.Gen.facts, Cert.Pre_below_infinity.Gen.facts, Cert.Pre_no_infinite_factor.Gen.facts,
  Ffn.frame_bits, Ffn.frame_ideal, Ffn.frame_reference, Proj.frame_bits, Proj.frame_ideal, Proj.frame_reference,
  Dil.frame_bits, Dil.frame_ideal, Dil.frame_reference, Merge.frame_bits, Merge.frame_ideal, Merge.frame_reference,
  Pool.frame_bits, Pool.frame_ideal, Pool.frame_reference,
  Ada.frame_bits, Ada.frame_ideal, Ada.frame_ideal_pre, Ada.frame_reference, Ada.frame_reference_pre,
  Filter.frame_bits, Filter.frame_ideal, Filter.frame_ideal_pre, Filter.frame_reference, Filter.frame_reference_pre,
  trivial, Ffn.algebraic, trivial, Proj.algebraic, trivial, Dil.algebraic, trivial, Merge.algebraic,
  trivial, Pool.algebraic, trivial, Ada.algebraic, trivial, Filter.algebraic⟩

end Cert.Proof

end
